-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_contiguous [hPre_contiguous : Cert.Pre_contiguous.Facts] (m : (ℓ : Loc Cert.KernelIdeal.nD Cert.KernelIdeal.τ Cert.KernelIdeal.sig) → Buf (Elt Ideal) ℓ) : Prop :=
  ∀ c : Dev Cert.KernelIdeal.nD,
    (Cert.Pre_contiguous.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_contiguous [hPre_contiguous : Cert.Pre_contiguous.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_contiguous.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_contiguous [hKernelIdeal : Cert.KernelIdeal.Facts] [hPre_contiguous : Cert.Pre_contiguous.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_contiguous m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_contiguous [hReferenceIdeal : Cert.ReferenceIdeal.Facts] [hPre_contiguous : Cert.Pre_contiguous.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_contiguous m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  IdealRules.named_const.Statement Cert.KernelIdeal.κ "mask" .f32 0xFF61B1E6#32 ⊥
  ∧ IdealRules.named_const.Statement Cert.KernelIdeal.κ "score_log2e" .f32 0x3E38AA3B#32 (((8 * (Real.log 2))⁻¹ : ℝ) : EReal)

def algebraic_KernelIdeal_ReferenceIdeal_pre_contiguous [hKernelIdeal : Cert.KernelIdeal.Facts] [hReferenceIdeal : Cert.ReferenceIdeal.Facts] [hPre_contiguous : Cert.Pre_contiguous.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_contiguous m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v48) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_contiguous : Cert.Pre_contiguous.Facts),
    quiescent_Kernel (hKernel := hKernel)
    ∧ quiescent_KernelIdeal (hKernelIdeal := hKernelIdeal)
    ∧ quiescent_KernelIdeal_pre_contiguous (hKernelIdeal := hKernelIdeal) (hPre_contiguous := hPre_contiguous)
    ∧ quiescent_ReferenceIdeal (hReferenceIdeal := hReferenceIdeal)
    ∧ quiescent_ReferenceIdeal_pre_contiguous (hReferenceIdeal := hReferenceIdeal) (hPre_contiguous := hPre_contiguous)
    ∧ preserves_Kernel_KernelIdeal
    ∧ algebraic_KernelIdeal_ReferenceIdeal_pre_contiguous (hKernelIdeal := hKernelIdeal) (hReferenceIdeal := hReferenceIdeal) (hPre_contiguous := hPre_contiguous)
-- ==== Pre_contiguous.lean ====
abbrev S8x2048x1024 : Shape := ⟨3, ![8, 2048, 1024]⟩
abbrev S8x2048x256 : Shape := ⟨3, ![8, 2048, 256]⟩
abbrev S16 : Shape := ⟨1, ![16]⟩
abbrev S4 : Shape := ⟨1, ![4]⟩
abbrev S8x2048 : Shape := ⟨2, ![8, 2048]⟩
abbrev S8x2047 : Shape := ⟨2, ![8, 2047]⟩
abbrev S_ : Shape := ⟨0, ![]⟩

class Facts : Prop where
  slices_S8x2048_S8x2047_0_0 : S8x2048.Slices ![0, 0] S8x2047
  slices_S8x2048_S8x2047_0_1 : S8x2048.Slices ![0, 1] S8x2047
  reducesTo_S8x2047_S_d0_1 : S8x2047.ReducesTo [0, 1] S_
  h_S_ : 0 < S_.numel

variable [Facts]

def fn {F : FTy → Type} [FloatOps F] (main_arg0 : FVec F S8x2048x1024 .fp8e4m3) (main_arg1 : FVec F S8x2048x256 .fp8e4m3) (main_arg2 : FVec F S8x2048x256 .fp8e4m3) (main_arg3 : FVec F S16 .f32) (main_arg4 : FVec F S4 .f32) (main_arg5 : FVec F S4 .f32) (main_arg6 : IVec S8x2048 32) : IVec S_ 1 :=
  let main_v0 : IVec S8x2047 32 := (extractStridedSlice S8x2047 ![0, 0] · slices_S8x2048_S8x2047_0_0) main_arg6
  let main_v1 : IVec S8x2047 32 := (extractStridedSlice S8x2047 ![0, 1] · slices_S8x2048_S8x2047_0_1) main_arg6
  let main_v2 : IVec S8x2047 1 := cmpi .sle main_v0 main_v1
  let main_c : IVec S_ 1 := constantI S_ 1 1#1
  let main_v3 : IVec S_ 1 := (fun x v => Host.reduce IntOp.andi x v reducesTo_S8x2047_S_d0_1 h_S_) main_v2 main_c
  main_v3
-- ==== Kernel.lean ====
abbrev S8x2048x1024 : Shape := ⟨3, ![8, 2048, 1024]⟩
abbrev S8x2048x256 : Shape := ⟨3, ![8, 2048, 256]⟩
abbrev S16 : Shape := ⟨1, ![16]⟩
abbrev S4 : Shape := ⟨1, ![4]⟩
abbrev S8x2048 : Shape := ⟨2, ![8, 2048]⟩
abbrev S1x2048x1024 : Shape := ⟨3, ![1, 2048, 1024]⟩
abbrev S1x2048x256 : Shape := ⟨3, ![1, 2048, 256]⟩
abbrev S16x8x128 : Shape := ⟨3, ![16, 8, 128]⟩
abbrev S4x16x256x128 : Shape := ⟨4, ![4, 16, 256, 128]⟩
abbrev S16x256x128 : Shape := ⟨3, ![16, 256, 128]⟩
abbrev S8x8x256 : Shape := ⟨3, ![8, 8, 256]⟩
abbrev S8x64x256 : Shape := ⟨3, ![8, 64, 256]⟩
abbrev S_ : Shape := ⟨0, ![]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S1x1x128x128 : Shape := ⟨4, ![1, 1, 128, 128]⟩
abbrev S1x1x128 : Shape := ⟨3, ![1, 1, 128]⟩
abbrev S1x128 : Shape := ⟨2, ![1, 128]⟩
abbrev S1x1x1 : Shape := ⟨3, ![1, 1, 1]⟩
abbrev S256x128 : Shape := ⟨2, ![256, 128]⟩
abbrev S1x1x256x128 : Shape := ⟨4, ![1, 1, 256, 128]⟩
abbrev S256x256 : Shape := ⟨2, ![256, 256]⟩
abbrev S1x64x128 : Shape := ⟨3, ![1, 64, 128]⟩
abbrev S64x128 : Shape := ⟨2, ![64, 128]⟩
abbrev S1 : Shape := ⟨1, ![1]⟩
abbrev S128x256 : Shape := ⟨2, ![128, 256]⟩
abbrev S1x8x256 : Shape := ⟨3, ![1, 8, 256]⟩
abbrev S8x256 : Shape := ⟨2, ![8, 256]⟩
abbrev S256 : Shape := ⟨1, ![256]⟩
abbrev S1x256 : Shape := ⟨2, ![1, 256]⟩
abbrev S16x8x256 : Shape := ⟨3, ![16, 8, 256]⟩
abbrev S64x256 : Shape := ⟨2, ![64, 256]⟩
abbrev S1x64x256 : Shape := ⟨3, ![1, 64, 256]⟩

abbrev nBuf : Space → Nat
  | .hbm => 8
  | .vmem => 15
  | .smem => 4
  | _ => 0

abbrev bufTy : (tb : Table) → Fin (tcTables nBuf tb) → BufTy
  | .hbm, ⟨0, _⟩ => ⟨S8x2048x1024, .fp8e4m3⟩
  | .hbm, ⟨1, _⟩ => ⟨S8x2048x256, .fp8e4m3⟩
  | .hbm, ⟨2, _⟩ => ⟨S8x2048x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S8x2048, .i32⟩
  | .hbm, ⟨7, _⟩ => ⟨S8x2048x1024, .bf16⟩
  | .local _ .vmem, ⟨0, _⟩ => ⟨S8x2048, .i32⟩
  | .local _ .vmem, ⟨1, _⟩ => ⟨S1x2048x1024, .fp8e4m3⟩
  | .local _ .vmem, ⟨2, _⟩ => ⟨S1x2048x1024, .fp8e4m3⟩
  | .local _ .vmem, ⟨3, _⟩ => ⟨S1x2048x256, .fp8e4m3⟩
  | .local _ .vmem, ⟨4, _⟩ => ⟨S1x2048x256, .fp8e4m3⟩
  | .local _ .vmem, ⟨5, _⟩ => ⟨S1x2048x256, .fp8e4m3⟩
  | .local _ .vmem, ⟨6, _⟩ => ⟨S1x2048x256, .fp8e4m3⟩
  | .local _ .vmem, ⟨7, _⟩ => ⟨S1x2048x1024, .bf16⟩
  | .local _ .vmem, ⟨8, _⟩ => ⟨S1x2048x1024, .bf16⟩
  | .local _ .vmem, ⟨9, _⟩ => ⟨S16x8x128, .i32⟩
  | .local _ .vmem, ⟨10, _⟩ => ⟨S4x16x256x128, .fp8e4m3⟩
  | .local _ .vmem, ⟨11, _⟩ => ⟨S16x256x128, .bf16⟩
  | .local _ .vmem, ⟨12, _⟩ => ⟨S8x8x256, .f32⟩
  | .local _ .vmem, ⟨13, _⟩ => ⟨S8x8x256, .f32⟩
  | .local _ .vmem, ⟨14, _⟩ => ⟨S8x64x256, .f32⟩
  | .local _ .smem, ⟨0, _⟩ => ⟨S16, .f32⟩
  | .local _ .smem, ⟨1, _⟩ => ⟨S4, .f32⟩
  | .local _ .smem, ⟨2, _⟩ => ⟨S4, .f32⟩
  | .local _ .smem, ⟨3, _⟩ => ⟨S16x8x128, .i32⟩
  | _, _ => ⟨S8x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev cc0_stg3_0 : Ref sig .tc := ⟨.vmem, 0, rfl⟩
abbrev cc0_stg4_0 : Ref sig .tc := ⟨.vmem, 1, rfl⟩
abbrev cc0_stg4_1 : Ref sig .tc := ⟨.vmem, 2, rfl⟩
abbrev cc0_stg5_0 : Ref sig .tc := ⟨.vmem, 3, rfl⟩
abbrev cc0_stg5_1 : Ref sig .tc := ⟨.vmem, 4, rfl⟩
abbrev cc0_stg6_0 : Ref sig .tc := ⟨.vmem, 5, rfl⟩
abbrev cc0_stg6_1 : Ref sig .tc := ⟨.vmem, 6, rfl⟩
abbrev cc0_stg7_0 : Ref sig .tc := ⟨.vmem, 7, rfl⟩
abbrev cc0_stg7_1 : Ref sig .tc := ⟨.vmem, 8, rfl⟩
abbrev cc0_scratch0 : Ref sig .tc := ⟨.vmem, 9, rfl⟩
abbrev cc0_scratch2 : Ref sig .tc := ⟨.vmem, 10, rfl⟩
abbrev cc0_scratch3 : Ref sig .tc := ⟨.vmem, 11, rfl⟩
abbrev cc0_scratch4 : Ref sig .tc := ⟨.vmem, 12, rfl⟩
abbrev cc0_scratch5 : Ref sig .tc := ⟨.vmem, 13, rfl⟩
abbrev cc0_scratch6 : Ref sig .tc := ⟨.vmem, 14, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_scratch1 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c16_i32 : BitVec 32 := 16#32
  let v3 : BitVec 32 := Scalar.addi c0_i32_1 c16_i32
  let c1_i32 : BitVec 32 := 1#32
  ⟨c0_i32_1, v3, c1_i32⟩
def k0_mult1 (k0_t1 : Fin k0_t1_loop.trips) : BitVec 32 :=
  let c0_i32_1 : BitVec 32 := 0#32
  let c1_i32 : BitVec 32 := 1#32
  let arg17 : BitVec 32 := Scf.iv c0_i32_1 c1_i32 k0_t1
  let c128_i32 : BitVec 32 := 128#32
  let v5 : BitVec 32 := Scalar.muli arg17 c128_i32
  v5
def k0_off1 (k0_t1 : Fin k0_t1_loop.trips) : Fin 3 → Nat :=
  let c0 : Index := 0#32
  let c0_i32_1 : BitVec 32 := 0#32
  let c1_i32 : BitVec 32 := 1#32
  let arg17 : BitVec 32 := Scf.iv c0_i32_1 c1_i32 k0_t1
  let c128_i32 : BitVec 32 := 128#32
  let v5 : BitVec 32 := Scalar.muli arg17 c128_i32
  let v6 : BitVec 32 := v5
  let v7 : Index := Scalar.indexCast v6
  let c0_7 : Index := 0#32
  ![0, v7.toNat, 0]
def k0_off2 (k0_t1 : Fin k0_t1_loop.trips) : Fin 4 → Nat :=
  let c0_9 : Index := 0#32
  let c0_i32_1 : BitVec 32 := 0#32
  let c1_i32 : BitVec 32 := 1#32
  let arg17 : BitVec 32 := Scf.iv c0_i32_1 c1_i32 k0_t1
  let v18 : Index := Scalar.indexCast arg17
  let c0_10 : Index := 0#32
  let c0_11 : Index := 0#32
  ![0, v18.toNat, 0, 0]
def k0_off3 (k0_t1 : Fin k0_t1_loop.trips) : Fin 4 → Nat :=
  let c0_12 : Index := 0#32
  let c0_i32_1 : BitVec 32 := 0#32
  let c1_i32 : BitVec 32 := 1#32
  let arg17 : BitVec 32 := Scf.iv c0_i32_1 c1_i32 k0_t1
  let v23 : Index := Scalar.indexCast arg17
  let c128 : Index := 128#32
  let c0_13 : Index := 0#32
  ![0, v23.toNat, 128, 0]
def k0_off4 (k0_t1 : Fin k0_t1_loop.trips) : Fin 4 → Nat :=
  let c1 : Index := 1#32
  let c0_i32_1 : BitVec 32 := 0#32
  let c1_i32 : BitVec 32 := 1#32
  let arg17 : BitVec 32 := Scf.iv c0_i32_1 c1_i32 k0_t1
  let v38 : Index := Scalar.indexCast arg17
  let c0_19 : Index := 0#32
  let c0_20 : Index := 0#32
  ![1, v38.toNat, 0, 0]
def k0_off5 (k0_t1 : Fin k0_t1_loop.trips) : Fin 4 → Nat :=
  let c1_21 : Index := 1#32
  let c0_i32_1 : BitVec 32 := 0#32
  let c1_i32 : BitVec 32 := 1#32
  let arg17 : BitVec 32 := Scf.iv c0_i32_1 c1_i32 k0_t1
  let v43 : Index := Scalar.indexCast arg17
  let c128_22 : Index := 128#32
  let c0_23 : Index := 0#32
  ![1, v43.toNat, 128, 0]
def k0_off6 (k0_t1 : Fin k0_t1_loop.trips) : Fin 3 → Nat :=
  let c0_24 : Index := 0#32
  let c0_i32_1 : BitVec 32 := 0#32
  let c1_i32 : BitVec 32 := 1#32
  let arg17 : BitVec 32 := Scf.iv c0_i32_1 c1_i32 k0_t1
  let c128_i32 : BitVec 32 := 128#32
  let v5 : BitVec 32 := Scalar.muli arg17 c128_i32
  let v6 : BitVec 32 := v5
  let v47 : Index := Scalar.indexCast v6
  let c128_25 : Index := 128#32
  ![0, v47.toNat, 128]
def k0_off7 (k0_t1 : Fin k0_t1_loop.trips) : Fin 4 → Nat :=
  let c2 : Index := 2#32
  let c0_i32_1 : BitVec 32 := 0#32
  let c1_i32 : BitVec 32 := 1#32
  let arg17 : BitVec 32 := Scf.iv c0_i32_1 c1_i32 k0_t1
  let v58 : Index := Scalar.indexCast arg17
  let c0_29 : Index := 0#32
  let c0_30 : Index := 0#32
  ![2, v58.toNat, 0, 0]
def k0_off8 (k0_t1 : Fin k0_t1_loop.trips) : Fin 4 → Nat :=
  let c2_31 : Index := 2#32
  let c0_i32_1 : BitVec 32 := 0#32
  let c1_i32 : BitVec 32 := 1#32
  let arg17 : BitVec 32 := Scf.iv c0_i32_1 c1_i32 k0_t1
  let v63 : Index := Scalar.indexCast arg17
  let c128_32 : Index := 128#32
  let c0_33 : Index := 0#32
  ![2, v63.toNat, 128, 0]
def k0_off9 (k0_t1 : Fin k0_t1_loop.trips) : Fin 4 → Nat :=
  let c3 : Index := 3#32
  let c0_i32_1 : BitVec 32 := 0#32
  let c1_i32 : BitVec 32 := 1#32
  let arg17 : BitVec 32 := Scf.iv c0_i32_1 c1_i32 k0_t1
  let v78 : Index := Scalar.indexCast arg17
  let c0_39 : Index := 0#32
  let c0_40 : Index := 0#32
  ![3, v78.toNat, 0, 0]
def k0_off10 (k0_t1 : Fin k0_t1_loop.trips) : Fin 4 → Nat :=
  let c3_41 : Index := 3#32
  let c0_i32_1 : BitVec 32 := 0#32
  let c1_i32 : BitVec 32 := 1#32
  let arg17 : BitVec 32 := Scf.iv c0_i32_1 c1_i32 k0_t1
  let v83 : Index := Scalar.indexCast arg17
  let c128_42 : Index := 128#32
  let c0_43 : Index := 0#32
  ![3, v83.toNat, 128, 0]
def k0_off11 (k0_t1 : Fin k0_t1_loop.trips) : Fin 3 → Nat :=
  let c0_i32_1 : BitVec 32 := 0#32
  let c1_i32 : BitVec 32 := 1#32
  let arg17 : BitVec 32 := Scf.iv c0_i32_1 c1_i32 k0_t1
  let v93 : Index := Scalar.indexCast arg17
  let c0_46 : Index := 0#32
  let c0_47 : Index := 0#32
  ![v93.toNat, 0, 0]
def k0_off12 (k0_t1 : Fin k0_t1_loop.trips) : Fin 3 → Nat :=
  let c0_i32_1 : BitVec 32 := 0#32
  let c1_i32 : BitVec 32 := 1#32
  let arg17 : BitVec 32 := Scf.iv c0_i32_1 c1_i32 k0_t1
  let v103 : Index := Scalar.indexCast arg17
  let c128_50 : Index := 128#32
  let c0_51 : Index := 0#32
  ![v103.toNat, 128, 0]
@[reducible] def k0_t2_loop : Scf.Loop 32 :=
  let c0_i32_3 : BitVec 32 := 0#32
  let c16_i32_4 : BitVec 32 := 16#32
  let v4 : BitVec 32 := Scalar.addi c0_i32_3 c16_i32_4
  let c1_i32_5 : BitVec 32 := 1#32
  ⟨c0_i32_3, v4, c1_i32_5⟩
def k0_mult2 (k0_t2 : Fin k0_t2_loop.trips) : BitVec 32 :=
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  v5
def k0_off13 (i : grid0.Coords) (k0_t2 : Fin k0_t2_loop.trips) : Fin 3 → Nat :=
  let c0_i32_3 : BitVec 32 := 0#32
  let c1_i32_5 : BitVec 32 := 1#32
  let arg17 : BitVec 32 := Scf.iv c0_i32_3 c1_i32_5 k0_t2
  let v7 : Index := Scalar.indexCast arg17
  let arg0 : BitVec 32 := BitVec.ofNat 32 (i 0).val
  let v8 : Index := Scalar.indexCast arg0
  let c0 : Index := 0#32
  ![v7.toNat, v8.toNat, 0]
def k0_off14 (i : grid0.Coords) (k0_t2 : Fin k0_t2_loop.trips) : Fin 3 → Nat :=
  let c0_i32_3 : BitVec 32 := 0#32
  let c1_i32_5 : BitVec 32 := 1#32
  let arg17 : BitVec 32 := Scf.iv c0_i32_3 c1_i32_5 k0_t2
  let v26 : Index := Scalar.indexCast arg17
  let arg0 : BitVec 32 := BitVec.ofNat 32 (i 0).val
  let v27 : Index := Scalar.indexCast arg0
  let c0_18 : Index := 0#32
  ![v26.toNat, v27.toNat, 0]
@[reducible] def k0_t3_loop (k0_t2 : Fin k0_t2_loop.trips) (v28 : BitVec 32) : Scf.Loop 32 :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_29 : BitVec 32 := 1#32
  ⟨v45, v51, c1_i32_29⟩

def k0_off15 (k0_t2 : Fin k0_t2_loop.trips) : Fin 3 → Nat :=
  let c0_122 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v255 : Index := Scalar.indexCast v6
  let c0_123 : Index := 0#32
  ![0, v255.toNat, 0]
def k0_off16 (k0_t2 : Fin k0_t2_loop.trips) : Fin 3 → Nat :=
  let c0_124 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v258 : Index := Scalar.indexCast v6
  let c128_125 : Index := 128#32
  ![0, v258.toNat, 128]
def k0_off17 (k0_t2 : Fin k0_t2_loop.trips) (v28 : BitVec 32) (k0_t3 : Fin (k0_t3_loop k0_t2 v28).trips) : Fin 4 → Nat :=
  let c0_126 : Index := 0#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v262 : Index := Scalar.indexCast arg18
  let c0_127 : Index := 0#32
  let c0_128 : Index := 0#32
  ![0, v262.toNat, 0, 0]
def k0_off18 (k0_t2 : Fin k0_t2_loop.trips) (v28 : BitVec 32) (k0_t3 : Fin (k0_t3_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v266 : Index := Scalar.indexCast arg18
  let c0_130 : Index := 0#32
  let c0_131 : Index := 0#32
  ![v266.toNat, 0, 0]
def k0_off19 (k0_t2 : Fin k0_t2_loop.trips) : Fin 3 → Nat :=
  let c0_190 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v377 : Index := Scalar.indexCast v6
  let c256_191 : Index := 256#32
  ![0, v377.toNat, 256]
def k0_off20 (k0_t2 : Fin k0_t2_loop.trips) : Fin 3 → Nat :=
  let c0_192 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v380 : Index := Scalar.indexCast v6
  let c384_193 : Index := 384#32
  ![0, v380.toNat, 384]
def k0_off21 (k0_t2 : Fin k0_t2_loop.trips) (v28 : BitVec 32) (k0_t3 : Fin (k0_t3_loop k0_t2 v28).trips) : Fin 4 → Nat :=
  let c1_194 : Index := 1#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v384 : Index := Scalar.indexCast arg18
  let c0_195 : Index := 0#32
  let c0_196 : Index := 0#32
  ![1, v384.toNat, 0, 0]
def k0_off22 (k0_t2 : Fin k0_t2_loop.trips) (v28 : BitVec 32) (k0_t3 : Fin (k0_t3_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v388 : Index := Scalar.indexCast arg18
  let c64 : Index := 64#32
  let c0_198 : Index := 0#32
  ![v388.toNat, 64, 0]
def k0_off23 (k0_t2 : Fin k0_t2_loop.trips) : Fin 3 → Nat :=
  let c0_257 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v499 : Index := Scalar.indexCast v6
  let c512_258 : Index := 512#32
  ![0, v499.toNat, 512]
def k0_off24 (k0_t2 : Fin k0_t2_loop.trips) : Fin 3 → Nat :=
  let c0_259 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v502 : Index := Scalar.indexCast v6
  let c640_260 : Index := 640#32
  ![0, v502.toNat, 640]
def k0_off25 (k0_t2 : Fin k0_t2_loop.trips) (v28 : BitVec 32) (k0_t3 : Fin (k0_t3_loop k0_t2 v28).trips) : Fin 4 → Nat :=
  let c2_261 : Index := 2#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v506 : Index := Scalar.indexCast arg18
  let c0_262 : Index := 0#32
  let c0_263 : Index := 0#32
  ![2, v506.toNat, 0, 0]
def k0_off26 (k0_t2 : Fin k0_t2_loop.trips) (v28 : BitVec 32) (k0_t3 : Fin (k0_t3_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v510 : Index := Scalar.indexCast arg18
  let c128_265 : Index := 128#32
  let c0_266 : Index := 0#32
  ![v510.toNat, 128, 0]
def k0_off27 (k0_t2 : Fin k0_t2_loop.trips) : Fin 3 → Nat :=
  let c0_321 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v621 : Index := Scalar.indexCast v6
  let c768_322 : Index := 768#32
  ![0, v621.toNat, 768]
def k0_off28 (k0_t2 : Fin k0_t2_loop.trips) : Fin 3 → Nat :=
  let c0_323 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v624 : Index := Scalar.indexCast v6
  let c896_324 : Index := 896#32
  ![0, v624.toNat, 896]
def k0_off29 (k0_t2 : Fin k0_t2_loop.trips) (v28 : BitVec 32) (k0_t3 : Fin (k0_t3_loop k0_t2 v28).trips) : Fin 4 → Nat :=
  let c3_325 : Index := 3#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v628 : Index := Scalar.indexCast arg18
  let c0_326 : Index := 0#32
  let c0_327 : Index := 0#32
  ![3, v628.toNat, 0, 0]
def k0_off30 (k0_t2 : Fin k0_t2_loop.trips) (v28 : BitVec 32) (k0_t3 : Fin (k0_t3_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c1_i32_29 : BitVec 32 := 1#32
  let arg18 : BitVec 32 := Scf.iv v45 c1_i32_29 k0_t3
  let v632 : Index := Scalar.indexCast arg18
  let c192 : Index := 192#32
  let c0_329 : Index := 0#32
  ![v632.toNat, 192, 0]
@[reducible] def k0_t4_loop (k0_t2 : Fin k0_t2_loop.trips) (v28 : BitVec 32) : Scf.Loop 32 :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let v48 : BitVec 32 := Scalar.addi v45 v47
  let c1_i32_30 : BitVec 32 := 1#32
  ⟨v51, v48, c1_i32_30⟩
def k0_off31 (k0_t2 : Fin k0_t2_loop.trips) : Fin 3 → Nat :=
  let c0_122 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v255 : Index := Scalar.indexCast v6
  let c0_123 : Index := 0#32
  ![0, v255.toNat, 0]
def k0_off32 (k0_t2 : Fin k0_t2_loop.trips) : Fin 3 → Nat :=
  let c0_124 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v258 : Index := Scalar.indexCast v6
  let c128_125 : Index := 128#32
  ![0, v258.toNat, 128]
def k0_off33 (k0_t2 : Fin k0_t2_loop.trips) (v28 : BitVec 32) (k0_t4 : Fin (k0_t4_loop k0_t2 v28).trips) : Fin 4 → Nat :=
  let c0_126 : Index := 0#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v262 : Index := Scalar.indexCast arg18
  let c0_127 : Index := 0#32
  let c0_128 : Index := 0#32
  ![0, v262.toNat, 0, 0]
def k0_off34 (k0_t2 : Fin k0_t2_loop.trips) (v28 : BitVec 32) (k0_t4 : Fin (k0_t4_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v266 : Index := Scalar.indexCast arg18
  let c0_130 : Index := 0#32
  let c0_131 : Index := 0#32
  ![v266.toNat, 0, 0]
def k0_off35 (k0_t2 : Fin k0_t2_loop.trips) : Fin 3 → Nat :=
  let c0_190 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v377 : Index := Scalar.indexCast v6
  let c256_191 : Index := 256#32
  ![0, v377.toNat, 256]
def k0_off36 (k0_t2 : Fin k0_t2_loop.trips) : Fin 3 → Nat :=
  let c0_192 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v380 : Index := Scalar.indexCast v6
  let c384_193 : Index := 384#32
  ![0, v380.toNat, 384]
def k0_off37 (k0_t2 : Fin k0_t2_loop.trips) (v28 : BitVec 32) (k0_t4 : Fin (k0_t4_loop k0_t2 v28).trips) : Fin 4 → Nat :=
  let c1_194 : Index := 1#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v384 : Index := Scalar.indexCast arg18
  let c0_195 : Index := 0#32
  let c0_196 : Index := 0#32
  ![1, v384.toNat, 0, 0]
def k0_off38 (k0_t2 : Fin k0_t2_loop.trips) (v28 : BitVec 32) (k0_t4 : Fin (k0_t4_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v388 : Index := Scalar.indexCast arg18
  let c64 : Index := 64#32
  let c0_198 : Index := 0#32
  ![v388.toNat, 64, 0]
def k0_off39 (k0_t2 : Fin k0_t2_loop.trips) : Fin 3 → Nat :=
  let c0_257 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v499 : Index := Scalar.indexCast v6
  let c512_258 : Index := 512#32
  ![0, v499.toNat, 512]
def k0_off40 (k0_t2 : Fin k0_t2_loop.trips) : Fin 3 → Nat :=
  let c0_259 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v502 : Index := Scalar.indexCast v6
  let c640_260 : Index := 640#32
  ![0, v502.toNat, 640]
def k0_off41 (k0_t2 : Fin k0_t2_loop.trips) (v28 : BitVec 32) (k0_t4 : Fin (k0_t4_loop k0_t2 v28).trips) : Fin 4 → Nat :=
  let c2_261 : Index := 2#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v506 : Index := Scalar.indexCast arg18
  let c0_262 : Index := 0#32
  let c0_263 : Index := 0#32
  ![2, v506.toNat, 0, 0]
def k0_off42 (k0_t2 : Fin k0_t2_loop.trips) (v28 : BitVec 32) (k0_t4 : Fin (k0_t4_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v510 : Index := Scalar.indexCast arg18
  let c128_265 : Index := 128#32
  let c0_266 : Index := 0#32
  ![v510.toNat, 128, 0]
def k0_off43 (k0_t2 : Fin k0_t2_loop.trips) : Fin 3 → Nat :=
  let c0_321 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v621 : Index := Scalar.indexCast v6
  let c768_322 : Index := 768#32
  ![0, v621.toNat, 768]
def k0_off44 (k0_t2 : Fin k0_t2_loop.trips) : Fin 3 → Nat :=
  let c0_323 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v624 : Index := Scalar.indexCast v6
  let c896_324 : Index := 896#32
  ![0, v624.toNat, 896]
def k0_off45 (k0_t2 : Fin k0_t2_loop.trips) (v28 : BitVec 32) (k0_t4 : Fin (k0_t4_loop k0_t2 v28).trips) : Fin 4 → Nat :=
  let c3_325 : Index := 3#32
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v628 : Index := Scalar.indexCast arg18
  let c0_326 : Index := 0#32
  let c0_327 : Index := 0#32
  ![3, v628.toNat, 0, 0]
def k0_off46 (k0_t2 : Fin k0_t2_loop.trips) (v28 : BitVec 32) (k0_t4 : Fin (k0_t4_loop k0_t2 v28).trips) : Fin 3 → Nat :=
  let c0_i32_20 : BitVec 32 := 0#32
  let v30 : BitVec 1 := Scalar.cmpi .sgt v28 c0_i32_20
  let v31 : BitVec 32 := Scalar.extui v30
  let c0_i32_21 : BitVec 32 := 0#32
  let v32 : BitVec 1 := Scalar.cmpi .slt v28 c0_i32_21
  let v33 : BitVec 32 := Scalar.extui v32
  let v34 : BitVec 32 := Scalar.subi v31 v33
  let c128_i32_19 : BitVec 32 := 128#32
  let c0_i32_22 : BitVec 32 := 0#32
  let v35 : BitVec 1 := Scalar.cmpi .sgt c128_i32_19 c0_i32_22
  let v36 : BitVec 32 := Scalar.extui v35
  let c0_i32_23 : BitVec 32 := 0#32
  let v37 : BitVec 1 := Scalar.cmpi .slt c128_i32_19 c0_i32_23
  let v38 : BitVec 32 := Scalar.extui v37
  let v39 : BitVec 32 := Scalar.subi v36 v38
  let v40 : BitVec 1 := Scalar.cmpi .ne v34 v39
  let v41 : BitVec 32 := Scalar.remsi v28 c128_i32_19
  let c0_i32_24 : BitVec 32 := 0#32
  let v42 : BitVec 1 := Scalar.cmpi .ne v41 c0_i32_24
  let v43 : BitVec 1 := Scalar.andi v40 v42
  let v29 : BitVec 32 := Scalar.divsi v28 c128_i32_19
  let c1_i32_25 : BitVec 32 := 1#32
  let v44 : BitVec 32 := Scalar.subi v29 c1_i32_25
  let v45 : BitVec 32 := Scalar.select v43 v44 v29
  let c0_i32_3 : BitVec 32 := 0#32
  let c1_i32_5 : BitVec 32 := 1#32
  let arg17 : BitVec 32 := Scf.iv c0_i32_3 c1_i32_5 k0_t2
  let c1_i32_26 : BitVec 32 := 1#32
  let v46 : BitVec 32 := Scalar.addi arg17 c1_i32_26
  let v47 : BitVec 32 := Scalar.subi v46 v45
  let c1_i32_28 : BitVec 32 := 1#32
  let v49 : BitVec 32 := Scalar.divsi v47 c1_i32_28
  let v50 : BitVec 32 := Scalar.muli v49 c1_i32_28
  let v51 : BitVec 32 := Scalar.addi v45 v50
  let c1_i32_30 : BitVec 32 := 1#32
  let arg18 : BitVec 32 := Scf.iv v51 c1_i32_30 k0_t4
  let v632 : Index := Scalar.indexCast arg18
  let c192 : Index := 192#32
  let c0_329 : Index := 0#32
  ![v632.toNat, 192, 0]

def k0_chk1 (k0_t2 : Fin k0_t2_loop.trips) (v28 : BitVec 32) : Prop :=
  ((k0_t3_loop k0_t2 v28).OK) ∧
  (∀ k0_t3 : Fin (k0_t3_loop k0_t2 v28).trips, ∀ a, (k0_off17 k0_t2 v28 k0_t3) a + S1x1x256x128.size a ≤ S4x16x256x128.size a) ∧
  (∀ k0_t3 : Fin (k0_t3_loop k0_t2 v28).trips, ∀ a, (k0_off18 k0_t2 v28 k0_t3) a + S1x64x128.size a ≤ S16x256x128.size a) ∧
  (∀ k0_t3 : Fin (k0_t3_loop k0_t2 v28).trips, ∀ a, (k0_off21 k0_t2 v28 k0_t3) a + S1x1x256x128.size a ≤ S4x16x256x128.size a) ∧
  (∀ k0_t3 : Fin (k0_t3_loop k0_t2 v28).trips, ∀ a, (k0_off22 k0_t2 v28 k0_t3) a + S1x64x128.size a ≤ S16x256x128.size a) ∧
  (∀ k0_t3 : Fin (k0_t3_loop k0_t2 v28).trips, ∀ a, (k0_off25 k0_t2 v28 k0_t3) a + S1x1x256x128.size a ≤ S4x16x256x128.size a) ∧
  (∀ k0_t3 : Fin (k0_t3_loop k0_t2 v28).trips, ∀ a, (k0_off26 k0_t2 v28 k0_t3) a + S1x64x128.size a ≤ S16x256x128.size a) ∧
  (∀ k0_t3 : Fin (k0_t3_loop k0_t2 v28).trips, ∀ a, (k0_off29 k0_t2 v28 k0_t3) a + S1x1x256x128.size a ≤ S4x16x256x128.size a) ∧
  (∀ k0_t3 : Fin (k0_t3_loop k0_t2 v28).trips, ∀ a, (k0_off30 k0_t2 v28 k0_t3) a + S1x64x128.size a ≤ S16x256x128.size a) ∧
  ((k0_t4_loop k0_t2 v28).OK) ∧
  (∀ k0_t4 : Fin (k0_t4_loop k0_t2 v28).trips, ∀ a, (k0_off33 k0_t2 v28 k0_t4) a + S1x1x256x128.size a ≤ S4x16x256x128.size a) ∧
  (∀ k0_t4 : Fin (k0_t4_loop k0_t2 v28).trips, ∀ a, (k0_off34 k0_t2 v28 k0_t4) a + S1x64x128.size a ≤ S16x256x128.size a) ∧
  (∀ k0_t4 : Fin (k0_t4_loop k0_t2 v28).trips, ∀ a, (k0_off37 k0_t2 v28 k0_t4) a + S1x1x256x128.size a ≤ S4x16x256x128.size a) ∧
  (∀ k0_t4 : Fin (k0_t4_loop k0_t2 v28).trips, ∀ a, (k0_off38 k0_t2 v28 k0_t4) a + S1x64x128.size a ≤ S16x256x128.size a) ∧
  (∀ k0_t4 : Fin (k0_t4_loop k0_t2 v28).trips, ∀ a, (k0_off41 k0_t2 v28 k0_t4) a + S1x1x256x128.size a ≤ S4x16x256x128.size a) ∧
  (∀ k0_t4 : Fin (k0_t4_loop k0_t2 v28).trips, ∀ a, (k0_off42 k0_t2 v28 k0_t4) a + S1x64x128.size a ≤ S16x256x128.size a) ∧
  (∀ k0_t4 : Fin (k0_t4_loop k0_t2 v28).trips, ∀ a, (k0_off45 k0_t2 v28 k0_t4) a + S1x1x256x128.size a ≤ S4x16x256x128.size a) ∧
  (∀ k0_t4 : Fin (k0_t4_loop k0_t2 v28).trips, ∀ a, (k0_off46 k0_t2 v28 k0_t4) a + S1x64x128.size a ≤ S16x256x128.size a)
theorem k0_t3_ok : ∀ (k0_t2 : Fin k0_t2_loop.trips) (v28 : BitVec 32) (k0_hw1 : k0_chk1 k0_t2 v28), (k0_t3_loop k0_t2 v28).OK := fun k0_t2 v28 k0_hw1 => k0_hw1.1
theorem k0_off17_inb : ∀ (k0_t2 : Fin k0_t2_loop.trips) (v28 : BitVec 32) (k0_hw1 : k0_chk1 k0_t2 v28) (k0_t3 : Fin (k0_t3_loop k0_t2 v28).trips), ∀ a, (k0_off17 k0_t2 v28 k0_t3) a + S1x1x256x128.size a ≤ S4x16x256x128.size a := fun k0_t2 v28 k0_hw1 k0_t3 => k0_hw1.2.1 k0_t3
theorem k0_off18_inb : ∀ (k0_t2 : Fin k0_t2_loop.trips) (v28 : BitVec 32) (k0_hw1 : k0_chk1 k0_t2 v28) (k0_t3 : Fin (k0_t3_loop k0_t2 v28).trips), ∀ a, (k0_off18 k0_t2 v28 k0_t3) a + S1x64x128.size a ≤ S16x256x128.size a := fun k0_t2 v28 k0_hw1 k0_t3 => k0_hw1.2.2.1 k0_t3
theorem k0_off21_inb : ∀ (k0_t2 : Fin k0_t2_loop.trips) (v28 : BitVec 32) (k0_hw1 : k0_chk1 k0_t2 v28) (k0_t3 : Fin (k0_t3_loop k0_t2 v28).trips), ∀ a, (k0_off21 k0_t2 v28 k0_t3) a + S1x1x256x128.size a ≤ S4x16x256x128.size a := fun k0_t2 v28 k0_hw1 k0_t3 => k0_hw1.2.2.2.1 k0_t3
theorem k0_off22_inb : ∀ (k0_t2 : Fin k0_t2_loop.trips) (v28 : BitVec 32) (k0_hw1 : k0_chk1 k0_t2 v28) (k0_t3 : Fin (k0_t3_loop k0_t2 v28).trips), ∀ a, (k0_off22 k0_t2 v28 k0_t3) a + S1x64x128.size a ≤ S16x256x128.size a := fun k0_t2 v28 k0_hw1 k0_t3 => k0_hw1.2.2.2.2.1 k0_t3
theorem k0_off25_inb : ∀ (k0_t2 : Fin k0_t2_loop.trips) (v28 : BitVec 32) (k0_hw1 : k0_chk1 k0_t2 v28) (k0_t3 : Fin (k0_t3_loop k0_t2 v28).trips), ∀ a, (k0_off25 k0_t2 v28 k0_t3) a + S1x1x256x128.size a ≤ S4x16x256x128.size a := fun k0_t2 v28 k0_hw1 k0_t3 => k0_hw1.2.2.2.2.2.1 k0_t3
theorem k0_off26_inb : ∀ (k0_t2 : Fin k0_t2_loop.trips) (v28 : BitVec 32) (k0_hw1 : k0_chk1 k0_t2 v28) (k0_t3 : Fin (k0_t3_loop k0_t2 v28).trips), ∀ a, (k0_off26 k0_t2 v28 k0_t3) a + S1x64x128.size a ≤ S16x256x128.size a := fun k0_t2 v28 k0_hw1 k0_t3 => k0_hw1.2.2.2.2.2.2.1 k0_t3
theorem k0_off29_inb : ∀ (k0_t2 : Fin k0_t2_loop.trips) (v28 : BitVec 32) (k0_hw1 : k0_chk1 k0_t2 v28) (k0_t3 : Fin (k0_t3_loop k0_t2 v28).trips), ∀ a, (k0_off29 k0_t2 v28 k0_t3) a + S1x1x256x128.size a ≤ S4x16x256x128.size a := fun k0_t2 v28 k0_hw1 k0_t3 => k0_hw1.2.2.2.2.2.2.2.1 k0_t3
theorem k0_off30_inb : ∀ (k0_t2 : Fin k0_t2_loop.trips) (v28 : BitVec 32) (k0_hw1 : k0_chk1 k0_t2 v28) (k0_t3 : Fin (k0_t3_loop k0_t2 v28).trips), ∀ a, (k0_off30 k0_t2 v28 k0_t3) a + S1x64x128.size a ≤ S16x256x128.size a := fun k0_t2 v28 k0_hw1 k0_t3 => k0_hw1.2.2.2.2.2.2.2.2.1 k0_t3
theorem k0_t4_ok : ∀ (k0_t2 : Fin k0_t2_loop.trips) (v28 : BitVec 32) (k0_hw1 : k0_chk1 k0_t2 v28), (k0_t4_loop k0_t2 v28).OK := fun k0_t2 v28 k0_hw1 => k0_hw1.2.2.2.2.2.2.2.2.2.1
theorem k0_off33_inb : ∀ (k0_t2 : Fin k0_t2_loop.trips) (v28 : BitVec 32) (k0_hw1 : k0_chk1 k0_t2 v28) (k0_t4 : Fin (k0_t4_loop k0_t2 v28).trips), ∀ a, (k0_off33 k0_t2 v28 k0_t4) a + S1x1x256x128.size a ≤ S4x16x256x128.size a := fun k0_t2 v28 k0_hw1 k0_t4 => k0_hw1.2.2.2.2.2.2.2.2.2.2.1 k0_t4
theorem k0_off34_inb : ∀ (k0_t2 : Fin k0_t2_loop.trips) (v28 : BitVec 32) (k0_hw1 : k0_chk1 k0_t2 v28) (k0_t4 : Fin (k0_t4_loop k0_t2 v28).trips), ∀ a, (k0_off34 k0_t2 v28 k0_t4) a + S1x64x128.size a ≤ S16x256x128.size a := fun k0_t2 v28 k0_hw1 k0_t4 => k0_hw1.2.2.2.2.2.2.2.2.2.2.2.1 k0_t4
theorem k0_off37_inb : ∀ (k0_t2 : Fin k0_t2_loop.trips) (v28 : BitVec 32) (k0_hw1 : k0_chk1 k0_t2 v28) (k0_t4 : Fin (k0_t4_loop k0_t2 v28).trips), ∀ a, (k0_off37 k0_t2 v28 k0_t4) a + S1x1x256x128.size a ≤ S4x16x256x128.size a := fun k0_t2 v28 k0_hw1 k0_t4 => k0_hw1.2.2.2.2.2.2.2.2.2.2.2.2.1 k0_t4
theorem k0_off38_inb : ∀ (k0_t2 : Fin k0_t2_loop.trips) (v28 : BitVec 32) (k0_hw1 : k0_chk1 k0_t2 v28) (k0_t4 : Fin (k0_t4_loop k0_t2 v28).trips), ∀ a, (k0_off38 k0_t2 v28 k0_t4) a + S1x64x128.size a ≤ S16x256x128.size a := fun k0_t2 v28 k0_hw1 k0_t4 => k0_hw1.2.2.2.2.2.2.2.2.2.2.2.2.2.1 k0_t4
theorem k0_off41_inb : ∀ (k0_t2 : Fin k0_t2_loop.trips) (v28 : BitVec 32) (k0_hw1 : k0_chk1 k0_t2 v28) (k0_t4 : Fin (k0_t4_loop k0_t2 v28).trips), ∀ a, (k0_off41 k0_t2 v28 k0_t4) a + S1x1x256x128.size a ≤ S4x16x256x128.size a := fun k0_t2 v28 k0_hw1 k0_t4 => k0_hw1.2.2.2.2.2.2.2.2.2.2.2.2.2.2.1 k0_t4
theorem k0_off42_inb : ∀ (k0_t2 : Fin k0_t2_loop.trips) (v28 : BitVec 32) (k0_hw1 : k0_chk1 k0_t2 v28) (k0_t4 : Fin (k0_t4_loop k0_t2 v28).trips), ∀ a, (k0_off42 k0_t2 v28 k0_t4) a + S1x64x128.size a ≤ S16x256x128.size a := fun k0_t2 v28 k0_hw1 k0_t4 => k0_hw1.2.2.2.2.2.2.2.2.2.2.2.2.2.2.2.1 k0_t4
theorem k0_off45_inb : ∀ (k0_t2 : Fin k0_t2_loop.trips) (v28 : BitVec 32) (k0_hw1 : k0_chk1 k0_t2 v28) (k0_t4 : Fin (k0_t4_loop k0_t2 v28).trips), ∀ a, (k0_off45 k0_t2 v28 k0_t4) a + S1x1x256x128.size a ≤ S4x16x256x128.size a := fun k0_t2 v28 k0_hw1 k0_t4 => k0_hw1.2.2.2.2.2.2.2.2.2.2.2.2.2.2.2.2.1 k0_t4
theorem k0_off46_inb : ∀ (k0_t2 : Fin k0_t2_loop.trips) (v28 : BitVec 32) (k0_hw1 : k0_chk1 k0_t2 v28) (k0_t4 : Fin (k0_t4_loop k0_t2 v28).trips), ∀ a, (k0_off46 k0_t2 v28 k0_t4) a + S1x64x128.size a ≤ S16x256x128.size a := fun k0_t2 v28 k0_hw1 k0_t4 => k0_hw1.2.2.2.2.2.2.2.2.2.2.2.2.2.2.2.2.2 k0_t4

def k0_off47 (k0_t2 : Fin k0_t2_loop.trips) : Fin 3 → Nat :=
  let c0_46 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v81 : Index := Scalar.indexCast v6
  let c0_47 : Index := 0#32
  ![0, v81.toNat, 0]
def k0_off48 (k0_t2 : Fin k0_t2_loop.trips) : Fin 3 → Nat :=
  let c0_53 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v98 : Index := Scalar.indexCast v6
  let c128_54 : Index := 128#32
  ![0, v98.toNat, 128]
def k0_off49 (k0_t2 : Fin k0_t2_loop.trips) : Fin 3 → Nat :=
  let c0_69 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v129 : Index := Scalar.indexCast v6
  let c256 : Index := 256#32
  ![0, v129.toNat, 256]
def k0_off50 (k0_t2 : Fin k0_t2_loop.trips) : Fin 3 → Nat :=
  let c0_76 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v146 : Index := Scalar.indexCast v6
  let c384 : Index := 384#32
  ![0, v146.toNat, 384]
def k0_off51 (k0_t2 : Fin k0_t2_loop.trips) : Fin 3 → Nat :=
  let c0_91 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v177 : Index := Scalar.indexCast v6
  let c512 : Index := 512#32
  ![0, v177.toNat, 512]
def k0_off52 (k0_t2 : Fin k0_t2_loop.trips) : Fin 3 → Nat :=
  let c0_98 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v194 : Index := Scalar.indexCast v6
  let c640 : Index := 640#32
  ![0, v194.toNat, 640]
def k0_off53 (k0_t2 : Fin k0_t2_loop.trips) : Fin 3 → Nat :=
  let c0_113 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v225 : Index := Scalar.indexCast v6
  let c768 : Index := 768#32
  ![0, v225.toNat, 768]
def k0_off54 (k0_t2 : Fin k0_t2_loop.trips) : Fin 3 → Nat :=
  let c0_120 : Index := 0#32
  let c0_i32_3 : BitVec 32 := 0#32
  let c1_i32_5 : BitVec 32 := 1#32
  let arg17 : BitVec 32 := Scf.iv c0_i32_3 c1_i32_5 k0_t2
  let c128_i32 : BitVec 32 := 128#32
  let v5 : BitVec 32 := Scalar.muli arg17 c128_i32
  let v6 : BitVec 32 := v5
  let v242 : Index := Scalar.indexCast v6
  let c896 : Index := 896#32
  ![0, v242.toNat, 896]
def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S8x2048 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S1x2048x1024 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x2048x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== KernelIdeal.lean ====
variable {F : FTy → Type} [FloatOps F] [Named F]
def κ : String → Option EReal := fun
  | "mask" => some ⊥
  | "score_log2e" => some (((8 * (Real.log 2))⁻¹ : ℝ) : EReal)
  | _ => none
-- ==== ReferenceIdeal.lean ====
abbrev S8x2048x1024 : Shape := ⟨3, ![8, 2048, 1024]⟩
abbrev S8x2048x256 : Shape := ⟨3, ![8, 2048, 256]⟩
abbrev S16 : Shape := ⟨1, ![16]⟩
abbrev S4 : Shape := ⟨1, ![4]⟩
abbrev S8x2048 : Shape := ⟨2, ![8, 2048]⟩
abbrev S8x2048x4x4x64 : Shape := ⟨5, ![8, 2048, 4, 4, 64]⟩
abbrev S8x2048x4x64 : Shape := ⟨4, ![8, 2048, 4, 64]⟩
abbrev S4x4 : Shape := ⟨2, ![4, 4]⟩
abbrev S4x1 : Shape := ⟨2, ![4, 1]⟩
abbrev S_ : Shape := ⟨0, ![]⟩
abbrev S8x4x2048x2048x4 : Shape := ⟨5, ![8, 4, 2048, 2048, 4]⟩
abbrev S8x4x4x2048x2048 : Shape := ⟨5, ![8, 4, 4, 2048, 2048]⟩
abbrev S1x4x4x1x1 : Shape := ⟨5, ![1, 4, 4, 1, 1]⟩
abbrev S2048 : Shape := ⟨1, ![2048]⟩
abbrev S1x1x2048 : Shape := ⟨3, ![1, 1, 2048]⟩
abbrev S1x2048x1 : Shape := ⟨3, ![1, 2048, 1]⟩
abbrev S1x2048x2048 : Shape := ⟨3, ![1, 2048, 2048]⟩
abbrev S8x1x2048 : Shape := ⟨3, ![8, 1, 2048]⟩
abbrev S8x2048x1 : Shape := ⟨3, ![8, 2048, 1]⟩
abbrev S8x2048x2048 : Shape := ⟨3, ![8, 2048, 2048]⟩
abbrev S8x1x1x2048x2048 : Shape := ⟨5, ![8, 1, 1, 2048, 2048]⟩
abbrev S8x4x4x2048 : Shape := ⟨4, ![8, 4, 4, 2048]⟩
abbrev S8x4x4x2048x1 : Shape := ⟨5, ![8, 4, 4, 2048, 1]⟩
abbrev S8x4x64x4x2048 : Shape := ⟨5, ![8, 4, 64, 4, 2048]⟩
abbrev S1x1x4x1x1 : Shape := ⟨5, ![1, 1, 4, 1, 1]⟩

abbrev nBuf : Space → Nat
  | .hbm => 66
  | .vmem => 6
  | .smem => 0
  | _ => 0

abbrev bufTy : (tb : Table) → Fin (tcTables nBuf tb) → BufTy
  | .hbm, ⟨0, _⟩ => ⟨S8x2048x1024, .fp8e4m3⟩
  | .hbm, ⟨1, _⟩ => ⟨S8x2048x256, .fp8e4m3⟩
  | .hbm, ⟨2, _⟩ => ⟨S8x2048x256, .fp8e4m3⟩
  | .hbm, ⟨3, _⟩ => ⟨S16, .f32⟩
  | .hbm, ⟨4, _⟩ => ⟨S4, .f32⟩
  | .hbm, ⟨5, _⟩ => ⟨S4, .f32⟩
  | .hbm, ⟨6, _⟩ => ⟨S8x2048, .i32⟩
  | .hbm, ⟨7, _⟩ => ⟨S8x2048x1024, .f32⟩
  | .hbm, ⟨8, _⟩ => ⟨S8x2048x256, .f32⟩
  | .hbm, ⟨9, _⟩ => ⟨S8x2048x256, .bf16⟩
  | .hbm, ⟨10, _⟩ => ⟨S8x2048x4x4x64, .f32⟩
  | .hbm, ⟨11, _⟩ => ⟨S8x2048x4x64, .f32⟩
  | .hbm, ⟨12, _⟩ => ⟨S8x2048x4x64, .bf16⟩
  | .hbm, ⟨13, _⟩ => ⟨S4x4, .f32⟩
  | .hbm, ⟨14, _⟩ => ⟨S4x1, .f32⟩
  | .hbm, ⟨15, _⟩ => ⟨S4x4, .f32⟩
  | .hbm, ⟨16, _⟩ => ⟨S4x4, .f32⟩
  | .hbm, ⟨17, _⟩ => ⟨S_, .f32⟩
  | .hbm, ⟨18, _⟩ => ⟨S4x4, .f32⟩
  | .hbm, ⟨19, _⟩ => ⟨S4x4, .f32⟩
  | .hbm, ⟨20, _⟩ => ⟨S8x4x2048x2048x4, .f32⟩
  | .hbm, ⟨21, _⟩ => ⟨S8x4x4x2048x2048, .f32⟩
  | .hbm, ⟨22, _⟩ => ⟨S1x4x4x1x1, .f32⟩
  | .hbm, ⟨23, _⟩ => ⟨S8x4x4x2048x2048, .f32⟩
  | .hbm, ⟨24, _⟩ => ⟨S8x4x4x2048x2048, .f32⟩
  | .hbm, ⟨25, _⟩ => ⟨S2048, .i32⟩
  | .hbm, ⟨26, _⟩ => ⟨S1x1x2048, .i32⟩
  | .hbm, ⟨27, _⟩ => ⟨S1x2048x1, .i32⟩
  | .hbm, ⟨28, _⟩ => ⟨S1x2048x2048, .i32⟩
  | .hbm, ⟨29, _⟩ => ⟨S1x2048x2048, .i32⟩
  | .hbm, ⟨30, _⟩ => ⟨S1x2048x2048, .i1⟩
  | .hbm, ⟨31, _⟩ => ⟨S8x1x2048, .i32⟩
  | .hbm, ⟨32, _⟩ => ⟨S8x2048x1, .i32⟩
  | .hbm, ⟨33, _⟩ => ⟨S8x2048x2048, .i32⟩
  | .hbm, ⟨34, _⟩ => ⟨S8x2048x2048, .i32⟩
  | .hbm, ⟨35, _⟩ => ⟨S8x2048x2048, .i1⟩
  | .hbm, ⟨36, _⟩ => ⟨S8x2048x2048, .i1⟩
  | .hbm, ⟨37, _⟩ => ⟨S8x2048x2048, .i1⟩
  | .hbm, ⟨38, _⟩ => ⟨S8x1x1x2048x2048, .i1⟩
  | .hbm, ⟨39, _⟩ => ⟨S_, .f32⟩
  | .hbm, ⟨40, _⟩ => ⟨S_, .f32⟩
  | .hbm, ⟨41, _⟩ => ⟨S8x4x4x2048x2048, .i1⟩
  | .hbm, ⟨42, _⟩ => ⟨S8x4x4x2048x2048, .f32⟩
  | .hbm, ⟨43, _⟩ => ⟨S8x4x4x2048x2048, .f32⟩
  | .hbm, ⟨44, _⟩ => ⟨S_, .f32⟩
  | .hbm, ⟨45, _⟩ => ⟨S8x4x4x2048, .f32⟩
  | .hbm, ⟨46, _⟩ => ⟨S8x4x4x2048x1, .f32⟩
  | .hbm, ⟨47, _⟩ => ⟨S8x4x4x2048x2048, .f32⟩
  | .hbm, ⟨48, _⟩ => ⟨S8x4x4x2048x2048, .f32⟩
  | .hbm, ⟨49, _⟩ => ⟨S8x4x4x2048x2048, .f32⟩
  | .hbm, ⟨50, _⟩ => ⟨S_, .f32⟩
  | .hbm, ⟨51, _⟩ => ⟨S8x4x4x2048, .f32⟩
  | .hbm, ⟨52, _⟩ => ⟨S8x4x4x2048x1, .f32⟩
  | .hbm, ⟨53, _⟩ => ⟨S_, .f32⟩
  | .hbm, ⟨54, _⟩ => ⟨S8x4x4x2048x1, .f32⟩
  | .hbm, ⟨55, _⟩ => ⟨S8x4x4x2048x1, .f32⟩
  | .hbm, ⟨56, _⟩ => ⟨S8x4x4x2048x2048, .f32⟩
  | .hbm, ⟨57, _⟩ => ⟨S8x4x4x2048x2048, .f32⟩
  | .hbm, ⟨58, _⟩ => ⟨S8x4x4x2048x2048, .bf16⟩
  | .hbm, ⟨59, _⟩ => ⟨S8x4x64x4x2048, .f32⟩
  | .hbm, ⟨60, _⟩ => ⟨S8x2048x4x4x64, .f32⟩
  | .hbm, ⟨61, _⟩ => ⟨S1x1x4x1x1, .f32⟩
  | .hbm, ⟨62, _⟩ => ⟨S8x2048x4x4x64, .f32⟩
  | .hbm, ⟨63, _⟩ => ⟨S8x2048x4x4x64, .f32⟩
  | .hbm, ⟨64, _⟩ => ⟨S8x2048x1024, .f32⟩
  | .hbm, ⟨65, _⟩ => ⟨S8x2048x1024, .bf16⟩
  | .local _ .vmem, ⟨0, _⟩ => ⟨S8x2048x1024, .fp8e4m3⟩
  | .local _ .vmem, ⟨1, _⟩ => ⟨S8x2048x256, .fp8e4m3⟩
  | .local _ .vmem, ⟨2, _⟩ => ⟨S8x2048x256, .fp8e4m3⟩
  | .local _ .vmem, ⟨3, _⟩ => ⟨S8x2048x1024, .f32⟩
  | .local _ .vmem, ⟨4, _⟩ => ⟨S8x2048x256, .f32⟩
  | .local _ .vmem, ⟨5, _⟩ => ⟨S8x2048x256, .bf16⟩
  | _, _ => ⟨S8x2048x1024, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_0 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_v29 : Ref sig .tc := ⟨.hbm, 43, rfl⟩
abbrev main_cst_1 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_cst_2 : Ref sig .tc := ⟨.hbm, 50, rfl⟩
abbrev main_v35 : Ref sig .tc := ⟨.hbm, 51, rfl⟩
abbrev main_v36 : Ref sig .tc := ⟨.hbm, 52, rfl⟩
abbrev main_cst_3 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8x2048x1024 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x2048x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8x2048x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8x2048x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8x2048x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x2048x256 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.ModelI.lean ====
module

public import proofs.«01_k».proof.Proof.Gen.KernelIdeal.Loops
public import proofs.«01_k».proof.Proof.Gen.KernelIdeal.Points
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
/-- The product of a head's two scales and the constant that turns the softmax exponent to base two. -/
def scl (q k : F .f32) : F .f32 := Scalar.mulf (Scalar.mulf q k) (Named.named κ "score_log2e" 0x3E38AA3B#32)

/-- The score that stands in a masked place. -/
def msk : F .f32 := Named.named κ "mask" 0xFF61B1E6#32

/-- The masked scores of the two heads that use the even half-lanes: keys by queries. -/
def tA (ok : IVec S128x128 1) (s : FVec F S256x256 .f32) (c1 c2 : F .f32) : FVec F S128x256 .f32 :=
  concatenate S128x256 1 [⟨S128x128, select ok (mulf (extractStridedSlice S128x128 ![0, 0] s slices_S256x256_o0_0_S128x128) (broadcast S128x128 c1)) (broadcast S128x128 msk)⟩,
    ⟨S128x128, select ok (mulf (extractStridedSlice S128x128 ![0, 128] s slices_S256x256_o0_128_S128x128) (broadcast S128x128 c2)) (broadcast S128x128 msk)⟩] concatenates_S128x128_S128x128_S128x256_d1

/-- The masked scores of the two heads that use the odd half-lanes: keys by queries. -/
def tB (ok : IVec S128x128 1) (s : FVec F S256x256 .f32) (c1 c2 : F .f32) : FVec F S128x256 .f32 :=
  concatenate S128x256 1 [⟨S128x128, select ok (mulf (extractStridedSlice S128x128 ![128, 0] s slices_S256x256_o128_0_S128x128) (broadcast S128x128 c1)) (broadcast S128x128 msk)⟩,
    ⟨S128x128, select ok (mulf (extractStridedSlice S128x128 ![128, 128] s slices_S256x256_o128_128_S128x128) (broadcast S128x128 c2)) (broadcast S128x128 msk)⟩] concatenates_S128x128_S128x128_S128x256_d1

/-- The running maximum after one more block of keys. -/
def mNew (t : FVec F S128x256 .f32) (m : Vec F S1x8x256 .f32) : FVec F S8x256 .f32 :=
  maximumf (shapeCast S8x256 m shapeCasts_S1x8x256_S8x256)
    (broadcastTo S8x256 (shapeCast S1x256 (multiReduction .maximumf [0] S256 t 0xFF800000#32 reduces_S128x256_S256 (.inl rfl) rfl) shapeCasts_S256_S1x256) broadcasts_S1x256_S8x256)

/-- The factor that turns the old sums to the new maximum. -/
def alph (t : FVec F S128x256 .f32) (m : Vec F S1x8x256 .f32) : FVec F S8x256 .f32 :=
  exp2 (subf (shapeCast S8x256 m shapeCasts_S1x8x256_S8x256) (mNew t m))

/-- The block's weights. -/
def wts (t : FVec F S128x256 .f32) (m : Vec F S1x8x256 .f32) : FVec F S128x256 .f32 :=
  exp2 (subf t (broadcastTo S128x256 (extractStridedSlice S1x256 ![0, 0] (mNew t m) slices_S8x256_o0_0_S1x256) broadcasts_S1x256_S128x256))

/-- The maximum, in the shape it is stored in. -/
def msM (t : FVec F S128x256 .f32) (m : Vec F S1x8x256 .f32) : Vec F S1x8x256 .f32 :=
  shapeCast S1x8x256 (mNew t m) shapeCasts_S8x256_S1x8x256

/-- The sum of the weights (eight partial sums), in the shape it is stored in. -/
def lsM (t : FVec F S128x256 .f32) (m l : Vec F S1x8x256 .f32) : Vec F S1x8x256 .f32 :=
  shapeCast S1x8x256 (addf (mulf (shapeCast S8x256 l shapeCasts_S1x8x256_S8x256) (alph t m))
    (multiReduction .add [0] S8x256 (shapeCast S16x8x256 (wts t m) shapeCasts_S128x256_S16x8x256) 0x00000000#32 reduces_S16x8x256_S8x256 (.inl rfl) rfl)) shapeCasts_S8x256_S1x8x256

/-- The weighted sum of the values, in the shape it is stored in. -/
def asM (t : FVec F S128x256 .f32) (m : Vec F S1x8x256 .f32) (vt : Vec F S1x64x128 .bf16) (a : Vec F S1x64x256 .f32) : Vec F S1x64x256 .f32 :=
  shapeCast S1x64x256 (addf (mulf (shapeCast S64x256 a shapeCasts_S1x64x256_S64x256)
      (broadcastTo S64x256 (extractStridedSlice S1x256 ![0, 0] (alph t m) slices_S8x256_o0_0_S1x256) broadcasts_S1x256_S64x256))
    (matmul dot_S64x128_S128x256_S64x256_1_0_0_1_n_n none (shapeCast S64x128 vt shapeCasts_S1x64x128_S64x128) (truncf .bf16 (wts t m) bitsLt_bf16_f32) (constant S64x256 .f32 0x00000000#32))) shapeCasts_S64x256_S1x64x256

/-- One of the eight slabs of a running statistic. -/
def sl8 {e : EltTy} (m : S8x8x256.Idx → Elt F e) (s : Fin 8) : Vec F S1x8x256 e := fun x => m (ix3 s (x 1) (x 2))

/-- One of the eight slabs of the accumulator. -/
def sl64 {e : EltTy} (m : S8x64x256.Idx → Elt F e) (s : Fin 8) : Vec F S1x64x256 e := fun x => m (ix3 s (x 1) (x 2))

theorem ld_sl8 {e : EltTy} (m : S8x8x256.Idx → Elt F e) (s : ℕ) (hs : s < 8) (h : ∀ a, (![s, 0, 0] : Fin 3 → ℕ) a + S1x8x256.size a ≤ S8x8x256.size a) :
    View.ld m (Rect.unit (s := S8x8x256) ![s, 0, 0] S1x8x256.size h) = sl8 m ⟨s, hs⟩ := by
  funext x
  refine congrArg m (funext fun a => Fin.ext ?_)
  have h0 : (x 0).val = 0 := by have := (x 0).isLt; change (x 0).val < 1 at this; omega
  fin_cases a
  · change s + 1 * (x 0).val = s; omega
  · change 0 + 1 * (x 1).val = (x 1).val; omega
  · change 0 + 1 * (x 2).val = (x 2).val; omega

theorem ld_sl64 {e : EltTy} (m : S8x64x256.Idx → Elt F e) (s : ℕ) (hs : s < 8) (h : ∀ a, (![s, 0, 0] : Fin 3 → ℕ) a + S1x64x256.size a ≤ S8x64x256.size a) :
    View.ld m (Rect.unit (s := S8x64x256) ![s, 0, 0] S1x64x256.size h) = sl64 m ⟨s, hs⟩ := by
  funext x
  refine congrArg m (funext fun a => Fin.ext ?_)
  have h0 : (x 0).val = 0 := by have := (x 0).isLt; change (x 0).val < 1 at this; omega
  fin_cases a
  · change s + 1 * (x 0).val = s; omega
  · change 0 + 1 * (x 1).val = (x 1).val; omega
  · change 0 + 1 * (x 2).val = (x 2).val; omega

/-- The array whose slabs are given. -/
def un8 {e : EltTy} (W : Fin 8 → Vec F S1x8x256 e) : S8x8x256.Idx → Elt F e := fun y => W (y 0) (ix3 0 (y 1) (y 2))

/-- The array whose slabs are given. -/
def un64 {e : EltTy} (W : Fin 8 → Vec F S1x64x256 e) : S8x64x256.Idx → Elt F e := fun y => W (y 0) (ix3 0 (y 1) (y 2))

theorem un8_emb {e : EltTy} (W : Fin 8 → Vec F S1x8x256 e) (s : ℕ) (hs : s < 8) (h : ∀ a, (![s, 0, 0] : Fin 3 → ℕ) a + S1x8x256.size a ≤ S8x8x256.size a) (x : S1x8x256.Idx) :
    un8 W ((Rect.unit (s := S8x8x256) ![s, 0, 0] S1x8x256.size h).emb x) = W ⟨s, hs⟩ x := by
  have h0 : (x 0).val = 0 := by have := (x 0).isLt; change (x 0).val < 1 at this; omega
  have e0 : ((Rect.unit (s := S8x8x256) ![s, 0, 0] S1x8x256.size h).emb x) 0 = (⟨s, hs⟩ : Fin 8) := by
    apply Fin.ext; change s + 1 * (x 0).val = s; omega
  have e1 : (ix3 0 (((Rect.unit (s := S8x8x256) ![s, 0, 0] S1x8x256.size h).emb x) 1) (((Rect.unit (s := S8x8x256) ![s, 0, 0] S1x8x256.size h).emb x) 2) : S1x8x256.Idx) = x := by
    funext a; apply Fin.ext; fin_cases a
    · change 0 = (x 0).val; omega
    · change 0 + 1 * (x 1).val = (x 1).val; omega
    · change 0 + 1 * (x 2).val = (x 2).val; omega
  unfold un8; rw [e0, e1]

theorem un64_emb {e : EltTy} (W : Fin 8 → Vec F S1x64x256 e) (s : ℕ) (hs : s < 8) (h : ∀ a, (![s, 0, 0] : Fin 3 → ℕ) a + S1x64x256.size a ≤ S8x64x256.size a) (x : S1x64x256.Idx) :
    un64 W ((Rect.unit (s := S8x64x256) ![s, 0, 0] S1x64x256.size h).emb x) = W ⟨s, hs⟩ x := by
  have h0 : (x 0).val = 0 := by have := (x 0).isLt; change (x 0).val < 1 at this; omega
  have e0 : ((Rect.unit (s := S8x64x256) ![s, 0, 0] S1x64x256.size h).emb x) 0 = (⟨s, hs⟩ : Fin 8) := by
    apply Fin.ext; change s + 1 * (x 0).val = s; omega
  have e1 : (ix3 0 (((Rect.unit (s := S8x64x256) ![s, 0, 0] S1x64x256.size h).emb x) 1) (((Rect.unit (s := S8x64x256) ![s, 0, 0] S1x64x256.size h).emb x) 2) : S1x64x256.Idx) = x := by
    funext a; apply Fin.ext; fin_cases a
    · change 0 = (x 0).val; omega
    · change 0 + 1 * (x 1).val = (x 1).val; omega
    · change 0 + 1 * (x 2).val = (x 2).val; omega
  unfold un64; rw [e0, e1]

/-- The eight score blocks of one key block, from the loaded tiles and the scales. -/
def TM (ok : IVec S128x128 1) (xs : Fin 8 → Vec F S1x128x128 .fp8e4m3) (kz : Fin 4 → Vec F S1x1x256x128 .fp8e4m3) (q : Fin 16 → F .f32) (k : Fin 4 → F .f32) : Fin 8 → FVec F S128x256 .f32 :=
  ![tA ok (k0_pay37 (xs 0) (xs 1) (kz 0)) (scl (q 0) (k 0)) (scl (q 2) (k 0)),
    tB ok (k0_pay37 (xs 0) (xs 1) (kz 0)) (scl (q 1) (k 0)) (scl (q 3) (k 0)),
    tA ok (k0_pay37 (xs 2) (xs 3) (kz 1)) (scl (q 4) (k 1)) (scl (q 6) (k 1)),
    tB ok (k0_pay37 (xs 2) (xs 3) (kz 1)) (scl (q 5) (k 1)) (scl (q 7) (k 1)),
    tA ok (k0_pay37 (xs 4) (xs 5) (kz 2)) (scl (q 8) (k 2)) (scl (q 10) (k 2)),
    tB ok (k0_pay37 (xs 4) (xs 5) (kz 2)) (scl (q 9) (k 2)) (scl (q 11) (k 2)),
    tA ok (k0_pay37 (xs 6) (xs 7) (kz 3)) (scl (q 12) (k 3)) (scl (q 14) (k 3)),
    tB ok (k0_pay37 (xs 6) (xs 7) (kz 3)) (scl (q 13) (k 3)) (scl (q 15) (k 3))]

/-- The values of each of the eight slabs: two slabs share a key head. -/
def VM (vt : Fin 4 → Vec F S1x64x128 .bf16) : Fin 8 → Vec F S1x64x128 .bf16 := ![vt 0, vt 0, vt 1, vt 1, vt 2, vt 2, vt 3, vt 3]

def stM (t : Fin 8 → FVec F S128x256 .f32) (m : S8x8x256.Idx → Elt F .f32) : S8x8x256.Idx → Elt F .f32 :=
  un8 fun s => msM (t s) (sl8 m s)
def stL (t : Fin 8 → FVec F S128x256 .f32) (m l : S8x8x256.Idx → Elt F .f32) : S8x8x256.Idx → Elt F .f32 :=
  un8 fun s => lsM (t s) (sl8 m s) (sl8 l s)
def stA (t : Fin 8 → FVec F S128x256 .f32) (v : Fin 8 → Vec F S1x64x128 .bf16) (m : S8x8x256.Idx → Elt F .f32) (a : S8x64x256.Idx → Elt F .f32) : S8x64x256.Idx → Elt F .f32 :=
  un64 fun s => asM (t s) (sl8 m s) (v s) (sl64 a s)

/-- The sixteen query-head scales. -/
def qsM (x : S16.Idx → Elt F .f32) : Fin 16 → F .f32 :=
  ![View.ld x (Rect.unit (s := S16) ![0] S1.size inb_S16_S1_0) (Shape.Idx.first (s := S1) (by decide)),
    View.ld x (Rect.unit (s := S16) ![1] S1.size inb_S16_S1_1) (Shape.Idx.first (s := S1) (by decide)),
    View.ld x (Rect.unit (s := S16) ![2] S1.size inb_S16_S1_2) (Shape.Idx.first (s := S1) (by decide)),
    View.ld x (Rect.unit (s := S16) ![3] S1.size inb_S16_S1_3) (Shape.Idx.first (s := S1) (by decide)),
    View.ld x (Rect.unit (s := S16) ![4] S1.size inb_S16_S1_4) (Shape.Idx.first (s := S1) (by decide)),
    View.ld x (Rect.unit (s := S16) ![5] S1.size inb_S16_S1_5) (Shape.Idx.first (s := S1) (by decide)),
    View.ld x (Rect.unit (s := S16) ![6] S1.size inb_S16_S1_6) (Shape.Idx.first (s := S1) (by decide)),
    View.ld x (Rect.unit (s := S16) ![7] S1.size inb_S16_S1_7) (Shape.Idx.first (s := S1) (by decide)),
    View.ld x (Rect.unit (s := S16) ![8] S1.size inb_S16_S1_8) (Shape.Idx.first (s := S1) (by decide)),
    View.ld x (Rect.unit (s := S16) ![9] S1.size inb_S16_S1_9) (Shape.Idx.first (s := S1) (by decide)),
    View.ld x (Rect.unit (s := S16) ![10] S1.size inb_S16_S1_10) (Shape.Idx.first (s := S1) (by decide)),
    View.ld x (Rect.unit (s := S16) ![11] S1.size inb_S16_S1_11) (Shape.Idx.first (s := S1) (by decide)),
    View.ld x (Rect.unit (s := S16) ![12] S1.size inb_S16_S1_12) (Shape.Idx.first (s := S1) (by decide)),
    View.ld x (Rect.unit (s := S16) ![13] S1.size inb_S16_S1_13) (Shape.Idx.first (s := S1) (by decide)),
    View.ld x (Rect.unit (s := S16) ![14] S1.size inb_S16_S1_14) (Shape.Idx.first (s := S1) (by decide)),
    View.ld x (Rect.unit (s := S16) ![15] S1.size inb_S16_S1_15) (Shape.Idx.first (s := S1) (by decide))]
/-- The four key-head scales. -/
def ksM (x : S4.Idx → Elt F .f32) : Fin 4 → F .f32 :=
  ![View.ld x (Rect.unit (s := S4) ![0] S1.size inb_S4_S1_0) (Shape.Idx.first (s := S1) (by decide)),
    View.ld x (Rect.unit (s := S4) ![1] S1.size inb_S4_S1_1) (Shape.Idx.first (s := S1) (by decide)),
    View.ld x (Rect.unit (s := S4) ![2] S1.size inb_S4_S1_2) (Shape.Idx.first (s := S1) (by decide)),
    View.ld x (Rect.unit (s := S4) ![3] S1.size inb_S4_S1_3) (Shape.Idx.first (s := S1) (by decide))]

/-- The eight column tiles of the block of queries. -/
def xsM (x : S1x2048x1024.Idx → Elt F .fp8e4m3) (i : Fin k0_t2_loop.trips) : Fin 8 → Vec F S1x128x128 .fp8e4m3 :=
  ![View.ld x (Rect.unit (s := S1x2048x1024) (k0_off15 i) S1x128x128.size (k0_off15_inb i)),
    View.ld x (Rect.unit (s := S1x2048x1024) (k0_off16 i) S1x128x128.size (k0_off16_inb i)),
    View.ld x (Rect.unit (s := S1x2048x1024) (k0_off19 i) S1x128x128.size (k0_off19_inb i)),
    View.ld x (Rect.unit (s := S1x2048x1024) (k0_off20 i) S1x128x128.size (k0_off20_inb i)),
    View.ld x (Rect.unit (s := S1x2048x1024) (k0_off23 i) S1x128x128.size (k0_off23_inb i)),
    View.ld x (Rect.unit (s := S1x2048x1024) (k0_off24 i) S1x128x128.size (k0_off24_inb i)),
    View.ld x (Rect.unit (s := S1x2048x1024) (k0_off27 i) S1x128x128.size (k0_off27_inb i)),
    View.ld x (Rect.unit (s := S1x2048x1024) (k0_off28 i) S1x128x128.size (k0_off28_inb i))]

/-- The four padded key tiles of one key block. -/
def kzM (x : S4x16x256x128.Idx → Elt F .fp8e4m3) (i : Fin k0_t2_loop.trips) (v28 : Elt F .i32) (hw : k0_chk1 i v28) (k : Fin (k0_t3_loop i v28).trips) : Fin 4 → Vec F S1x1x256x128 .fp8e4m3 :=
  ![View.ld x (Rect.unit (s := S4x16x256x128) (k0_off17 i v28 k) S1x1x256x128.size (k0_off17_inb i v28 hw k)),
    View.ld x (Rect.unit (s := S4x16x256x128) (k0_off21 i v28 k) S1x1x256x128.size (k0_off21_inb i v28 hw k)),
    View.ld x (Rect.unit (s := S4x16x256x128) (k0_off25 i v28 k) S1x1x256x128.size (k0_off25_inb i v28 hw k)),
    View.ld x (Rect.unit (s := S4x16x256x128) (k0_off29 i v28 k) S1x1x256x128.size (k0_off29_inb i v28 hw k))]

/-- The four transposed value tiles of one key block. -/
def vtM (x : S16x256x128.Idx → Elt F .bf16) (i : Fin k0_t2_loop.trips) (v28 : Elt F .i32) (hw : k0_chk1 i v28) (k : Fin (k0_t3_loop i v28).trips) : Fin 4 → Vec F S1x64x128 .bf16 :=
  ![View.ld x (Rect.unit (s := S16x256x128) (k0_off18 i v28 k) S1x64x128.size (k0_off18_inb i v28 hw k)),
    View.ld x (Rect.unit (s := S16x256x128) (k0_off22 i v28 k) S1x64x128.size (k0_off22_inb i v28 hw k)),
    View.ld x (Rect.unit (s := S16x256x128) (k0_off26 i v28 k) S1x64x128.size (k0_off26_inb i v28 hw k)),
    View.ld x (Rect.unit (s := S16x256x128) (k0_off30 i v28 k) S1x64x128.size (k0_off30_inb i v28 hw k))]

/-- The score blocks of the trip `k` of the key loop. -/
def TT (x1 : S16.Idx → Elt F .f32) (x2 : S4.Idx → Elt F .f32) (x5 : S1x2048x1024.Idx → Elt F .fp8e4m3) (x11 : S4x16x256x128.Idx → Elt F .fp8e4m3)
    (i : Fin k0_t2_loop.trips) (v10 v13 : IVec S1x128 32) (v28 : Elt F .i32) (hw : k0_chk1 i v28) (w5 : BitVec 32) (k : Fin (k0_t3_loop i v28).trips) : Fin 8 → FVec F S128x256 .f32 :=
  TM (k0_pay36 (F := F) i v10 v13 v28 w5 1#32 k) (xsM x5 i) (kzM x11 i v28 hw k) (qsM x1) (ksM x2)

/-- The running statistics of one block of queries. -/
structure St (F : FTy → Type) where
  m : S8x8x256.Idx → Elt F .f32
  l : S8x8x256.Idx → Elt F .f32
  a : S8x64x256.Idx → Elt F .f32

/-- The statistics after a trip, from the trip's scores and values. -/
def St.step (t : Fin 8 → FVec F S128x256 .f32) (v : Fin 8 → Vec F S1x64x128 .bf16) (s : St F) : St F :=
  ⟨stM t s.m, stL t s.m s.l, stA t v s.m s.a⟩

/-- The statistics after the first `k` trips. -/
def iter {n : ℕ} (T : Fin n → Fin 8 → FVec F S128x256 .f32) (V : Fin n → Fin 8 → Vec F S1x64x128 .bf16) (s : St F) : ℕ → St F
  | 0 => s
  | k + 1 => if h : k < n then (iter T V s k).step (T ⟨k, h⟩) (V ⟨k, h⟩) else iter T V s k

theorem iter_succ {n : ℕ} (T : Fin n → Fin 8 → FVec F S128x256 .f32) (V : Fin n → Fin 8 → Vec F S1x64x128 .bf16) (s : St F) (k : Fin n) :
    iter T V s (k.val + 1) = (iter T V s k.val).step (T k) (V k) := by
  simp only [iter, k.isLt, dite_true]

end Cert.KernelIdeal.Hand
-- ==== Proof.Loop3I.lean ====
module

public import proofs.«01_k».proof.Proof.ModelI
public import proofs.«01_k».proof.Proof.Gen.KernelIdeal.Launch
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- Whole ownership of a buffer's place with given contents. -/
abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- One trip of the key loop. -/
theorem trip3 (𝒱 : Variants) (c : Dev nD) (bd : Option 𝒱.V) (E : Set ℕ) (i : grid0.Coords)
    (k0_t2 : Fin k0_t2_loop.trips) (arg17 : BitVec 32) (v6 : BitVec 32) (v10 : IVec S1x128 32) (v13 : IVec S1x128 32) (v28 : Elt F .i32) (k0_hw1 : k0_chk1 k0_t2 v28) (w1 w2 w3 w4 w5 : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (k : Fin (k0_t3_loop k0_t2 v28).trips) (acc : BitVec 32) (f13 : BufTy.Contents (Elt F) arg13.view.ty) (f14 : BufTy.Contents (Elt F) arg14.view.ty) (f15 : BufTy.Contents (Elt F) arg15.view.ty) :
    (iprop(Pt c arg1 X1 ∗ Pt c arg2 X2 ∗ Pt c arg5 X5 ∗ Pt c arg11 X11 ∗ Pt c arg12 X12 ∗ Pt c arg13 f13 ∗ Pt c arg14 f14 ∗ Pt c arg15 f15) : sProp 𝕄)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t2 arg17 v6 v10 v13 v28 k0_hw1 w1 w2 w3 w4 w5 k acc)
          (fun _ => iprop(Pt c arg1 X1 ∗ Pt c arg2 X2 ∗ Pt c arg5 X5 ∗ Pt c arg11 X11 ∗ Pt c arg12 X12
            ∗ (∃ f, Pt c arg13 f ∗ ⌜arg13.view.read (Elt F) f = stM (TT (arg1.view.read (Elt F) X1) (arg2.view.read (Elt F) X2) (arg5.view.read (Elt F) X5) (arg11.view.read (Elt F) X11) k0_t2 v10 v13 v28 k0_hw1 w5 k) (arg13.view.read (Elt F) f13)⌝)
            ∗ (∃ f, Pt c arg14 f ∗ ⌜arg14.view.read (Elt F) f = stL (TT (arg1.view.read (Elt F) X1) (arg2.view.read (Elt F) X2) (arg5.view.read (Elt F) X5) (arg11.view.read (Elt F) X11) k0_t2 v10 v13 v28 k0_hw1 w5 k) (arg13.view.read (Elt F) f13) (arg14.view.read (Elt F) f14)⌝)
            ∗ (∃ f, Pt c arg15 f ∗ ⌜arg15.view.read (Elt F) f = stA (TT (arg1.view.read (Elt F) X1) (arg2.view.read (Elt F) X2) (arg5.view.read (Elt F) X5) (arg11.view.read (Elt F) X11) k0_t2 v10 v13 v28 k0_hw1 w5 k) (VM (vtM (arg12.view.read (Elt F) X12) k0_t2 v28 k0_hw1 k)) (arg13.view.read (Elt F) f13) (arg15.view.read (Elt F) f15)⌝))) := by
  unfold k0_t3_body
  iintro ⟨H1, H2, H5, H11, H12, H13, H14, H15⟩
  sl_exec
  sl_step
  isplitl [H1]; · iexact H1
  isplitl [H2]; · iexact H2
  isplitl [H5]; · iexact H5
  isplitl [H11]; · iexact H11
  isplitl [H12]; · iexact H12
  isplitl [H13]
  · iexists _; isplitl [H13]; · iexact H13
    ipureintro
    funext y
    refine View.read_writes_apply_of_pieces _ _ _ _ ?_ y (View.cover_of_tiledL (s := S8x8x256) _ S1x8x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un8_emb _ _ (by decide) _ x).symm
      refine congrFun ?_ x
    · rw [← ld_sl8 (h := inb_S8x8x256_S1x8x256_7_0_0)]; sl_kernel_rfl
    · rw [← ld_sl8 (h := inb_S8x8x256_S1x8x256_6_0_0)]; sl_kernel_rfl
    · rw [← ld_sl8 (h := inb_S8x8x256_S1x8x256_5_0_0)]; sl_kernel_rfl
    · rw [← ld_sl8 (h := inb_S8x8x256_S1x8x256_4_0_0)]; sl_kernel_rfl
    · rw [← ld_sl8 (h := inb_S8x8x256_S1x8x256_3_0_0)]; sl_kernel_rfl
    · rw [← ld_sl8 (h := inb_S8x8x256_S1x8x256_2_0_0)]; sl_kernel_rfl
    · rw [← ld_sl8 (h := inb_S8x8x256_S1x8x256_1_0_0)]; sl_kernel_rfl
    · rw [← ld_sl8 (h := inb_S8x8x256_S1x8x256_0_0_0)]; sl_kernel_rfl
  isplitl [H14]
  · iexists _; isplitl [H14]; · iexact H14
    ipureintro
    funext y
    refine View.read_writes_apply_of_pieces _ _ _ _ ?_ y (View.cover_of_tiledL (s := S8x8x256) _ S1x8x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un8_emb _ _ (by decide) _ x).symm
      refine congrFun ?_ x
    · rw [← ld_sl8 (h := inb_S8x8x256_S1x8x256_7_0_0), ← ld_sl8 (h := inb_S8x8x256_S1x8x256_7_0_0)]; sl_kernel_rfl
    · rw [← ld_sl8 (h := inb_S8x8x256_S1x8x256_6_0_0), ← ld_sl8 (h := inb_S8x8x256_S1x8x256_6_0_0)]; sl_kernel_rfl
    · rw [← ld_sl8 (h := inb_S8x8x256_S1x8x256_5_0_0), ← ld_sl8 (h := inb_S8x8x256_S1x8x256_5_0_0)]; sl_kernel_rfl
    · rw [← ld_sl8 (h := inb_S8x8x256_S1x8x256_4_0_0), ← ld_sl8 (h := inb_S8x8x256_S1x8x256_4_0_0)]; sl_kernel_rfl
    · rw [← ld_sl8 (h := inb_S8x8x256_S1x8x256_3_0_0), ← ld_sl8 (h := inb_S8x8x256_S1x8x256_3_0_0)]; sl_kernel_rfl
    · rw [← ld_sl8 (h := inb_S8x8x256_S1x8x256_2_0_0), ← ld_sl8 (h := inb_S8x8x256_S1x8x256_2_0_0)]; sl_kernel_rfl
    · rw [← ld_sl8 (h := inb_S8x8x256_S1x8x256_1_0_0), ← ld_sl8 (h := inb_S8x8x256_S1x8x256_1_0_0)]; sl_kernel_rfl
    · rw [← ld_sl8 (h := inb_S8x8x256_S1x8x256_0_0_0), ← ld_sl8 (h := inb_S8x8x256_S1x8x256_0_0_0)]; sl_kernel_rfl
  · iexists _; isplitl [H15]; · iexact H15
    ipureintro
    funext y
    refine View.read_writes_apply_of_pieces _ _ _ _ ?_ y (View.cover_of_tiledL (s := S8x64x256) _ S1x64x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un64_emb _ _ (by decide) _ x).symm
      refine congrFun ?_ x
    · rw [← ld_sl8 (h := inb_S8x8x256_S1x8x256_7_0_0), ← ld_sl64 (h := inb_S8x64x256_S1x64x256_7_0_0)]; sl_kernel_rfl
    · rw [← ld_sl8 (h := inb_S8x8x256_S1x8x256_6_0_0), ← ld_sl64 (h := inb_S8x64x256_S1x64x256_6_0_0)]; sl_kernel_rfl
    · rw [← ld_sl8 (h := inb_S8x8x256_S1x8x256_5_0_0), ← ld_sl64 (h := inb_S8x64x256_S1x64x256_5_0_0)]; sl_kernel_rfl
    · rw [← ld_sl8 (h := inb_S8x8x256_S1x8x256_4_0_0), ← ld_sl64 (h := inb_S8x64x256_S1x64x256_4_0_0)]; sl_kernel_rfl
    · rw [← ld_sl8 (h := inb_S8x8x256_S1x8x256_3_0_0), ← ld_sl64 (h := inb_S8x64x256_S1x64x256_3_0_0)]; sl_kernel_rfl
    · rw [← ld_sl8 (h := inb_S8x8x256_S1x8x256_2_0_0), ← ld_sl64 (h := inb_S8x64x256_S1x64x256_2_0_0)]; sl_kernel_rfl
    · rw [← ld_sl8 (h := inb_S8x8x256_S1x8x256_1_0_0), ← ld_sl64 (h := inb_S8x64x256_S1x64x256_1_0_0)]; sl_kernel_rfl
    · rw [← ld_sl8 (h := inb_S8x8x256_S1x8x256_0_0_0), ← ld_sl64 (h := inb_S8x64x256_S1x64x256_0_0_0)]; sl_kernel_rfl

/-- The statistics after `k` trips of the key loop. -/
def st3 (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) (k : ℕ) : St F :=
  iter (fun k => TT x1 x2 x5 x11 i v10 v13 v28 hw w5 k) (fun k => VM (vtM x12 i v28 hw k)) s k

theorem st3_zero (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) : st3 x1 x2 x5 x11 x12 i v10 v13 v28 hw w5 s 0 = s := rfl

theorem st3_succ (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) (k : Fin (k0_t3_loop i v28).trips) :
    st3 x1 x2 x5 x11 x12 i v10 v13 v28 hw w5 s (k.val + 1) = (st3 x1 x2 x5 x11 x12 i v10 v13 v28 hw w5 s k.val).step (TT x1 x2 x5 x11 i v10 v13 v28 hw w5 k) (VM (vtM x12 i v28 hw k)) := iter_succ ..

/-- Before trip `k` of the key loop: what is read is as it was, and the statistics are those of the trips before. -/
abbrev inv3 (c : Dev nD) (k0_t2 : Fin k0_t2_loop.trips) (v10 : IVec S1x128 32) (v13 : IVec S1x128 32) (v28 : Elt F .i32) (k0_hw1 : k0_chk1 k0_t2 v28) (w5 : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) (k : ℕ) (acc : BitVec 32) : sProp 𝕄 :=
  iprop(Pt c arg1 X1 ∗ Pt c arg2 X2 ∗ Pt c arg5 X5 ∗ Pt c arg11 X11 ∗ Pt c arg12 X12
    ∗ (∃ f, Pt c arg13 f ∗ ⌜arg13.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).m⌝)
    ∗ (∃ f, Pt c arg14 f ∗ ⌜arg14.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).l⌝)
    ∗ (∃ f, Pt c arg15 f ∗ ⌜arg15.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).a⌝))

set_option warn.classDefReducibility false in
/-- The key loop by its invariant. -/
@[sl_loop] def loopInv3 (𝒱 : Variants) (c : Dev nD) (bd : Option 𝒱.V) (E : Set ℕ) (i : grid0.Coords)
    (k0_t2 : Fin k0_t2_loop.trips) (arg17 : BitVec 32) (v6 : BitVec 32) (v10 : IVec S1x128 32) (v13 : IVec S1x128 32) (v28 : Elt F .i32) (k0_hw1 : k0_chk1 k0_t2 v28) (w1 w2 w3 w4 w5 : BitVec 32) (init : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t2 arg17 v6 v10 v13 v28 k0_hw1 w1 w2 w3 w4 w5 init where
  inv := inv3 (arg1 := arg1) (arg2 := arg2) (arg5 := arg5) (arg11 := arg11) (arg12 := arg12) (arg13 := arg13) (arg14 := arg14) (arg15 := arg15) c k0_t2 v10 v13 v28 k0_hw1 w5 X1 X2 X5 X11 X12 G13 G14 G15
  step k acc := by
    iintro ⟨H1, H2, H5, H11, H12, ⟨%f13, H13, %h13⟩, ⟨%f14, H14, %h14⟩, ⟨%f15, H15, %h15⟩⟩
    iapply (wp_wand_r Idealize.ShloMosaic.frame (wpE (defs₀ (F := F)) 𝒱 (c : Thread nD τ) bd) E)
    isplitl [H1 H2 H5 H11 H12 H13 H14 H15]
    · iapply (trip3 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i k0_t2 arg17 v6 v10 v13 v28 k0_hw1 w1 w2 w3 w4 w5 X1 X2 X5 X11 X12 k acc f13 f14 f15)
      isplitl [H1]; · iexact H1
      isplitl [H2]; · iexact H2
      isplitl [H5]; · iexact H5
      isplitl [H11]; · iexact H11
      isplitl [H12]; · iexact H12
      isplitl [H13]; · iexact H13
      isplitl [H14]; · iexact H14
      iexact H15
    · iintro %yld ⟨H1, H2, H5, H11, H12, ⟨%g13, H13, %e13⟩, ⟨%g14, H14, %e14⟩, ⟨%g15, H15, %e15⟩⟩
      isplitl [H1]; · iexact H1
      isplitl [H2]; · iexact H2
      isplitl [H5]; · iexact H5
      isplitl [H11]; · iexact H11
      isplitl [H12]; · iexact H12
      isplitl [H13]
      · iexists _; isplitl [H13]; · iexact H13
        ipureintro; rw [e13, h13, st3_succ]; rfl
      isplitl [H14]
      · iexists _; isplitl [H14]; · iexact H14
        ipureintro; rw [e14, h13, h14, st3_succ]; rfl
      · iexists _; isplitl [H15]; · iexact H15
        ipureintro; rw [e15, h13, h15, st3_succ]; rfl

end Cert.KernelIdeal.Hand
-- ==== Proof.Model2I.lean ====
module

public import proofs.«01_k».proof.Proof.Loop3I
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- A finished tile of two heads, from the left half of their two slabs. -/
def oA (v : F .f32) (l0 l1 : Vec F S1x8x256 .f32) (a0 a1 : Vec F S1x64x128 .f32) : Vec F S1x128x128 .bf16 :=
  k0_pay214 (k0_pay211 v l0 a0) (k0_pay212 a1) (k0_pay213 v l1)

/-- A finished tile of two heads, from the right half of their two slabs. -/
def oB (v : F .f32) (l0 l1 : Vec F S1x8x256 .f32) (a0 a1 : Vec F S1x64x128 .f32) : Vec F S1x128x128 .bf16 :=
  k0_pay215 (k0_pay209 v l0) (k0_pay210 v l1) a0 a1

/-- The eight finished tiles of one block of queries. -/
def OT (v : Fin 4 → F .f32) (s : St F) : Fin 8 → Vec F S1x128x128 .bf16 :=
  ![oA (v 0) (View.ld s.l (Rect.unit (s := S8x8x256) ![0, 0, 0] S1x8x256.size inb_S8x8x256_S1x8x256_0_0_0)) (View.ld s.l (Rect.unit (s := S8x8x256) ![1, 0, 0] S1x8x256.size inb_S8x8x256_S1x8x256_1_0_0)) (View.ld s.a (Rect.unit (s := S8x64x256) ![0, 0, 0] S1x64x128.size inb_S8x64x256_S1x64x128_0_0_0)) (View.ld s.a (Rect.unit (s := S8x64x256) ![1, 0, 0] S1x64x128.size inb_S8x64x256_S1x64x128_1_0_0)),
    oB (v 0) (View.ld s.l (Rect.unit (s := S8x8x256) ![0, 0, 0] S1x8x256.size inb_S8x8x256_S1x8x256_0_0_0)) (View.ld s.l (Rect.unit (s := S8x8x256) ![1, 0, 0] S1x8x256.size inb_S8x8x256_S1x8x256_1_0_0)) (View.ld s.a (Rect.unit (s := S8x64x256) ![0, 0, 128] S1x64x128.size inb_S8x64x256_S1x64x128_0_0_128)) (View.ld s.a (Rect.unit (s := S8x64x256) ![1, 0, 128] S1x64x128.size inb_S8x64x256_S1x64x128_1_0_128)),
    oA (v 1) (View.ld s.l (Rect.unit (s := S8x8x256) ![2, 0, 0] S1x8x256.size inb_S8x8x256_S1x8x256_2_0_0)) (View.ld s.l (Rect.unit (s := S8x8x256) ![3, 0, 0] S1x8x256.size inb_S8x8x256_S1x8x256_3_0_0)) (View.ld s.a (Rect.unit (s := S8x64x256) ![2, 0, 0] S1x64x128.size inb_S8x64x256_S1x64x128_2_0_0)) (View.ld s.a (Rect.unit (s := S8x64x256) ![3, 0, 0] S1x64x128.size inb_S8x64x256_S1x64x128_3_0_0)),
    oB (v 1) (View.ld s.l (Rect.unit (s := S8x8x256) ![2, 0, 0] S1x8x256.size inb_S8x8x256_S1x8x256_2_0_0)) (View.ld s.l (Rect.unit (s := S8x8x256) ![3, 0, 0] S1x8x256.size inb_S8x8x256_S1x8x256_3_0_0)) (View.ld s.a (Rect.unit (s := S8x64x256) ![2, 0, 128] S1x64x128.size inb_S8x64x256_S1x64x128_2_0_128)) (View.ld s.a (Rect.unit (s := S8x64x256) ![3, 0, 128] S1x64x128.size inb_S8x64x256_S1x64x128_3_0_128)),
    oA (v 2) (View.ld s.l (Rect.unit (s := S8x8x256) ![4, 0, 0] S1x8x256.size inb_S8x8x256_S1x8x256_4_0_0)) (View.ld s.l (Rect.unit (s := S8x8x256) ![5, 0, 0] S1x8x256.size inb_S8x8x256_S1x8x256_5_0_0)) (View.ld s.a (Rect.unit (s := S8x64x256) ![4, 0, 0] S1x64x128.size inb_S8x64x256_S1x64x128_4_0_0)) (View.ld s.a (Rect.unit (s := S8x64x256) ![5, 0, 0] S1x64x128.size inb_S8x64x256_S1x64x128_5_0_0)),
    oB (v 2) (View.ld s.l (Rect.unit (s := S8x8x256) ![4, 0, 0] S1x8x256.size inb_S8x8x256_S1x8x256_4_0_0)) (View.ld s.l (Rect.unit (s := S8x8x256) ![5, 0, 0] S1x8x256.size inb_S8x8x256_S1x8x256_5_0_0)) (View.ld s.a (Rect.unit (s := S8x64x256) ![4, 0, 128] S1x64x128.size inb_S8x64x256_S1x64x128_4_0_128)) (View.ld s.a (Rect.unit (s := S8x64x256) ![5, 0, 128] S1x64x128.size inb_S8x64x256_S1x64x128_5_0_128)),
    oA (v 3) (View.ld s.l (Rect.unit (s := S8x8x256) ![6, 0, 0] S1x8x256.size inb_S8x8x256_S1x8x256_6_0_0)) (View.ld s.l (Rect.unit (s := S8x8x256) ![7, 0, 0] S1x8x256.size inb_S8x8x256_S1x8x256_7_0_0)) (View.ld s.a (Rect.unit (s := S8x64x256) ![6, 0, 0] S1x64x128.size inb_S8x64x256_S1x64x128_6_0_0)) (View.ld s.a (Rect.unit (s := S8x64x256) ![7, 0, 0] S1x64x128.size inb_S8x64x256_S1x64x128_7_0_0)),
    oB (v 3) (View.ld s.l (Rect.unit (s := S8x8x256) ![6, 0, 0] S1x8x256.size inb_S8x8x256_S1x8x256_6_0_0)) (View.ld s.l (Rect.unit (s := S8x8x256) ![7, 0, 0] S1x8x256.size inb_S8x8x256_S1x8x256_7_0_0)) (View.ld s.a (Rect.unit (s := S8x64x256) ![6, 0, 128] S1x64x128.size inb_S8x64x256_S1x64x128_6_0_128)) (View.ld s.a (Rect.unit (s := S8x64x256) ![7, 0, 128] S1x64x128.size inb_S8x64x256_S1x64x128_7_0_128))]

/-- The key block that holds the word `v`'s position: the division rounded down, as the kernel writes it. -/
def w45 (v28 : BitVec 32) : BitVec 32 :=
  let v29 : BitVec 32 := Scalar.divsi v28 128#32
  let v31 : BitVec 32 := Scalar.extui (Scalar.cmpi .sgt v28 0#32)
  let v33 : BitVec 32 := Scalar.extui (Scalar.cmpi .slt v28 0#32)
  let v34 : BitVec 32 := Scalar.subi v31 v33
  let v36 : BitVec 32 := Scalar.extui (Scalar.cmpi .sgt 128#32 0#32)
  let v38 : BitVec 32 := Scalar.extui (Scalar.cmpi .slt 128#32 0#32)
  let v39 : BitVec 32 := Scalar.subi v36 v38
  let v43 : BitVec 1 := Scalar.andi (Scalar.cmpi .ne v34 v39) (Scalar.cmpi .ne (Scalar.remsi v28 128#32) 0#32)
  Scalar.select v43 (Scalar.subi v29 1#32) v29

/-- The start of the document the block's first query lies in. -/
def w28 (i : grid0.Coords) (x10 : S16x8x128.Idx → Elt F .i32) (k : Fin k0_t2_loop.trips) : Elt F .i32 :=
  View.ld x10 (Rect.unit (s := S16x8x128) (k0_off14 i k) S1x1x1.size (k0_off14_inb i k)) (Shape.Idx.first (s := S1x1x1) (by decide))

/-- The statistics of a finished block of queries. -/
def stF (i : grid0.Coords) (x1 : S16.Idx → Elt F .f32) (x2 : S4.Idx → Elt F .f32) (x5 : S1x2048x1024.Idx → Elt F .fp8e4m3) (x9 x10 : S16x8x128.Idx → Elt F .i32)
    (x11 : S4x16x256x128.Idx → Elt F .fp8e4m3) (x12 : S16x256x128.Idx → Elt F .bf16) (hw : ∀ k, k0_chk1 k (w28 i x10 k)) (k : Fin k0_t2_loop.trips) : St F :=
  st3 x1 x2 x5 x11 x12 k (k0_pay202 (F := F) (View.ld x9 (Rect.unit (s := S16x8x128) (k0_off13 i k) S1x1x128.size (k0_off13_inb i k)))) (k0_pay203 0#32 1#32 k) (w28 i x10 k) (hw k) (w45 (w28 i x10 k))
    ⟨k0_pay204, k0_pay205, k0_pay206⟩ (k0_t3_loop k (w28 i x10 k)).trips

/-- The output block: the rows of a block of queries, eight tiles wide. -/
def outM (i : grid0.Coords) (x1 : S16.Idx → Elt F .f32) (x2 x3 : S4.Idx → Elt F .f32) (x5 : S1x2048x1024.Idx → Elt F .fp8e4m3) (x9 x10 : S16x8x128.Idx → Elt F .i32)
    (x11 : S4x16x256x128.Idx → Elt F .fp8e4m3) (x12 : S16x256x128.Idx → Elt F .bf16) (hw : ∀ k, k0_chk1 k (w28 i x10 k)) : S1x2048x1024.Idx → Elt F .bf16 :=
  fun y => OT (ksM x3) (stF i x1 x2 x5 x9 x10 x11 x12 hw ⟨(y 1).val / 128, Nat.div_lt_of_lt_mul (y 1).isLt⟩) ⟨(y 2).val / 128, Nat.div_lt_of_lt_mul (y 2).isLt⟩
    (ix3 0 ⟨(y 1).val % 128, Nat.mod_lt _ (by decide)⟩ ⟨(y 2).val % 128, Nat.mod_lt _ (by decide)⟩)

theorem read_whole (f : BufTy.Contents (Elt F) arg13.view.ty) (w : S8x8x256.Idx → Elt F .f32) (h : ∀ a, (![0, 0, 0] : Fin 3 → ℕ) a + S8x8x256.size a ≤ S8x8x256.size a) :
    arg13.view.read (Elt F) (arg13.view.writes (Elt F) f [⟨Rect.unit (s := S8x8x256) ![0, 0, 0] S8x8x256.size h, w⟩]) = w := by
  funext y
  refine View.read_writes_apply_of_pieces _ _ w _ ?_ y (View.cover_of_tiledL (s := S8x8x256) _ S8x8x256.size (by sl_kernel_rfl) y)
  simp only [List.forall_mem_cons, List.not_mem_nil, false_imp_iff, implies_true, _root_.and_true]
  intro x; refine congrArg w (funext fun a => Fin.ext ?_)
  fin_cases a
  · change (x 0).val = 0 + 1 * (x 0).val; omega
  · change (x 1).val = 0 + 1 * (x 1).val; omega
  · change (x 2).val = 0 + 1 * (x 2).val; omega

theorem read_whole' (f : BufTy.Contents (Elt F) arg15.view.ty) (w : S8x64x256.Idx → Elt F .f32) (h : ∀ a, (![0, 0, 0] : Fin 3 → ℕ) a + S8x64x256.size a ≤ S8x64x256.size a) :
    arg15.view.read (Elt F) (arg15.view.writes (Elt F) f [⟨Rect.unit (s := S8x64x256) ![0, 0, 0] S8x64x256.size h, w⟩]) = w := by
  funext y
  refine View.read_writes_apply_of_pieces _ _ w _ ?_ y (View.cover_of_tiledL (s := S8x64x256) _ S8x64x256.size (by sl_kernel_rfl) y)
  simp only [List.forall_mem_cons, List.not_mem_nil, false_imp_iff, implies_true, _root_.and_true]
  intro x; refine congrArg w (funext fun a => Fin.ext ?_)
  fin_cases a
  · change (x 0).val = 0 + 1 * (x 0).val; omega
  · change (x 1).val = 0 + 1 * (x 1).val; omega
  · change (x 2).val = 0 + 1 * (x 2).val; omega

theorem emb_tile (k j : ℕ) (hj : j < 8) (W : Fin 8 → Vec F S1x128x128 .bf16) (o : Fin 3 → ℕ) (h : ∀ a, o a + S1x128x128.size a ≤ S1x2048x1024.size a) (e : o = ![0, 128 * k, 128 * j]) (x : S1x128x128.Idx) :
    W ⟨j, hj⟩ x = (fun y : S1x2048x1024.Idx => W ⟨(y 2).val / 128, Nat.div_lt_of_lt_mul (y 2).isLt⟩ (ix3 0 ⟨(y 1).val % 128, Nat.mod_lt _ (by decide)⟩ ⟨(y 2).val % 128, Nat.mod_lt _ (by decide)⟩)) ((Rect.unit (s := S1x2048x1024) o S1x128x128.size h).emb x) := by
  subst e
  have h0 : (x 0).val < 1 := (x 0).isLt
  have h1 : (x 1).val < 128 := (x 1).isLt
  have h2 : (x 2).val < 128 := (x 2).isLt
  have e1 : (((Rect.unit (s := S1x2048x1024) ![0, 128 * k, 128 * j] S1x128x128.size h).emb x) 1).val = 128 * k + 1 * (x 1).val := rfl
  have e2 : (((Rect.unit (s := S1x2048x1024) ![0, 128 * k, 128 * j] S1x128x128.size h).emb x) 2).val = 128 * j + 1 * (x 2).val := rfl
  have d2 : (((Rect.unit (s := S1x2048x1024) ![0, 128 * k, 128 * j] S1x128x128.size h).emb x) 2).val / 128 = j := by rw [e2]; omega
  have m1 : (((Rect.unit (s := S1x2048x1024) ![0, 128 * k, 128 * j] S1x128x128.size h).emb x) 1).val % 128 = (x 1).val := by rw [e1]; omega
  have m2 : (((Rect.unit (s := S1x2048x1024) ![0, 128 * k, 128 * j] S1x128x128.size h).emb x) 2).val % 128 = (x 2).val := by rw [e2]; omega
  show W ⟨j, hj⟩ x = W _ _
  refine congr (congrArg W (Fin.ext ?_)) ?_
  · exact d2.symm
  · funext a; apply Fin.ext; fin_cases a
    · change (x 0).val = 0; omega
    · exact m1.symm
    · exact m2.symm

/-- Reading after the eight tiles of a block of rows were stored: in the block a tile's word, elsewhere what was there. -/
theorem read_tiles (k : ℕ) (f : BufTy.Contents (Elt F) arg8.view.ty) (W : Fin 8 → Vec F S1x128x128 .bf16) (o0 o1 o2 o3 o4 o5 o6 o7 : Fin 3 → ℕ) (h0 : ∀ a, o0 a + S1x128x128.size a ≤ S1x2048x1024.size a) (e0 : o0 = ![0, 128 * k, 0]) (h1 : ∀ a, o1 a + S1x128x128.size a ≤ S1x2048x1024.size a) (e1 : o1 = ![0, 128 * k, 128]) (h2 : ∀ a, o2 a + S1x128x128.size a ≤ S1x2048x1024.size a) (e2 : o2 = ![0, 128 * k, 256]) (h3 : ∀ a, o3 a + S1x128x128.size a ≤ S1x2048x1024.size a) (e3 : o3 = ![0, 128 * k, 384]) (h4 : ∀ a, o4 a + S1x128x128.size a ≤ S1x2048x1024.size a) (e4 : o4 = ![0, 128 * k, 512]) (h5 : ∀ a, o5 a + S1x128x128.size a ≤ S1x2048x1024.size a) (e5 : o5 = ![0, 128 * k, 640]) (h6 : ∀ a, o6 a + S1x128x128.size a ≤ S1x2048x1024.size a) (e6 : o6 = ![0, 128 * k, 768]) (h7 : ∀ a, o7 a + S1x128x128.size a ≤ S1x2048x1024.size a) (e7 : o7 = ![0, 128 * k, 896]) :
    (∀ y, (y 1).val / 128 = k → arg8.view.read (Elt F) (arg8.view.writes (Elt F) f [⟨Rect.unit (s := S1x2048x1024) o7 S1x128x128.size h7, W 7⟩, ⟨Rect.unit (s := S1x2048x1024) o6 S1x128x128.size h6, W 6⟩, ⟨Rect.unit (s := S1x2048x1024) o5 S1x128x128.size h5, W 5⟩, ⟨Rect.unit (s := S1x2048x1024) o4 S1x128x128.size h4, W 4⟩, ⟨Rect.unit (s := S1x2048x1024) o3 S1x128x128.size h3, W 3⟩, ⟨Rect.unit (s := S1x2048x1024) o2 S1x128x128.size h2, W 2⟩, ⟨Rect.unit (s := S1x2048x1024) o1 S1x128x128.size h1, W 1⟩, ⟨Rect.unit (s := S1x2048x1024) o0 S1x128x128.size h0, W 0⟩]) y = W ⟨(y 2).val / 128, Nat.div_lt_of_lt_mul (y 2).isLt⟩ (ix3 0 ⟨(y 1).val % 128, Nat.mod_lt _ (by decide)⟩ ⟨(y 2).val % 128, Nat.mod_lt _ (by decide)⟩))
    ∧ (∀ y, (y 1).val / 128 ≠ k → arg8.view.read (Elt F) (arg8.view.writes (Elt F) f [⟨Rect.unit (s := S1x2048x1024) o7 S1x128x128.size h7, W 7⟩, ⟨Rect.unit (s := S1x2048x1024) o6 S1x128x128.size h6, W 6⟩, ⟨Rect.unit (s := S1x2048x1024) o5 S1x128x128.size h5, W 5⟩, ⟨Rect.unit (s := S1x2048x1024) o4 S1x128x128.size h4, W 4⟩, ⟨Rect.unit (s := S1x2048x1024) o3 S1x128x128.size h3, W 3⟩, ⟨Rect.unit (s := S1x2048x1024) o2 S1x128x128.size h2, W 2⟩, ⟨Rect.unit (s := S1x2048x1024) o1 S1x128x128.size h1, W 1⟩, ⟨Rect.unit (s := S1x2048x1024) o0 S1x128x128.size h0, W 0⟩]) y = arg8.view.read (Elt F) f y) := by
  constructor
  · intro y hy
    refine View.read_writes_apply_of_pieces _ _ (fun y : S1x2048x1024.Idx => W ⟨(y 2).val / 128, Nat.div_lt_of_lt_mul (y 2).isLt⟩ (ix3 0 ⟨(y 1).val % 128, Nat.mod_lt _ (by decide)⟩ ⟨(y 2).val % 128, Nat.mod_lt _ (by decide)⟩)) _ ?_ y ?_
    · simp only [List.forall_mem_cons, List.not_mem_nil, false_imp_iff, implies_true, _root_.and_true]
      exact ⟨fun x => emb_tile k 7 (by decide) W o7 h7 e7 x, fun x => emb_tile k 6 (by decide) W o6 h6 e6 x, fun x => emb_tile k 5 (by decide) W o5 h5 e5 x, fun x => emb_tile k 4 (by decide) W o4 h4 e4 x, fun x => emb_tile k 3 (by decide) W o3 h3 e3 x, fun x => emb_tile k 2 (by decide) W o2 h2 e2 x, fun x => emb_tile k 1 (by decide) W o1 h1 e1 x, fun x => emb_tile k 0 (by decide) W o0 h0 e0 x⟩
    · have y0 : (y 0).val < 1 := (y 0).isLt
      have y2 : (y 2).val < 1024 := (y 2).isLt
      simp only [List.exists_mem_cons_iff, List.not_mem_nil, false_and, exists_false, or_false, Rect.mem_set_unit]
      have hh : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
      have key : ∀ (j : ℕ) (o : Fin 3 → ℕ), o = ![0, 128 * k, 128 * j] → (y 2).val / 128 = j → ∀ a : Fin 3, o a ≤ (y a).val ∧ (y a).val < o a + S1x128x128.size a := by
        intro j o e hj a; subst e; fin_cases a
        · change 0 ≤ (y 0).val ∧ (y 0).val < 0 + 1; omega
        · change 128 * k ≤ (y 1).val ∧ (y 1).val < 128 * k + 128; omega
        · change 128 * j ≤ (y 2).val ∧ (y 2).val < 128 * j + 128; omega
      rcases hh with h | h | h | h | h | h | h | h
      · exact .inl (key 7 o7 e7 h)
      · exact .inr (.inl (key 6 o6 e6 h))
      · exact .inr (.inr (.inl (key 5 o5 e5 h)))
      · exact .inr (.inr (.inr (.inl (key 4 o4 e4 h))))
      · exact .inr (.inr (.inr (.inr (.inl (key 3 o3 e3 h)))))
      · exact .inr (.inr (.inr (.inr (.inr (.inl (key 2 o2 e2 h))))))
      · exact .inr (.inr (.inr (.inr (.inr (.inr (.inl (key 1 o1 e1 h)))))))
      · exact .inr (.inr (.inr (.inr (.inr (.inr (.inr (key 0 o0 e0 h)))))))
  · intro y hy
    have key : ∀ (j : ℕ) (o : Fin 3 → ℕ), o = ![0, 128 * k, 128 * j] → ¬ ∀ a : Fin 3, o a ≤ (y a).val ∧ (y a).val < o a + S1x128x128.size a := by
      intro j o e h; subst e
      have h1 : 128 * k ≤ (y 1).val ∧ (y 1).val < 128 * k + 128 := h 1
      omega
    refine View.read_writes_apply_of_forall_not_mem _ _ y _ ?_
    simp only [List.forall_mem_cons, List.not_mem_nil, false_imp_iff, implies_true, _root_.and_true, Rect.mem_set_unit]
    exact ⟨key 7 o7 e7, key 6 o6 e6, key 5 o5 e5, key 4 o4 e4, key 3 o3 e3, key 2 o2 e2, key 1 o1 e1, key 0 o0 e0⟩

end Cert.KernelIdeal.Hand
-- ==== Proof.Loop2I.lean ====
module

public import proofs.«01_k».proof.Proof.Model2I
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- One trip of the loop over blocks of queries. -/
theorem trip2 (𝒱 : Variants) (c : Dev nD) (bd : Option 𝒱.V) (E : Set ℕ) (i : grid0.Coords) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k))
    (k : Fin k0_t2_loop.trips) (acc : Unit) (f8 : BufTy.Contents (Elt F) arg8.view.ty) (f13 : BufTy.Contents (Elt F) arg13.view.ty) (f14 : BufTy.Contents (Elt F) arg14.view.ty) (f15 : BufTy.Contents (Elt F) arg15.view.ty) :
    (iprop(Pt c arg1 X1 ∗ Pt c arg2 X2 ∗ Pt c arg3 X3 ∗ Pt c arg5 X5 ∗ Pt c arg9 X9 ∗ Pt c arg10 X10 ∗ Pt c arg11 X11 ∗ Pt c arg12 X12 ∗ Pt c arg8 f8 ∗ Pt c arg13 f13 ∗ Pt c arg14 f14 ∗ Pt c arg15 f15) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 k acc)
          (fun _ => iprop(Pt c arg1 X1 ∗ Pt c arg2 X2 ∗ Pt c arg3 X3 ∗ Pt c arg5 X5 ∗ Pt c arg9 X9 ∗ Pt c arg10 X10 ∗ Pt c arg11 X11 ∗ Pt c arg12 X12
            ∗ (∃ f, Pt c arg8 f ∗ ⌜(∀ y, (y 1).val / 128 = k.val → arg8.view.read (Elt F) f y = outM i (arg1.view.read (Elt F) X1) (arg2.view.read (Elt F) X2) (arg3.view.read (Elt F) X3) (arg5.view.read (Elt F) X5) (arg9.view.read (Elt F) X9) (arg10.view.read (Elt F) X10) (arg11.view.read (Elt F) X11) (arg12.view.read (Elt F) X12) hw y)
                ∧ (∀ y, (y 1).val / 128 ≠ k.val → arg8.view.read (Elt F) f y = arg8.view.read (Elt F) f8 y)⌝)
            ∗ (∃ f, Pt c arg13 f) ∗ (∃ f, Pt c arg14 f) ∗ (∃ f, Pt c arg15 f))) := by
  have hk : k0_chk1 k (View.readAt (Elt F) arg10.view (Rect.unit (s := S16x8x128) (k0_off14 i k) S1x1x1.size (k0_off14_inb i k)).toLoadRect X10 (Shape.Idx.first (s := S1x1x1) (by decide))) := hw k
  unfold k0_t2_body
  iintro ⟨H1, H2, H3, H5, H9, H10, H11, H12, H8, H13, H14, H15⟩
  sl_exec (disch := exact hk)
  sl_step
  isplitl [H1]; · iexact H1
  isplitl [H2]; · iexact H2
  isplitl [H3]; · iexact H3
  isplitl [H5]; · iexact H5
  isplitl [H9]; · iexact H9
  isplitl [H10]; · iexact H10
  isplitl [H11]; · iexact H11
  isplitl [H12]; · iexact H12
  isplitl [H8]
  · iexists _; isplitl [H8]; · iexact H8
    ipureintro
    have hs : (⟨arg13.view.read (Elt F) fL0, arg14.view.read (Elt F) fL1, arg15.view.read (Elt F) fL2⟩ : St F) = stF i (arg1.view.read (Elt F) X1) (arg2.view.read (Elt F) X2) (arg5.view.read (Elt F) X5) (arg9.view.read (Elt F) X9) (arg10.view.read (Elt F) X10) (arg11.view.read (Elt F) X11) (arg12.view.read (Elt F) X12) hw k := by
      have e13 : arg13.view.read (Elt F) (arg13.view.writes (Elt F) arg13.view.junk trip2.sl.H13_1) = k0_pay204 := read_whole _ _ _
      have e14 : arg14.view.read (Elt F) (arg14.view.writes (Elt F) arg14.view.junk trip2.sl.H14_1) = k0_pay205 := read_whole (arg13 := arg14) _ _ _
      have e15 : arg15.view.read (Elt F) (arg15.view.writes (Elt F) arg15.view.junk trip2.sl.H15_1) = k0_pay206 := read_whole' _ _ _
      rw [hL6, hL8, hL10, e13, e14, e15]
      sl_kernel_rfl
    have ht := read_tiles (arg8 := arg8) k.val f8 (OT (ksM (arg3.view.read (Elt F) X3)) ⟨arg13.view.read (Elt F) fL0, arg14.view.read (Elt F) fL1, arg15.view.read (Elt F) fL2⟩)
      (k0_off47 k) (k0_off48 k) (k0_off49 k) (k0_off50 k) (k0_off51 k) (k0_off52 k) (k0_off53 k) (k0_off54 k)
      (k0_off47_inb k) (k0_off47_eq k) (k0_off48_inb k) (k0_off48_eq k) (k0_off49_inb k) (k0_off49_eq k) (k0_off50_inb k) (k0_off50_eq k) (k0_off51_inb k) (k0_off51_eq k) (k0_off52_inb k) (k0_off52_eq k) (k0_off53_inb k) (k0_off53_eq k) (k0_off54_inb k) (k0_off54_eq k)
    refine ⟨fun y hy => Eq.trans ?_ ((ht.1 y hy).trans ?_), fun y hy => Eq.trans ?_ (ht.2 y hy)⟩
    · refine congrFun (congrArg (fun L => arg8.view.read (Elt F) (arg8.view.writes (Elt F) f8 L)) ?_) y
      sl_kernel_rfl
    · rw [hs]
      have ey : (⟨(y 1).val / 128, Nat.div_lt_of_lt_mul (y 1).isLt⟩ : Fin k0_t2_loop.trips) = k := Fin.ext hy
      unfold outM; rw [ey]
    · refine congrFun (congrArg (fun L => arg8.view.read (Elt F) (arg8.view.writes (Elt F) f8 L)) ?_) y
      sl_kernel_rfl
  isplitl [H13]; · iexists _; iexact H13
  isplitl [H14]; · iexists _; iexact H14
  iexists _; iexact H15

/-- Before trip `k` of the loop over blocks of queries: the rows of the blocks before are finished. -/
abbrev inv2 (c : Dev nD) (i : grid0.Coords)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k)) (k : ℕ) (acc : Unit) : sProp 𝕄 :=
  iprop(Pt c arg1 X1 ∗ Pt c arg2 X2 ∗ Pt c arg3 X3 ∗ Pt c arg5 X5 ∗ Pt c arg9 X9 ∗ Pt c arg10 X10 ∗ Pt c arg11 X11 ∗ Pt c arg12 X12
    ∗ (∃ f, Pt c arg8 f ∗ ⌜∀ y, (y 1).val / 128 < k → arg8.view.read (Elt F) f y = outM i (arg1.view.read (Elt F) X1) (arg2.view.read (Elt F) X2) (arg3.view.read (Elt F) X3) (arg5.view.read (Elt F) X5) (arg9.view.read (Elt F) X9) (arg10.view.read (Elt F) X10) (arg11.view.read (Elt F) X11) (arg12.view.read (Elt F) X12) hw y⌝)
    ∗ (∃ f, Pt c arg13 f) ∗ (∃ f, Pt c arg14 f) ∗ (∃ f, Pt c arg15 f))

set_option warn.classDefReducibility false in
/-- The loop over blocks of queries by its invariant. -/
def loopInv2 (𝒱 : Variants) (c : Dev nD) (bd : Option 𝒱.V) (E : Set ℕ) (i : grid0.Coords) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k)) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 where
  inv := inv2 (arg1 := arg1) (arg2 := arg2) (arg3 := arg3) (arg5 := arg5) (arg8 := arg8) (arg9 := arg9) (arg10 := arg10) (arg11 := arg11) (arg12 := arg12) (arg13 := arg13) (arg14 := arg14) (arg15 := arg15) c i X1 X2 X3 X5 X9 X10 X11 X12 hw
  step k acc := by
    iintro ⟨H1, H2, H3, H5, H9, H10, H11, H12, ⟨%f8, H8, %h8⟩, ⟨%f13, H13⟩, ⟨%f14, H14⟩, ⟨%f15, H15⟩⟩
    iapply (wp_wand_r Idealize.ShloMosaic.frame (wpE (defs₀ (F := F)) 𝒱 (c : Thread nD τ) bd) E)
    isplitl [H1 H2 H3 H5 H9 H10 H11 H12 H8 H13 H14 H15]
    · iapply (trip2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i arg0 X1 X2 X3 X5 X9 X10 X11 X12 hw k acc f8 f13 f14 f15)
      isplitl [H1]; · iexact H1
      isplitl [H2]; · iexact H2
      isplitl [H3]; · iexact H3
      isplitl [H5]; · iexact H5
      isplitl [H9]; · iexact H9
      isplitl [H10]; · iexact H10
      isplitl [H11]; · iexact H11
      isplitl [H12]; · iexact H12
      isplitl [H8]; · iexact H8
      isplitl [H13]; · iexact H13
      isplitl [H14]; · iexact H14
      iexact H15
    · iintro %yld ⟨H1, H2, H3, H5, H9, H10, H11, H12, ⟨%g8, H8, %e8⟩, H13, H14, H15⟩
      isplitl [H1]; · iexact H1
      isplitl [H2]; · iexact H2
      isplitl [H3]; · iexact H3
      isplitl [H5]; · iexact H5
      isplitl [H9]; · iexact H9
      isplitl [H10]; · iexact H10
      isplitl [H11]; · iexact H11
      isplitl [H12]; · iexact H12
      isplitl [H8]
      · iexists _; isplitl [H8]; · iexact H8
        ipureintro
        intro y hy
        by_cases hk : (y 1).val / 128 = k.val
        · exact e8.1 y hk
        · rw [e8.2 y hk]; exact h8 y (by omega)
      isplitl [H13]; · iexact H13
      isplitl [H14]; · iexact H14
      iexact H15

end Cert.KernelIdeal.Hand
-- ==== Proof.Loop1I.lean ====
module

public import proofs.«01_k».proof.Proof.Loop3I
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

theorem kzI {a b : ℕ} (ha : a < 4) (hb : b < 256) : 2 * a + b / 128 < 8 := by omega

/-- The eight padded key tiles of one key block: per key head the lanes kept in place and the lanes moved by half. -/
def KZ (x6 : S1x2048x256.Idx → Elt F .fp8e4m3) (k : Fin k0_t1_loop.trips) : Fin 8 → Vec F S1x1x128x128 .fp8e4m3 :=
  let a : Vec F S1x128x128 .fp8e4m3 := View.ld x6 (Rect.unit (s := S1x2048x256) (k0_off1 k) S1x128x128.size (k0_off1_inb k))
  let c : Vec F S1x128x128 .fp8e4m3 := View.ld x6 (Rect.unit (s := S1x2048x256) (k0_off6 k) S1x128x128.size (k0_off6_inb k))
  ![k0_pay26 a, k0_pay27 a, k0_pay29 a, k0_pay30 (k0_pay28 a), k0_pay32 c, k0_pay33 c, k0_pay1 (k0_pay35 c), k0_pay2 (k0_pay34 c)]

/-- The two transposed value tiles of one key block. -/
def VTM (x7 : S1x2048x256.Idx → Elt F .fp8e4m3) (k : Fin k0_t1_loop.trips) : Fin 2 → Vec F S1x128x128 .bf16 :=
  ![k0_pay3 (View.ld x7 (Rect.unit (s := S1x2048x256) (k0_off1 k) S1x128x128.size (k0_off1_inb k))),
    k0_pay4 (View.ld x7 (Rect.unit (s := S1x2048x256) (k0_off6 k) S1x128x128.size (k0_off6_inb k)))]

/-- The padded keys of all blocks. -/
def kzG (x6 : S1x2048x256.Idx → Elt F .fp8e4m3) : S4x16x256x128.Idx → Elt F .fp8e4m3 :=
  fun y => KZ x6 (y 1) ⟨2 * (y 0).val + (y 2).val / 128, kzI (y 0).isLt (y 2).isLt⟩ (ix4 0 0 ⟨(y 2).val % 128, Nat.mod_lt _ (by decide)⟩ (y 3))

/-- The transposed values of all blocks. -/
def vtG (x7 : S1x2048x256.Idx → Elt F .fp8e4m3) : S16x256x128.Idx → Elt F .bf16 :=
  fun y => VTM x7 (y 0) ⟨(y 1).val / 128, Nat.div_lt_of_lt_mul (y 1).isLt⟩ (ix3 0 ⟨(y 1).val % 128, Nat.mod_lt _ (by decide)⟩ (y 2))

theorem emb_kz (k j : ℕ) (hj : j < 8) (W : Fin 8 → Vec F S1x1x128x128 .fp8e4m3) (o : Fin 4 → ℕ) (h : ∀ a, o a + S1x1x128x128.size a ≤ S4x16x256x128.size a) (e : o = ![j / 2, k, 128 * (j % 2), 0]) (x : S1x1x128x128.Idx) :
    W ⟨j, hj⟩ x = (fun y : S4x16x256x128.Idx => W ⟨2 * (y 0).val + (y 2).val / 128, kzI (y 0).isLt (y 2).isLt⟩ (ix4 0 0 ⟨(y 2).val % 128, Nat.mod_lt _ (by decide)⟩ (y 3))) ((Rect.unit (s := S4x16x256x128) o S1x1x128x128.size h).emb x) := by
  subst e
  have h0 : (x 0).val < 1 := (x 0).isLt
  have h1 : (x 1).val < 1 := (x 1).isLt
  have h2 : (x 2).val < 128 := (x 2).isLt
  have e0 : (((Rect.unit (s := S4x16x256x128) ![j / 2, k, 128 * (j % 2), 0] S1x1x128x128.size h).emb x) 0).val = j / 2 + 1 * (x 0).val := rfl
  have e2 : (((Rect.unit (s := S4x16x256x128) ![j / 2, k, 128 * (j % 2), 0] S1x1x128x128.size h).emb x) 2).val = 128 * (j % 2) + 1 * (x 2).val := rfl
  have e3 : (((Rect.unit (s := S4x16x256x128) ![j / 2, k, 128 * (j % 2), 0] S1x1x128x128.size h).emb x) 3).val = 0 + 1 * (x 3).val := rfl
  show W ⟨j, hj⟩ x = W _ _
  refine congr (congrArg W (Fin.ext ?_)) ?_
  · show j = 2 * _ + _ / 128
    rw [e0, e2]; omega
  · funext a; apply Fin.ext; fin_cases a
    · change (x 0).val = 0; omega
    · change (x 1).val = 0; omega
    · show (x 2).val = _ % 128
      rw [e2]; omega
    · exact Eq.trans (by omega : (x 3).val = 0 + 1 * (x 3).val) e3.symm

theorem emb_vt (k j : ℕ) (hj : j < 2) (W : Fin 2 → Vec F S1x128x128 .bf16) (o : Fin 3 → ℕ) (h : ∀ a, o a + S1x128x128.size a ≤ S16x256x128.size a) (e : o = ![k, 128 * j, 0]) (x : S1x128x128.Idx) :
    W ⟨j, hj⟩ x = (fun y : S16x256x128.Idx => W ⟨(y 1).val / 128, Nat.div_lt_of_lt_mul (y 1).isLt⟩ (ix3 0 ⟨(y 1).val % 128, Nat.mod_lt _ (by decide)⟩ (y 2))) ((Rect.unit (s := S16x256x128) o S1x128x128.size h).emb x) := by
  subst e
  have h0 : (x 0).val < 1 := (x 0).isLt
  have h1 : (x 1).val < 128 := (x 1).isLt
  have e1 : (((Rect.unit (s := S16x256x128) ![k, 128 * j, 0] S1x128x128.size h).emb x) 1).val = 128 * j + 1 * (x 1).val := rfl
  have e2 : (((Rect.unit (s := S16x256x128) ![k, 128 * j, 0] S1x128x128.size h).emb x) 2).val = 0 + 1 * (x 2).val := rfl
  show W ⟨j, hj⟩ x = W _ _
  refine congr (congrArg W (Fin.ext ?_)) ?_
  · show j = _ / 128
    rw [e1]; omega
  · funext a; apply Fin.ext; fin_cases a
    · change (x 0).val = 0; omega
    · show (x 1).val = _ % 128
      rw [e1]; omega
    · exact Eq.trans (by omega : (x 2).val = 0 + 1 * (x 2).val) e2.symm

/-- Reading the padded keys after one block's tiles were stored. -/
theorem read_kz (k : ℕ) (f : BufTy.Contents (Elt F) arg11.view.ty) (W : Fin 8 → Vec F S1x1x128x128 .fp8e4m3) (o0 o1 o2 o3 o4 o5 o6 o7 : Fin 4 → ℕ) (h0 : ∀ a, o0 a + S1x1x128x128.size a ≤ S4x16x256x128.size a) (e0 : o0 = ![0, k, 0, 0]) (h1 : ∀ a, o1 a + S1x1x128x128.size a ≤ S4x16x256x128.size a) (e1 : o1 = ![0, k, 128, 0]) (h2 : ∀ a, o2 a + S1x1x128x128.size a ≤ S4x16x256x128.size a) (e2 : o2 = ![1, k, 0, 0]) (h3 : ∀ a, o3 a + S1x1x128x128.size a ≤ S4x16x256x128.size a) (e3 : o3 = ![1, k, 128, 0]) (h4 : ∀ a, o4 a + S1x1x128x128.size a ≤ S4x16x256x128.size a) (e4 : o4 = ![2, k, 0, 0]) (h5 : ∀ a, o5 a + S1x1x128x128.size a ≤ S4x16x256x128.size a) (e5 : o5 = ![2, k, 128, 0]) (h6 : ∀ a, o6 a + S1x1x128x128.size a ≤ S4x16x256x128.size a) (e6 : o6 = ![3, k, 0, 0]) (h7 : ∀ a, o7 a + S1x1x128x128.size a ≤ S4x16x256x128.size a) (e7 : o7 = ![3, k, 128, 0]) :
    (∀ y, (y 1).val = k → arg11.view.read (Elt F) (arg11.view.writes (Elt F) f [⟨Rect.unit (s := S4x16x256x128) o7 S1x1x128x128.size h7, W 7⟩, ⟨Rect.unit (s := S4x16x256x128) o6 S1x1x128x128.size h6, W 6⟩, ⟨Rect.unit (s := S4x16x256x128) o5 S1x1x128x128.size h5, W 5⟩, ⟨Rect.unit (s := S4x16x256x128) o4 S1x1x128x128.size h4, W 4⟩, ⟨Rect.unit (s := S4x16x256x128) o3 S1x1x128x128.size h3, W 3⟩, ⟨Rect.unit (s := S4x16x256x128) o2 S1x1x128x128.size h2, W 2⟩, ⟨Rect.unit (s := S4x16x256x128) o1 S1x1x128x128.size h1, W 1⟩, ⟨Rect.unit (s := S4x16x256x128) o0 S1x1x128x128.size h0, W 0⟩]) y = W ⟨2 * (y 0).val + (y 2).val / 128, kzI (y 0).isLt (y 2).isLt⟩ (ix4 0 0 ⟨(y 2).val % 128, Nat.mod_lt _ (by decide)⟩ (y 3)))
    ∧ (∀ y, (y 1).val ≠ k → arg11.view.read (Elt F) (arg11.view.writes (Elt F) f [⟨Rect.unit (s := S4x16x256x128) o7 S1x1x128x128.size h7, W 7⟩, ⟨Rect.unit (s := S4x16x256x128) o6 S1x1x128x128.size h6, W 6⟩, ⟨Rect.unit (s := S4x16x256x128) o5 S1x1x128x128.size h5, W 5⟩, ⟨Rect.unit (s := S4x16x256x128) o4 S1x1x128x128.size h4, W 4⟩, ⟨Rect.unit (s := S4x16x256x128) o3 S1x1x128x128.size h3, W 3⟩, ⟨Rect.unit (s := S4x16x256x128) o2 S1x1x128x128.size h2, W 2⟩, ⟨Rect.unit (s := S4x16x256x128) o1 S1x1x128x128.size h1, W 1⟩, ⟨Rect.unit (s := S4x16x256x128) o0 S1x1x128x128.size h0, W 0⟩]) y = arg11.view.read (Elt F) f y) := by
  constructor
  · intro y hy
    refine View.read_writes_apply_of_pieces _ _ (fun y : S4x16x256x128.Idx => W ⟨2 * (y 0).val + (y 2).val / 128, kzI (y 0).isLt (y 2).isLt⟩ (ix4 0 0 ⟨(y 2).val % 128, Nat.mod_lt _ (by decide)⟩ (y 3))) _ ?_ y ?_
    · simp only [List.forall_mem_cons, List.not_mem_nil, false_imp_iff, implies_true, _root_.and_true]
      exact ⟨fun x => emb_kz k 7 (by decide) W o7 h7 e7 x, fun x => emb_kz k 6 (by decide) W o6 h6 e6 x, fun x => emb_kz k 5 (by decide) W o5 h5 e5 x, fun x => emb_kz k 4 (by decide) W o4 h4 e4 x, fun x => emb_kz k 3 (by decide) W o3 h3 e3 x, fun x => emb_kz k 2 (by decide) W o2 h2 e2 x, fun x => emb_kz k 1 (by decide) W o1 h1 e1 x, fun x => emb_kz k 0 (by decide) W o0 h0 e0 x⟩
    · have y0 : (y 0).val < 4 := (y 0).isLt
      have y2 : (y 2).val < 256 := (y 2).isLt
      have y3 : (y 3).val < 128 := (y 3).isLt
      simp only [List.exists_mem_cons_iff, List.not_mem_nil, false_and, exists_false, or_false, Rect.mem_set_unit]
      have key : ∀ (j : ℕ) (o : Fin 4 → ℕ), o = ![j / 2, k, 128 * (j % 2), 0] → 2 * (y 0).val + (y 2).val / 128 = j → ∀ a : Fin 4, o a ≤ (y a).val ∧ (y a).val < o a + S1x1x128x128.size a := by
        intro j o e hj a; subst e; fin_cases a
        · change j / 2 ≤ (y 0).val ∧ (y 0).val < j / 2 + 1; omega
        · change k ≤ (y 1).val ∧ (y 1).val < k + 1; omega
        · change 128 * (j % 2) ≤ (y 2).val ∧ (y 2).val < 128 * (j % 2) + 128; omega
        · change 0 ≤ (y 3).val ∧ (y 3).val < 0 + 128; omega
      have hh : 2 * (y 0).val + (y 2).val / 128 = 7 ∨ 2 * (y 0).val + (y 2).val / 128 = 6 ∨ 2 * (y 0).val + (y 2).val / 128 = 5 ∨ 2 * (y 0).val + (y 2).val / 128 = 4 ∨ 2 * (y 0).val + (y 2).val / 128 = 3 ∨ 2 * (y 0).val + (y 2).val / 128 = 2 ∨ 2 * (y 0).val + (y 2).val / 128 = 1 ∨ 2 * (y 0).val + (y 2).val / 128 = 0 := by omega
      rcases hh with h | h | h | h | h | h | h | h
      · exact .inl (key 7 o7 e7 h)
      · exact .inr (.inl (key 6 o6 e6 h))
      · exact .inr (.inr (.inl (key 5 o5 e5 h)))
      · exact .inr (.inr (.inr (.inl (key 4 o4 e4 h))))
      · exact .inr (.inr (.inr (.inr (.inl (key 3 o3 e3 h)))))
      · exact .inr (.inr (.inr (.inr (.inr (.inl (key 2 o2 e2 h))))))
      · exact .inr (.inr (.inr (.inr (.inr (.inr (.inl (key 1 o1 e1 h)))))))
      · exact .inr (.inr (.inr (.inr (.inr (.inr (.inr (key 0 o0 e0 h)))))))
  · intro y hy
    have key : ∀ (j : ℕ) (o : Fin 4 → ℕ), o = ![j / 2, k, 128 * (j % 2), 0] → ¬ ∀ a : Fin 4, o a ≤ (y a).val ∧ (y a).val < o a + S1x1x128x128.size a := by
      intro j o e h; subst e
      have h1 : k ≤ (y 1).val ∧ (y 1).val < k + 1 := h 1
      omega
    refine View.read_writes_apply_of_forall_not_mem _ _ y _ ?_
    simp only [List.forall_mem_cons, List.not_mem_nil, false_imp_iff, implies_true, _root_.and_true, Rect.mem_set_unit]
    exact ⟨key 7 o7 e7, key 6 o6 e6, key 5 o5 e5, key 4 o4 e4, key 3 o3 e3, key 2 o2 e2, key 1 o1 e1, key 0 o0 e0⟩

/-- Reading the transposed values after one block's tiles were stored. -/
theorem read_vt (k : ℕ) (f : BufTy.Contents (Elt F) arg12.view.ty) (W : Fin 2 → Vec F S1x128x128 .bf16) (o0 o1 : Fin 3 → ℕ) (h0 : ∀ a, o0 a + S1x128x128.size a ≤ S16x256x128.size a) (e0 : o0 = ![k, 0, 0]) (h1 : ∀ a, o1 a + S1x128x128.size a ≤ S16x256x128.size a) (e1 : o1 = ![k, 128, 0]) :
    (∀ y, (y 0).val = k → arg12.view.read (Elt F) (arg12.view.writes (Elt F) f [⟨Rect.unit (s := S16x256x128) o1 S1x128x128.size h1, W 1⟩, ⟨Rect.unit (s := S16x256x128) o0 S1x128x128.size h0, W 0⟩]) y = W ⟨(y 1).val / 128, Nat.div_lt_of_lt_mul (y 1).isLt⟩ (ix3 0 ⟨(y 1).val % 128, Nat.mod_lt _ (by decide)⟩ (y 2)))
    ∧ (∀ y, (y 0).val ≠ k → arg12.view.read (Elt F) (arg12.view.writes (Elt F) f [⟨Rect.unit (s := S16x256x128) o1 S1x128x128.size h1, W 1⟩, ⟨Rect.unit (s := S16x256x128) o0 S1x128x128.size h0, W 0⟩]) y = arg12.view.read (Elt F) f y) := by
  constructor
  · intro y hy
    refine View.read_writes_apply_of_pieces _ _ (fun y : S16x256x128.Idx => W ⟨(y 1).val / 128, Nat.div_lt_of_lt_mul (y 1).isLt⟩ (ix3 0 ⟨(y 1).val % 128, Nat.mod_lt _ (by decide)⟩ (y 2))) _ ?_ y ?_
    · simp only [List.forall_mem_cons, List.not_mem_nil, false_imp_iff, implies_true, _root_.and_true]
      exact ⟨fun x => emb_vt k 1 (by decide) W o1 h1 e1 x, fun x => emb_vt k 0 (by decide) W o0 h0 e0 x⟩
    · have y1 : (y 1).val < 256 := (y 1).isLt
      have y2 : (y 2).val < 128 := (y 2).isLt
      simp only [List.exists_mem_cons_iff, List.not_mem_nil, false_and, exists_false, or_false, Rect.mem_set_unit]
      have key : ∀ (j : ℕ) (o : Fin 3 → ℕ), o = ![k, 128 * j, 0] → (y 1).val / 128 = j → ∀ a : Fin 3, o a ≤ (y a).val ∧ (y a).val < o a + S1x128x128.size a := by
        intro j o e hj a; subst e; fin_cases a
        · change k ≤ (y 0).val ∧ (y 0).val < k + 1; omega
        · change 128 * j ≤ (y 1).val ∧ (y 1).val < 128 * j + 128; omega
        · change 0 ≤ (y 2).val ∧ (y 2).val < 0 + 128; omega
      have hh : (y 1).val / 128 = 1 ∨ (y 1).val / 128 = 0 := by omega
      rcases hh with h | h
      · exact .inl (key 1 o1 e1 h)
      · exact .inr (key 0 o0 e0 h)
  · intro y hy
    have key : ∀ (j : ℕ) (o : Fin 3 → ℕ), o = ![k, 128 * j, 0] → ¬ ∀ a : Fin 3, o a ≤ (y a).val ∧ (y a).val < o a + S1x128x128.size a := by
      intro j o e h; subst e
      have h1 : k ≤ (y 0).val ∧ (y 0).val < k + 1 := h 0
      omega
    refine View.read_writes_apply_of_forall_not_mem _ _ y _ ?_
    simp only [List.forall_mem_cons, List.not_mem_nil, false_imp_iff, implies_true, _root_.and_true, Rect.mem_set_unit]
    exact ⟨key 1 o1 e1, key 0 o0 e0⟩

set_option maxHeartbeats 1000000 in
/-- One trip of the loop that stages the keys and the values. -/
theorem trip1 (𝒱 : Variants) (c : Dev nD) (bd : Option 𝒱.V) (E : Set ℕ) (i : grid0.Coords)
    (X6 : BufTy.Contents (Elt F) arg6.view.ty) (X7 : BufTy.Contents (Elt F) arg7.view.ty) (k : Fin k0_t1_loop.trips) (acc : Unit)
    (f11 : BufTy.Contents (Elt F) arg11.view.ty) (f12 : BufTy.Contents (Elt F) arg12.view.ty) :
    (iprop(Pt c arg6 X6 ∗ Pt c arg7 X7 ∗ Pt c arg11 f11 ∗ Pt c arg12 f12) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k acc)
          (fun _ => iprop(Pt c arg6 X6 ∗ Pt c arg7 X7
            ∗ (∃ f, Pt c arg11 f ∗ ⌜(∀ y, (y 1).val = k.val → arg11.view.read (Elt F) f y = kzG (arg6.view.read (Elt F) X6) y)
                ∧ (∀ y, (y 1).val ≠ k.val → arg11.view.read (Elt F) f y = arg11.view.read (Elt F) f11 y)⌝)
            ∗ (∃ f, Pt c arg12 f ∗ ⌜(∀ y, (y 0).val = k.val → arg12.view.read (Elt F) f y = vtG (arg7.view.read (Elt F) X7) y)
                ∧ (∀ y, (y 0).val ≠ k.val → arg12.view.read (Elt F) f y = arg12.view.read (Elt F) f12 y)⌝))) := by
  unfold k0_t1_body
  iintro ⟨H6, H7, H11, H12⟩
  sl_exec
  sl_step
  isplitl [H6]; · iexact H6
  isplitl [H7]; · iexact H7
  isplitl [H11]
  · iexists _; isplitl [H11]; · iexact H11
    ipureintro
    have ht := read_kz (arg11 := arg11) k.val f11 (KZ (arg6.view.read (Elt F) X6) k) (k0_off2 k) (k0_off3 k) (k0_off4 k) (k0_off5 k) (k0_off7 k) (k0_off8 k) (k0_off9 k) (k0_off10 k) (k0_off2_inb k) (k0_off2_eq k) (k0_off3_inb k) (k0_off3_eq k) (k0_off4_inb k) (k0_off4_eq k) (k0_off5_inb k) (k0_off5_eq k) (k0_off7_inb k) (k0_off7_eq k) (k0_off8_inb k) (k0_off8_eq k) (k0_off9_inb k) (k0_off9_eq k) (k0_off10_inb k) (k0_off10_eq k)
    refine ⟨fun y hy => Eq.trans ?_ ((ht.1 y hy).trans ?_), fun y hy => Eq.trans ?_ (ht.2 y hy)⟩
    · refine congrFun (congrArg (fun L => arg11.view.read (Elt F) (arg11.view.writes (Elt F) f11 L)) ?_) y
      sl_kernel_rfl
    · have ey : (y 1 : Fin k0_t1_loop.trips) = k := Fin.ext hy
      unfold kzG; rw [ey]
    · refine congrFun (congrArg (fun L => arg11.view.read (Elt F) (arg11.view.writes (Elt F) f11 L)) ?_) y
      sl_kernel_rfl
  · iexists _; isplitl [H12]; · iexact H12
    ipureintro
    have ht := read_vt (arg12 := arg12) k.val f12 (VTM (arg7.view.read (Elt F) X7) k) (k0_off11 k) (k0_off12 k) (k0_off11_inb k) (k0_off11_eq k) (k0_off12_inb k) (k0_off12_eq k)
    refine ⟨fun y hy => Eq.trans ?_ ((ht.1 y hy).trans ?_), fun y hy => Eq.trans ?_ (ht.2 y hy)⟩
    · refine congrFun (congrArg (fun L => arg12.view.read (Elt F) (arg12.view.writes (Elt F) f12 L)) ?_) y
      sl_kernel_rfl
    · have ey : (y 0 : Fin k0_t1_loop.trips) = k := Fin.ext hy
      unfold vtG; rw [ey]
    · refine congrFun (congrArg (fun L => arg12.view.read (Elt F) (arg12.view.writes (Elt F) f12 L)) ?_) y
      sl_kernel_rfl

/-- Before trip `k` of the staging loop: the blocks before are staged. -/
abbrev inv1 (c : Dev nD) (X6 : BufTy.Contents (Elt F) arg6.view.ty) (X7 : BufTy.Contents (Elt F) arg7.view.ty) (k : ℕ) (acc : Unit) : sProp 𝕄 :=
  iprop(Pt c arg6 X6 ∗ Pt c arg7 X7
    ∗ (∃ f, Pt c arg11 f ∗ ⌜∀ y, (y 1).val < k → arg11.view.read (Elt F) f y = kzG (arg6.view.read (Elt F) X6) y⌝)
    ∗ (∃ f, Pt c arg12 f ∗ ⌜∀ y, (y 0).val < k → arg12.view.read (Elt F) f y = vtG (arg7.view.read (Elt F) X7) y⌝))

set_option warn.classDefReducibility false in
/-- The staging loop by its invariant. -/
@[sl_loop] def loopInv1 (𝒱 : Variants) (c : Dev nD) (bd : Option 𝒱.V) (E : Set ℕ) (i : grid0.Coords)
    (X6 : BufTy.Contents (Elt F) arg6.view.ty) (X7 : BufTy.Contents (Elt F) arg7.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 where
  inv := inv1 (arg6 := arg6) (arg7 := arg7) (arg11 := arg11) (arg12 := arg12) c X6 X7
  step k acc := by
    iintro ⟨H6, H7, ⟨%f11, H11, %h11⟩, ⟨%f12, H12, %h12⟩⟩
    iapply (wp_wand_r Idealize.ShloMosaic.frame (wpE (defs₀ (F := F)) 𝒱 (c : Thread nD τ) bd) E)
    isplitl [H6 H7 H11 H12]
    · iapply (trip1 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i X6 X7 k acc f11 f12)
      isplitl [H6]; · iexact H6
      isplitl [H7]; · iexact H7
      isplitl [H11]; · iexact H11
      iexact H12
    · iintro %yld ⟨H6, H7, ⟨%g11, H11, %e11⟩, ⟨%g12, H12, %e12⟩⟩
      isplitl [H6]; · iexact H6
      isplitl [H7]; · iexact H7
      isplitl [H11]
      · iexists _; isplitl [H11]; · iexact H11
        ipureintro
        intro y hy
        by_cases hk : (y 1).val = k.val
        · exact e11.1 y hk
        · rw [e11.2 y hk]; exact h11 y (by omega)
      · iexists _; isplitl [H12]; · iexact H12
        ipureintro
        intro y hy
        by_cases hk : (y 0).val = k.val
        · exact e12.1 y hk
        · rw [e12.2 y hk]; exact h12 y (by omega)

end Cert.KernelIdeal.Hand
-- ==== Proof.DsI.lean ====
module

public import proofs.«01_k».proof.Proof.Model2I
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
/-! The starts of the documents: a running maximum over the places where the document changes. -/

/-- The place itself where the document changes, and zero elsewhere. -/
def ch (g : ℕ → ℕ → BitVec 32) (b p : ℕ) : ℕ := if 0 < p ∧ g b p ≠ g b (p - 1) then p else 0

/-- One step of the running maximum, at the distance `s`. -/
def dbl (s : ℕ) (g : ℕ → ℕ → ℕ) (b p : ℕ) : ℕ := max (g b p) (if s ≤ p then g b (p - s) else 0)

/-- The words of the numbers `g`. -/
def W (g : ℕ → ℕ → ℕ) : IVec S8x2048 32 := fun y => BitVec.ofNat 32 (g (y 0).val (y 1).val)

theorem toInt_small (n : ℕ) (h : n < 2048) : (BitVec.ofNat 32 n).toInt = (n : ℤ) := by
  have e : (BitVec.ofNat 32 n).toNat = n := by rw [BitVec.toNat_ofNat]; omega
  rw [BitVec.toInt_eq_toNat_of_lt (by rw [e]; omega), e]

theorem maxs (a b : ℕ) (ha : a < 2048) (hb : b < 2048) : IntOp.maxsi (BitVec.ofNat 32 a) (BitVec.ofNat 32 b) = BitVec.ofNat 32 (max a b) := by
  unfold IntOp.maxsi BitVec.slt
  rw [toInt_small a ha, toInt_small b hb]
  by_cases h : (b : ℤ) < a
  · rw [if_pos (by simpa using h), max_eq_left (by omega)]
  · rw [if_neg (by simpa using h), max_eq_right (by omega)]

theorem rot (s : ℕ) (hs : s < 2048) (v : IVec S8x2048 32) (y : S8x2048.Idx) :
    dynamicRotate (1 : Fin 2) (BitVec.ofNat 32 s) none v rotates_S8x2048_d1 y = v (ix2 (y 0) ⟨((y 1).val + 2048 - s) % 2048, Nat.mod_lt _ (by decide)⟩) := by
  unfold dynamicRotate
  refine congrArg v (funext fun a => Fin.ext ?_)
  have e : (BitVec.ofNat 32 s).toNat = s := by rw [BitVec.toNat_ofNat]; omega
  fin_cases a
  · rfl
  · show (_ + 2048 - ((BitVec.ofNat 32 s).toNat + 0) % 2048) % 2048 = _
    rw [e]
    show ((y 1).val + 2048 - (s + 0) % 2048) % 2048 = ((y 1).val + 2048 - s) % 2048
    congr 2; omega

theorem step (s : ℕ) (hs : s < 2048) (g : ℕ → ℕ → ℕ) (hg : ∀ b p, g b p ≤ p) :
    maxsi (W g) (select (cmpi .sge (iota .tc S8x2048 32 [1] iota_S8x2048_d1_w32) (broadcast S8x2048 (BitVec.ofNat 32 s)))
      (dynamicRotate (1 : Fin 2) (BitVec.ofNat 32 s) none (W g) rotates_S8x2048_d1) (broadcast S8x2048 0#32)) = W (dbl s g) := by
  funext y
  have y1 : (y 1).val < 2048 := (y 1).isLt
  have e0 : iota .tc S8x2048 32 [1] iota_S8x2048_d1_w32 y = BitVec.ofNat 32 (y 1).val := by simp [iota]
  show IntOp.maxsi (BitVec.ofNat 32 (g (y 0).val (y 1).val)) (if IntOp.cmpi .sge (iota .tc S8x2048 32 [1] iota_S8x2048_d1_w32 y) (BitVec.ofNat 32 s) = 1#1 then
      dynamicRotate (1 : Fin 2) (BitVec.ofNat 32 s) none (W g) rotates_S8x2048_d1 y else 0#32) = BitVec.ofNat 32 (dbl s g (y 0).val (y 1).val)
  rw [e0, rot s hs]
  have g1 := hg (y 0).val (y 1).val
  have g2 := hg (y 0).val ((y 1).val - s)
  unfold dbl
  by_cases h : s ≤ (y 1).val
  · rw [if_pos h, if_pos]
    · rw [← maxs _ _ (by omega) (by omega)]
      refine congrArg (fun z => IntOp.maxsi _ (BitVec.ofNat 32 z)) ?_
      show g (y 0).val (((y 1).val + 2048 - s) % 2048) = _
      congr 1; omega
    · unfold IntOp.cmpi BitVec.sle
      rw [toInt_small _ y1, toInt_small _ hs]
      simp only [Nat.cast_le]
      simp [h]
  · rw [if_neg h, if_neg]
    · rw [← maxs _ _ (by omega) (by omega)]
    · unfold IntOp.cmpi BitVec.sle
      rw [toInt_small _ y1, toInt_small _ hs]
      simp only [Nat.cast_le]
      simp [h]

theorem dbl_le (s : ℕ) (g : ℕ → ℕ → ℕ) (hg : ∀ b p, g b p ≤ p) (b p : ℕ) : dbl s g b p ≤ p := by
  unfold dbl
  have h1 := hg b p
  have h2 := hg b (p - s)
  split <;> omega

theorem ch_le (g : ℕ → ℕ → BitVec 32) (b p : ℕ) : ch g b p ≤ p := by
  unfold ch; split <;> omega

/-- The segment words read at numbers. -/
def sg (x4 : S8x2048.Idx → Elt F .i32) (b p : ℕ) : BitVec 32 := if h : b < 8 ∧ p < 2048 then x4 (ix2 ⟨b, h.1⟩ ⟨p, h.2⟩) else 0#32

theorem sg_eq (x4 : S8x2048.Idx → Elt F .i32) (y : S8x2048.Idx) : sg x4 (y 0).val (y 1).val = x4 y := by
  unfold sg; rw [dif_pos ⟨(y 0).isLt, (y 1).isLt⟩]; exact congrArg x4 (eq_ix2 y).symm

/-- The running maximum over all distances: the start of the document each place lies in. -/
def dsN (x4 : S8x2048.Idx → Elt F .i32) : ℕ → ℕ → ℕ :=
  dbl 1024 (dbl 512 (dbl 256 (dbl 128 (dbl 64 (dbl 32 (dbl 16 (dbl 8 (dbl 4 (dbl 2 (dbl 1 (ch (sg x4))))))))))))

theorem dsN_le (x4 : S8x2048.Idx → Elt F .i32) (b p : ℕ) : dsN x4 b p ≤ p :=
  dbl_le _ _ (dbl_le _ _ (dbl_le _ _ (dbl_le _ _ (dbl_le _ _ (dbl_le _ _ (dbl_le _ _ (dbl_le _ _ (dbl_le _ _ (dbl_le _ _ (dbl_le _ _ (ch_le _))))))))))) b p

/-- The kernel's words for the starts of the documents. -/
def dsv (x4 : S8x2048.Idx → Elt F .i32) : IVec S8x2048 32 :=
  k0_pay7 (iota .tc S8x2048 32 [1] iota_S8x2048_d1_w32) (k0_pay6 (F := F) (View.ld x4 (Rect.unit (s := S8x2048) ![0, 0] S8x2048.size inb_S8x2048_S8x2048_0_0))) 32#32

theorem ch_eq (x4 : S8x2048.Idx → Elt F .i32) :
    select (andi (cmpi .sgt (iota .tc S8x2048 32 [1] iota_S8x2048_d1_w32) (broadcast S8x2048 0#32))
      (cmpi .ne x4 (dynamicRotate (1 : Fin 2) (BitVec.ofNat 32 1) none x4 rotates_S8x2048_d1))) (iota .tc S8x2048 32 [1] iota_S8x2048_d1_w32) (broadcast S8x2048 0#32) = W (ch (sg x4)) := by
  funext y
  have y1 : (y 1).val < 2048 := (y 1).isLt
  have e0 : iota .tc S8x2048 32 [1] iota_S8x2048_d1_w32 y = BitVec.ofNat 32 (y 1).val := by simp [iota]
  show (if IntOp.andi (IntOp.cmpi .sgt (iota .tc S8x2048 32 [1] iota_S8x2048_d1_w32 y) 0#32) (IntOp.cmpi .ne (x4 y) (dynamicRotate (1 : Fin 2) (BitVec.ofNat 32 1) none x4 rotates_S8x2048_d1 y)) = 1#1
      then iota .tc S8x2048 32 [1] iota_S8x2048_d1_w32 y else 0#32) = BitVec.ofNat 32 (ch (sg x4) (y 0).val (y 1).val)
  have er := rot 1 (by decide) (fun y => (x4 y : BitVec 32)) y
  rw [e0, show dynamicRotate (1 : Fin 2) (BitVec.ofNat 32 1) none x4 rotates_S8x2048_d1 y = _ from er]
  have c1 : IntOp.cmpi .sgt (BitVec.ofNat 32 (y 1).val) 0#32 = if 0 < (y 1).val then 1#1 else 0#1 := by
    unfold IntOp.cmpi BitVec.slt
    rw [toInt_small _ y1]
    by_cases h : 0 < (y 1).val
    · rw [if_pos h]; simp [h]
    · rw [if_neg h]; simp [h]
  rw [c1]
  unfold ch
  by_cases h : 0 < (y 1).val
  · have e1 : x4 (ix2 (y 0) ⟨((y 1).val + 2048 - 1) % 2048, Nat.mod_lt _ (by decide)⟩) = sg x4 (y 0).val ((y 1).val - 1) := by
      have := sg_eq x4 (ix2 (y 0) ⟨(y 1).val - 1, by omega⟩)
      refine Eq.trans ?_ this.symm
      refine congrArg x4 (congrArg (ix2 (y 0)) (Fin.ext ?_))
      show ((y 1).val + 2048 - 1) % 2048 = (y 1).val - 1
      omega
    have e2 := sg_eq x4 y
    rw [e1, ← e2, if_pos h]
    by_cases hn : sg x4 (y 0).val (y 1).val = sg x4 (y 0).val ((y 1).val - 1)
    · rw [if_neg (c := 0 < (y 1).val ∧ ¬ _) (fun hh => absurd hn hh.2), if_neg]
      rw [hn]; unfold IntOp.cmpi; simp [IntOp.andi]
    · rw [if_pos (c := _ ∧ _) ⟨h, hn⟩, if_pos]
      unfold IntOp.cmpi; simp only [IntOp.andi, if_true]
      show 1#1 &&& BitVec.ofBool (_ != _) = 1#1
      rw [bne_iff_ne.mpr hn]; rfl
  · rw [if_neg h, if_neg (c := _ ∧ _) (fun hh => h hh.1), if_neg]
    simp [IntOp.andi]

theorem ld_all (x4 : S8x2048.Idx → Elt F .i32) : View.ld x4 (Rect.unit (s := S8x2048) ![0, 0] S8x2048.size inb_S8x2048_S8x2048_0_0) = x4 := by
  funext y
  refine congrArg x4 (funext fun a => Fin.ext ?_)
  fin_cases a
  · change 0 + 1 * (y 0).val = (y 0).val; omega
  · change 0 + 1 * (y 1).val = (y 1).val; omega

theorem pay6_eq (x4 : S8x2048.Idx → Elt F .i32) : k0_pay6 (F := F) x4 = W (dbl 16 (dbl 8 (dbl 4 (dbl 2 (dbl 1 (ch (sg x4))))))) := by
  have l0 := ch_le (sg x4)
  have l1 := dbl_le 1 _ l0
  have l2 := dbl_le 2 _ l1
  have l4 := dbl_le 4 _ l2
  have l8 := dbl_le 8 _ l4
  rw [← step 16 (by decide) _ l8, ← step 8 (by decide) _ l4, ← step 4 (by decide) _ l2, ← step 2 (by decide) _ l1, ← step 1 (by decide) _ l0, ← ch_eq]
  rfl

theorem pay7_eq (g : ℕ → ℕ → ℕ) (l0 : ∀ b p, g b p ≤ p) :
    k0_pay7 (iota .tc S8x2048 32 [1] iota_S8x2048_d1_w32) (W g) 32#32 = W (dbl 1024 (dbl 512 (dbl 256 (dbl 128 (dbl 64 (dbl 32 g)))))) := by
  have l1 := dbl_le 32 _ l0
  have l2 := dbl_le 64 _ l1
  have l4 := dbl_le 128 _ l2
  have l8 := dbl_le 256 _ l4
  have l9 := dbl_le 512 _ l8
  rw [← step 1024 (by decide) _ l9, ← step 512 (by decide) _ l8, ← step 256 (by decide) _ l4, ← step 128 (by decide) _ l2, ← step 64 (by decide) _ l1, ← step 32 (by decide) _ l0]
  rfl

theorem dsv_eq (x4 : S8x2048.Idx → Elt F .i32) : dsv x4 = W (dsN x4) := by
  unfold dsv
  rw [ld_all, pay6_eq, pay7_eq _ (fun b p => dbl_le _ _ (dbl_le _ _ (dbl_le _ _ (dbl_le _ _ (dbl_le _ _ (ch_le _))))) b p)]
  rfl

end Cert.KernelIdeal.Hand
-- ==== Proof.ChkI.lean ====
module

public import Idealize.ShloMosaic.Lib.Pipeline.Value
public import proofs.«01_k».proof.Proof.DsI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
theorem w45_nat : ∀ n : Fin 2048, w45 (BitVec.ofNat 32 n.val) = BitVec.ofNat 32 (n.val / 128) := by decide +kernel

theorem loop_facts : ∀ (k : Fin 16) (lo : Fin 16), lo.val ≤ k.val →
    (⟨BitVec.ofNat 32 lo.val, Scalar.addi (BitVec.ofNat 32 lo.val) (Scalar.muli (Scalar.divsi (Scalar.subi (Scalar.addi (Scf.iv 0#32 1#32 k.val) 1#32) (BitVec.ofNat 32 lo.val)) 1#32) 1#32), 1#32⟩ : Scf.Loop 32).OK
    ∧ (⟨BitVec.ofNat 32 lo.val, Scalar.addi (BitVec.ofNat 32 lo.val) (Scalar.muli (Scalar.divsi (Scalar.subi (Scalar.addi (Scf.iv 0#32 1#32 k.val) 1#32) (BitVec.ofNat 32 lo.val)) 1#32) 1#32), 1#32⟩ : Scf.Loop 32).trips = k.val + 1 - lo.val := by
  decide +kernel

theorem t3_loop_eq (k : Fin k0_t2_loop.trips) (v : BitVec 32) :
    k0_t3_loop k v = ⟨w45 v, Scalar.addi (w45 v) (Scalar.muli (Scalar.divsi (Scalar.subi (Scalar.addi (Scf.iv 0#32 1#32 k.val) 1#32) (w45 v)) 1#32) 1#32), 1#32⟩ := rfl

theorem iv_nat : ∀ (lo : Fin 16) (t : Fin 17), (Scalar.indexCast (Scf.iv (BitVec.ofNat 32 lo.val) 1#32 t.val) : BitVec 32).toNat = lo.val + t.val := by decide +kernel
theorem t4_loop_eq (k : Fin k0_t2_loop.trips) (v : BitVec 32) :
    k0_t4_loop k v = ⟨Scalar.addi (w45 v) (Scalar.muli (Scalar.divsi (Scalar.subi (Scalar.addi (Scf.iv 0#32 1#32 k.val) 1#32) (w45 v)) 1#32) 1#32), Scalar.addi (w45 v) (Scalar.subi (Scalar.addi (Scf.iv 0#32 1#32 k.val) 1#32) (w45 v)), 1#32⟩ := rfl

theorem loop4_facts : ∀ (k : Fin 16) (lo : Fin 16), lo.val ≤ k.val →
    (⟨Scalar.addi (BitVec.ofNat 32 lo.val) (Scalar.muli (Scalar.divsi (Scalar.subi (Scalar.addi (Scf.iv 0#32 1#32 k.val) 1#32) (BitVec.ofNat 32 lo.val)) 1#32) 1#32), Scalar.addi (BitVec.ofNat 32 lo.val) (Scalar.subi (Scalar.addi (Scf.iv 0#32 1#32 k.val) 1#32) (BitVec.ofNat 32 lo.val)), 1#32⟩ : Scf.Loop 32).OK
    ∧ (⟨Scalar.addi (BitVec.ofNat 32 lo.val) (Scalar.muli (Scalar.divsi (Scalar.subi (Scalar.addi (Scf.iv 0#32 1#32 k.val) 1#32) (BitVec.ofNat 32 lo.val)) 1#32) 1#32), Scalar.addi (BitVec.ofNat 32 lo.val) (Scalar.subi (Scalar.addi (Scf.iv 0#32 1#32 k.val) 1#32) (BitVec.ofNat 32 lo.val)), 1#32⟩ : Scf.Loop 32).trips = 0 := by
  decide +kernel

section
variable (k : Fin k0_t2_loop.trips) (n : ℕ) (hn : n ≤ 128 * k.val)
include hn

theorem klt : k.val < 16 := k.isLt

theorem w45_of : w45 (BitVec.ofNat 32 n) = BitVec.ofNat 32 (n / 128) := w45_nat ⟨n, by have := klt k n hn; omega⟩

theorem trips3 : (k0_t3_loop k (BitVec.ofNat 32 n)).OK ∧ (k0_t3_loop k (BitVec.ofNat 32 n)).trips = k.val + 1 - n / 128 := by
  have h := klt k n hn
  rw [t3_loop_eq, w45_of k n hn]
  exact loop_facts ⟨k.val, h⟩ ⟨n / 128, by omega⟩ (by show n / 128 ≤ k.val; omega)

theorem trips4 : (k0_t4_loop k (BitVec.ofNat 32 n)).OK ∧ (k0_t4_loop k (BitVec.ofNat 32 n)).trips = 0 := by
  have h := klt k n hn
  rw [t4_loop_eq, w45_of k n hn]
  exact loop4_facts ⟨k.val, h⟩ ⟨n / 128, by omega⟩ (by show n / 128 ≤ k.val; omega)

theorem iv_of (t : Fin (k0_t3_loop k (BitVec.ofNat 32 n)).trips) :
    (Scalar.indexCast (Scf.iv (w45 (BitVec.ofNat 32 n)) 1#32 t.val) : BitVec 32).toNat = n / 128 + t.val := by
  have h := klt k n hn
  have ht := t.isLt
  have h3 := (trips3 k n hn).2
  rw [w45_of k n hn]
  exact iv_nat ⟨n / 128, by omega⟩ ⟨t.val, by omega⟩

theorem in4 (g z : ℕ) (hg : g < 4) (hz : z = 0) (t : Fin (k0_t3_loop k (BitVec.ofNat 32 n)).trips) (a : Fin 4) :
    (![g, (Scalar.indexCast (Scf.iv (w45 (BitVec.ofNat 32 n)) 1#32 t.val) : BitVec 32).toNat, z, z] : Fin 4 → ℕ) a + S1x1x256x128.size a ≤ S4x16x256x128.size a := by
  have h := klt k n hn
  have ht := t.isLt
  have h3 := (trips3 k n hn).2
  rw [iv_of k n hn]
  subst hz
  fin_cases a
  · change g + 1 ≤ 4; omega
  · change (n / 128 + t.val) + 1 ≤ 16; omega
  · change 0 + 256 ≤ 256; omega
  · change 0 + 128 ≤ 128; omega

theorem in3 (g z : ℕ) (hg : g ≤ 192) (hz : z = 0) (t : Fin (k0_t3_loop k (BitVec.ofNat 32 n)).trips) (a : Fin 3) :
    (![(Scalar.indexCast (Scf.iv (w45 (BitVec.ofNat 32 n)) 1#32 t.val) : BitVec 32).toNat, g, z] : Fin 3 → ℕ) a + S1x64x128.size a ≤ S16x256x128.size a := by
  have h := klt k n hn
  have ht := t.isLt
  have h3 := (trips3 k n hn).2
  rw [iv_of k n hn]
  subst hz
  fin_cases a
  · change (n / 128 + t.val) + 1 ≤ 16; omega
  · change g + 64 ≤ 256; omega
  · change 0 + 128 ≤ 128; omega

/-- The facts the body assumes hold when the word read is a place not after the block's first query. -/
theorem chk1_of : k0_chk1 k (BitVec.ofNat 32 n) := by
  have t4 : ∀ t : Fin (k0_t4_loop k (BitVec.ofNat 32 n)).trips, False := fun t => by
    have h := (trips4 k n hn).2; have ht := t.isLt; omega
  exact ⟨(trips3 k n hn).1,
    fun t => in4 k n hn 0 0 (by decide) rfl t, fun t => in3 k n hn 0 0 (by decide) rfl t,
    fun t => in4 k n hn 1 0 (by decide) rfl t, fun t => in3 k n hn 64 0 (by decide) rfl t,
    fun t => in4 k n hn 2 0 (by decide) rfl t, fun t => in3 k n hn 128 0 (by decide) rfl t,
    fun t => in4 k n hn 3 0 (by decide) rfl t, fun t => in3 k n hn 192 0 (by decide) rfl t,
    (trips4 k n hn).1,
    fun t => (t4 t).elim, fun t => (t4 t).elim, fun t => (t4 t).elim, fun t => (t4 t).elim,
    fun t => (t4 t).elim, fun t => (t4 t).elim, fun t => (t4 t).elim, fun t => (t4 t).elim⟩
end

/-- The sixteen slabs of the starts of the documents, one per key block. -/
def DSP (v : IVec S8x2048 32) : Fin 16 → IVec S1x8x128 32 :=
  ![shapeCast S1x8x128 (extractStridedSlice S8x128 ![0, 0] v slices_S8x2048_o0_0_S8x128) shapeCasts_S8x128_S1x8x128, k0_pay9 v, k0_pay10 v, k0_pay11 v, k0_pay12 v, k0_pay13 v, k0_pay14 v, k0_pay15 v, k0_pay17 (k0_pay16 v), k0_pay18 v, k0_pay19 v, k0_pay20 v, k0_pay21 v, k0_pay22 v, k0_pay23 v, k0_pay24 v]

/-- The table of the starts of the documents. -/
def DSM (x4 : S8x2048.Idx → Elt F .i32) : S16x8x128.Idx → Elt F .i32 := fun y => DSP (dsv x4) (y 0) (ix3 0 (y 1) (y 2))

theorem slab (o : Fin 2 → ℕ) (j : ℕ) (hj : j < 16) (eo : o = ![0, 128 * j]) (v : IVec S8x2048 32) (h : S8x2048.Slices o S8x128) (hc : S8x128.ShapeCasts S1x8x128) (y1 : Fin 8) (y2 : Fin 128) :
    shapeCast S1x8x128 (extractStridedSlice S8x128 o v h) hc (ix3 0 y1 y2) = v (ix2 y1 ⟨128 * j + y2.val, by omega⟩) := by
  subst eo
  refine (shapeCast_addUnit_apply (n := 2) ![8, 128] (extractStridedSlice S8x128 ![0, 128 * j] v h) hc (ix3 0 y1 y2)).trans ?_
  unfold extractStridedSlice
  refine congrArg v (funext fun a => Fin.ext ?_)
  fin_cases a
  · change 0 + y1.val = y1.val; omega
  · rfl

theorem DSP_eq (v : IVec S8x2048 32) (j : Fin 16) (y1 : Fin 8) (y2 : Fin 128) : DSP v j (ix3 0 y1 y2) = v (ix2 y1 ⟨128 * j.val + y2.val, by omega⟩) := by
  fin_cases j
  · exact slab ![0, 0] 0 (by decide) rfl v slices_S8x2048_o0_0_S8x128 _ y1 y2
  · exact slab ![0, 128] 1 (by decide) rfl v slices_S8x2048_o0_128_S8x128 _ y1 y2
  · exact slab ![0, 256] 2 (by decide) rfl v slices_S8x2048_o0_256_S8x128 _ y1 y2
  · exact slab ![0, 384] 3 (by decide) rfl v slices_S8x2048_o0_384_S8x128 _ y1 y2
  · exact slab ![0, 512] 4 (by decide) rfl v slices_S8x2048_o0_512_S8x128 _ y1 y2
  · exact slab ![0, 640] 5 (by decide) rfl v slices_S8x2048_o0_640_S8x128 _ y1 y2
  · exact slab ![0, 768] 6 (by decide) rfl v slices_S8x2048_o0_768_S8x128 _ y1 y2
  · exact slab ![0, 896] 7 (by decide) rfl v slices_S8x2048_o0_896_S8x128 _ y1 y2
  · exact slab ![0, 1024] 8 (by decide) rfl v slices_S8x2048_o0_1024_S8x128 _ y1 y2
  · exact slab ![0, 1152] 9 (by decide) rfl v slices_S8x2048_o0_1152_S8x128 _ y1 y2
  · exact slab ![0, 1280] 10 (by decide) rfl v slices_S8x2048_o0_1280_S8x128 _ y1 y2
  · exact slab ![0, 1408] 11 (by decide) rfl v slices_S8x2048_o0_1408_S8x128 _ y1 y2
  · exact slab ![0, 1536] 12 (by decide) rfl v slices_S8x2048_o0_1536_S8x128 _ y1 y2
  · exact slab ![0, 1664] 13 (by decide) rfl v slices_S8x2048_o0_1664_S8x128 _ y1 y2
  · exact slab ![0, 1792] 14 (by decide) rfl v slices_S8x2048_o0_1792_S8x128 _ y1 y2
  · exact slab ![0, 1920] 15 (by decide) rfl v slices_S8x2048_o0_1920_S8x128 _ y1 y2

/-- The table's entries: place `128 j + l` of row `b` starts its document at `dsN b (128 j + l)`. -/
theorem DSM_eq (x4 : S8x2048.Idx → Elt F .i32) (y : S16x8x128.Idx) : DSM x4 y = BitVec.ofNat 32 (dsN x4 (y 1).val (128 * (y 0).val + (y 2).val)) := by
  unfold DSM
  refine (DSP_eq (dsv x4) (y 0) (y 1) (y 2)).trans ?_
  rw [dsv_eq]; rfl

/-- The word the body reads for a block of queries, from the table. -/
theorem w28_DSM (i : grid0.Coords) (x4 : S8x2048.Idx → Elt F .i32) (k : Fin k0_t2_loop.trips) : w28 (F := F) i (DSM x4) k = BitVec.ofNat 32 (dsN x4 (i 0).val (128 * k.val)) := by
  unfold w28
  have hi : (i 0).val < 8 := (i 0).isLt
  have hk : k.val < 16 := k.isLt
  have e : View.ld (DSM x4) (Rect.unit (s := S16x8x128) (k0_off14 i k) S1x1x1.size (k0_off14_inb i k)) (Shape.Idx.first (s := S1x1x1) (by decide))
      = DSM x4 (ix3 ⟨k.val, hk⟩ ⟨(i 0).val, hi⟩ 0) := by
    refine congrArg (DSM x4) (funext fun a => Fin.ext ?_)
    have eo := congrFun (k0_off14_eq i k) a
    show k0_off14 i k a + 1 * 0 = _
    rw [eo]
    fin_cases a <;> rfl
  rw [e, DSM_eq]; rfl

theorem hwDS (i : grid0.Coords) (x4 : S8x2048.Idx → Elt F .i32) (k : Fin k0_t2_loop.trips) : k0_chk1 k (w28 (F := F) i (DSM x4) k) := by
  rw [w28_DSM]
  exact chk1_of k _ (dsN_le _ _ _)

end Cert.KernelIdeal.Hand
-- ==== Proof.BodyI.lean ====
module

public import proofs.«01_k».proof.Proof.Loop2I
public import proofs.«01_k».proof.Proof.Loop1I
public import proofs.«01_k».proof.Proof.ChkI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- The output block, of the input blocks alone. -/
def outF (i : grid0.Coords) (x1 : S16.Idx → Elt F .f32) (x2 x3 : S4.Idx → Elt F .f32) (x4 : S8x2048.Idx → Elt F .i32) (x5 : S1x2048x1024.Idx → Elt F .fp8e4m3)
    (x6 x7 : S1x2048x256.Idx → Elt F .fp8e4m3) : S1x2048x1024.Idx → Elt F .bf16 :=
  outM i x1 x2 x3 x5 (DSM x4) (DSM x4) (kzG x6) (vtG x7) (hwDS i x4)

theorem outM_congr (i : grid0.Coords) (x1 : S16.Idx → Elt F .f32) (x2 x3 : S4.Idx → Elt F .f32) (x5 : S1x2048x1024.Idx → Elt F .fp8e4m3) (x9 x10 x9' x10' : S16x8x128.Idx → Elt F .i32)
    (x11 x11' : S4x16x256x128.Idx → Elt F .fp8e4m3) (x12 x12' : S16x256x128.Idx → Elt F .bf16) (hw : ∀ k, k0_chk1 k (w28 i x10 k)) (hw' : ∀ k, k0_chk1 k (w28 i x10' k))
    (h9 : x9 = x9') (h10 : x10 = x10') (h11 : x11 = x11') (h12 : x12 = x12') : outM i x1 x2 x3 x5 x9 x10 x11 x12 hw = outM i x1 x2 x3 x5 x9' x10' x11' x12' hw' := by
  subst h9; subst h10; subst h11; subst h12; rfl

theorem all11 (f : BufTy.Contents (Elt F) arg11.view.ty) (g : S4x16x256x128.Idx → Elt F .fp8e4m3)
    (h : ∀ y, (y 1).val < Scf.trips k0_t1_loop.lb k0_t1_loop.ub k0_t1_loop.st → arg11.view.read (Elt F) f y = g y) : arg11.view.read (Elt F) f = g := by
  funext y
  have y1 : (y 1).val < 16 := (y 1).isLt
  exact h y (lt_of_lt_of_eq y1 (by decide +kernel))

theorem all12 (f : BufTy.Contents (Elt F) arg12.view.ty) (g : S16x256x128.Idx → Elt F .bf16)
    (h : ∀ y, (y 0).val < Scf.trips k0_t1_loop.lb k0_t1_loop.ub k0_t1_loop.st → arg12.view.read (Elt F) f y = g y) : arg12.view.read (Elt F) f = g := by
  funext y
  have y1 : (y 0).val < 16 := (y 0).isLt
  exact h y (lt_of_lt_of_eq y1 (by decide +kernel))

set_option maxHeartbeats 2000000 in
/-- One point of the grid after the first: the table is there already. -/
theorem body_next (c : Dev nD) (E : Set ℕ) (i : grid0.Coords) (h0 : ¬ Scalar.cmpi .ne (Scalar.extui (Scalar.cmpi .eq (BitVec.ofNat 32 (i 0).val) 0#32) : BitVec 32) 0#32 = 1#1)
    (X1 : BufTy.Contents (Elt F) arg1.view.ty)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X9 : BufTy.Contents (Elt F) arg9.view.ty)
    (X10 : BufTy.Contents (Elt F) arg10.view.ty)
    (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (x4 : S8x2048.Idx → Elt F .i32) (h9 : arg9.view.read (Elt F) X9 = DSM x4) (h10 : arg10.view.read (Elt F) X10 = DSM x4) :
    (iprop(Pt c arg1 X1 ∗ Pt c arg2 X2 ∗ Pt c arg3 X3 ∗ Pt c arg4 X4 ∗ Pt c arg5 X5 ∗ Pt c arg6 X6 ∗ Pt c arg7 X7 ∗ Pt c arg8 f8 ∗ Pt c arg9 X9 ∗ Pt c arg10 X10 ∗ Pt c arg11 f11 ∗ Pt c arg12 f12
        ∗ Pt c arg13 f13 ∗ Pt c arg14 f14 ∗ Pt c arg15 f15) : sProp 𝕄)
      ⊢ wp frame (wpE (defs₀ (F := F)) Variants.none (c : Thread nD τ) none) E (cc0_seg_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
          (fun _ => iprop(Pt c arg1 X1 ∗ Pt c arg2 X2 ∗ Pt c arg3 X3 ∗ Pt c arg4 X4 ∗ Pt c arg5 X5 ∗ Pt c arg6 X6 ∗ Pt c arg7 X7
            ∗ (∃ f, Pt c arg8 f ∗ ⌜arg8.view.read (Elt F) f = outF i (arg1.view.read (Elt F) X1) (arg2.view.read (Elt F) X2) (arg3.view.read (Elt F) X3) x4 (arg5.view.read (Elt F) X5) (arg6.view.read (Elt F) X6) (arg7.view.read (Elt F) X7)⌝)
            ∗ Pt c arg9 X9 ∗ Pt c arg10 X10
            ∗ (∃ f, Pt c arg11 f) ∗ (∃ f, Pt c arg12 f) ∗ (∃ f, Pt c arg13 f) ∗ (∃ f, Pt c arg14 f) ∗ (∃ f, Pt c arg15 f))) := by
  simp only [cc0_seg_attn_eq_skeleton]; unfold cc0_seg_attn_skel
  iintro ⟨H1, H2, H3, H4, H5, H6, H7, H8, H9, H10, H11, H12, H13, H14, H15⟩
  rw [dif_neg h0]
  sl_exec
  have hw : ∀ k, k0_chk1 k (w28 (F := F) i (arg10.view.read (Elt F) X10) k) := by rw [h10]; exact hwDS i x4
  let I := loopInv2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) Variants.none c none E i (BitVec.ofNat 32 (i 0).val) X1 X2 X3 X5 X9 X10 fL0 fL1 hw
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    funext y
    have y1 : (y 1).val < 2048 := (y 1).isLt
    have et : Scf.trips k0_t2_loop.lb k0_t2_loop.ub k0_t2_loop.st = 16 := by decide +kernel
    exact (hL9 y (by rw [et]; omega)).trans (congrFun (outM_congr i _ _ _ _ _ _ _ _ _ _ _ _ hw _ h9 h10 (all11 _ _ hL3) (all12 _ _ hL5)) y)
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iexists _; iexact H15

/-- The sixteen stores of the table, last first. -/
def dsL (W : Fin 16 → Vec F S1x8x128 .i32) : List (View.Piece (Elt F) S16x8x128 .i32) :=
  [⟨Rect.unit (s := S16x8x128) ![15, 0, 0] S1x8x128.size inb_S16x8x128_S1x8x128_15_0_0, W 15⟩, ⟨Rect.unit (s := S16x8x128) ![14, 0, 0] S1x8x128.size inb_S16x8x128_S1x8x128_14_0_0, W 14⟩, ⟨Rect.unit (s := S16x8x128) ![13, 0, 0] S1x8x128.size inb_S16x8x128_S1x8x128_13_0_0, W 13⟩, ⟨Rect.unit (s := S16x8x128) ![12, 0, 0] S1x8x128.size inb_S16x8x128_S1x8x128_12_0_0, W 12⟩, ⟨Rect.unit (s := S16x8x128) ![11, 0, 0] S1x8x128.size inb_S16x8x128_S1x8x128_11_0_0, W 11⟩, ⟨Rect.unit (s := S16x8x128) ![10, 0, 0] S1x8x128.size inb_S16x8x128_S1x8x128_10_0_0, W 10⟩, ⟨Rect.unit (s := S16x8x128) ![9, 0, 0] S1x8x128.size inb_S16x8x128_S1x8x128_9_0_0, W 9⟩, ⟨Rect.unit (s := S16x8x128) ![8, 0, 0] S1x8x128.size inb_S16x8x128_S1x8x128_8_0_0, W 8⟩, ⟨Rect.unit (s := S16x8x128) ![7, 0, 0] S1x8x128.size inb_S16x8x128_S1x8x128_7_0_0, W 7⟩, ⟨Rect.unit (s := S16x8x128) ![6, 0, 0] S1x8x128.size inb_S16x8x128_S1x8x128_6_0_0, W 6⟩, ⟨Rect.unit (s := S16x8x128) ![5, 0, 0] S1x8x128.size inb_S16x8x128_S1x8x128_5_0_0, W 5⟩, ⟨Rect.unit (s := S16x8x128) ![4, 0, 0] S1x8x128.size inb_S16x8x128_S1x8x128_4_0_0, W 4⟩, ⟨Rect.unit (s := S16x8x128) ![3, 0, 0] S1x8x128.size inb_S16x8x128_S1x8x128_3_0_0, W 3⟩, ⟨Rect.unit (s := S16x8x128) ![2, 0, 0] S1x8x128.size inb_S16x8x128_S1x8x128_2_0_0, W 2⟩, ⟨Rect.unit (s := S16x8x128) ![1, 0, 0] S1x8x128.size inb_S16x8x128_S1x8x128_1_0_0, W 1⟩, ⟨Rect.unit (s := S16x8x128) ![0, 0, 0] S1x8x128.size inb_S16x8x128_S1x8x128_0_0_0, W 0⟩]

theorem emb_ds (j : Fin 16) (W : Fin 16 → Vec F S1x8x128 .i32) (o : Fin 3 → ℕ) (eo : o = ![j.val, 0, 0]) (h : ∀ a, o a + S1x8x128.size a ≤ S16x8x128.size a) (x : S1x8x128.Idx) :
    (fun y : S16x8x128.Idx => W (y 0) (ix3 0 (y 1) (y 2))) ((Rect.unit (s := S16x8x128) o S1x8x128.size h).emb x) = W j x := by
  subst eo
  have x0 : (x 0).val < 1 := (x 0).isLt
  have e0 : ((Rect.unit (s := S16x8x128) ![j.val, 0, 0] S1x8x128.size h).emb x) 0 = j := Fin.ext (by change j.val + 1 * (x 0).val = j.val; omega)
  have ex : (ix3 0 (((Rect.unit (s := S16x8x128) ![j.val, 0, 0] S1x8x128.size h).emb x) 1) (((Rect.unit (s := S16x8x128) ![j.val, 0, 0] S1x8x128.size h).emb x) 2) : S1x8x128.Idx) = x := by
    funext a
    fin_cases a <;> refine Fin.ext ?_
    · change 0 = (x 0).val; omega
    · change 0 + 1 * (x 1).val = (x 1).val; omega
    · change 0 + 1 * (x 2).val = (x 2).val; omega
  show W _ _ = _
  rw [e0]
  exact congrArg (W j) ex

/-- The table read after its sixteen stores. -/
theorem read_ds (f : BufTy.Contents (Elt F) arg9.view.ty) (W : Fin 16 → Vec F S1x8x128 .i32) :
    arg9.view.read (Elt F) (arg9.view.writes (Elt F) f (dsL W)) = fun y => W (y 0) (ix3 0 (y 1) (y 2)) := by
  funext y
  unfold dsL
  refine View.read_writes_apply_of_pieces _ _ (fun y : S16x8x128.Idx => W (y 0) (ix3 0 (y 1) (y 2))) _ ?_ y ?_
  · simp only [List.forall_mem_cons, List.not_mem_nil, false_imp_iff, implies_true, _root_.and_true]
    exact ⟨fun x => (emb_ds 15 W _ rfl _ x).symm, fun x => (emb_ds 14 W _ rfl _ x).symm, fun x => (emb_ds 13 W _ rfl _ x).symm, fun x => (emb_ds 12 W _ rfl _ x).symm, fun x => (emb_ds 11 W _ rfl _ x).symm, fun x => (emb_ds 10 W _ rfl _ x).symm, fun x => (emb_ds 9 W _ rfl _ x).symm, fun x => (emb_ds 8 W _ rfl _ x).symm, fun x => (emb_ds 7 W _ rfl _ x).symm, fun x => (emb_ds 6 W _ rfl _ x).symm, fun x => (emb_ds 5 W _ rfl _ x).symm, fun x => (emb_ds 4 W _ rfl _ x).symm, fun x => (emb_ds 3 W _ rfl _ x).symm, fun x => (emb_ds 2 W _ rfl _ x).symm, fun x => (emb_ds 1 W _ rfl _ x).symm, fun x => (emb_ds 0 W _ rfl _ x).symm⟩
  · have y0 : (y 0).val < 16 := (y 0).isLt
    have y1 : (y 1).val < 8 := (y 1).isLt
    have y2 : (y 2).val < 128 := (y 2).isLt
    simp only [List.exists_mem_cons_iff, List.not_mem_nil, _root_.false_and, exists_false, _root_.or_false, Rect.mem_set_unit]
    have key : ∀ j : ℕ, (y 0).val = j → ∀ a : Fin 3, (![j, 0, 0] : Fin 3 → ℕ) a ≤ (y a).val ∧ (y a).val < (![j, 0, 0] : Fin 3 → ℕ) a + S1x8x128.size a := by
      intro j hj a; fin_cases a
      · change j ≤ (y 0).val ∧ (y 0).val < j + 1; omega
      · change 0 ≤ (y 1).val ∧ (y 1).val < 0 + 8; omega
      · change 0 ≤ (y 2).val ∧ (y 2).val < 0 + 128; omega
    have hh : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
    rcases hh with h | h | h | h | h | h | h | h | h | h | h | h | h | h | h | h
    · exact .inr (.inr (.inr (.inr (.inr (.inr (.inr (.inr (.inr (.inr (.inr (.inr (.inr (.inr (.inr (key 0 h)))))))))))))))
    · exact .inr (.inr (.inr (.inr (.inr (.inr (.inr (.inr (.inr (.inr (.inr (.inr (.inr (.inr (.inl (key 1 h)))))))))))))))
    · exact .inr (.inr (.inr (.inr (.inr (.inr (.inr (.inr (.inr (.inr (.inr (.inr (.inr (.inl (key 2 h))))))))))))))
    · exact .inr (.inr (.inr (.inr (.inr (.inr (.inr (.inr (.inr (.inr (.inr (.inr (.inl (key 3 h)))))))))))))
    · exact .inr (.inr (.inr (.inr (.inr (.inr (.inr (.inr (.inr (.inr (.inr (.inl (key 4 h))))))))))))
    · exact .inr (.inr (.inr (.inr (.inr (.inr (.inr (.inr (.inr (.inr (.inl (key 5 h)))))))))))
    · exact .inr (.inr (.inr (.inr (.inr (.inr (.inr (.inr (.inr (.inl (key 6 h))))))))))
    · exact .inr (.inr (.inr (.inr (.inr (.inr (.inr (.inr (.inl (key 7 h)))))))))
    · exact .inr (.inr (.inr (.inr (.inr (.inr (.inr (.inl (key 8 h))))))))
    · exact .inr (.inr (.inr (.inr (.inr (.inr (.inl (key 9 h)))))))
    · exact .inr (.inr (.inr (.inr (.inr (.inl (key 10 h))))))
    · exact .inr (.inr (.inr (.inr (.inl (key 11 h)))))
    · exact .inr (.inr (.inr (.inl (key 12 h))))
    · exact .inr (.inr (.inl (key 13 h)))
    · exact .inr (.inl (key 14 h))
    · exact .inl (key 15 h)

set_option maxHeartbeats 2000000 in
/-- The first point of the grid: the table is filled and copied to the scalar memory. -/
theorem body_first (c : Dev nD) (i : grid0.Coords) (h0 : Scalar.cmpi .ne (Scalar.extui (Scalar.cmpi .eq (BitVec.ofNat 32 (i 0).val) 0#32) : BitVec 32) 0#32 = 1#1)
    (X1 : BufTy.Contents (Elt F) arg1.view.ty)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X9 : BufTy.Contents (Elt F) arg9.view.ty)
    (X10 : BufTy.Contents (Elt F) arg10.view.ty)
    (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (W : Waits sig Unit) :
    (iprop(Pt c arg1 X1 ∗ Pt c arg2 X2 ∗ Pt c arg3 X3 ∗ Pt c arg4 X4 ∗ Pt c arg5 X5 ∗ Pt c arg6 X6 ∗ Pt c arg7 X7 ∗ Pt c arg8 f8 ∗ Pt c arg9 X9 ∗ Pt c arg10 X10 ∗ Pt c arg11 f11 ∗ Pt c arg12 f12
        ∗ Pt c arg13 f13 ∗ Pt c arg14 f14 ∗ Pt c arg15 f15
        ∗ semVal ((c : Thread nD τ), SemLoc.dma arg16.sem) 0 ∗ owes (c : Thread nD τ) 0 W) : sProp 𝕄)
      ⊢ wp frame (wpE (defs₀ (F := F)) Variants.none (c : Thread nD τ) none) Set.univ (cc0_seg_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
          (fun _ => iprop(Pt c arg1 X1 ∗ Pt c arg2 X2 ∗ Pt c arg3 X3 ∗ Pt c arg4 X4 ∗ Pt c arg5 X5 ∗ Pt c arg6 X6 ∗ Pt c arg7 X7
            ∗ (∃ f, Pt c arg8 f ∗ ⌜arg8.view.read (Elt F) f = outF i (arg1.view.read (Elt F) X1) (arg2.view.read (Elt F) X2) (arg3.view.read (Elt F) X3) (arg4.view.read (Elt F) X4) (arg5.view.read (Elt F) X5) (arg6.view.read (Elt F) X6) (arg7.view.read (Elt F) X7)⌝)
            ∗ (∃ f, Pt c arg9 f ∗ ⌜arg9.view.read (Elt F) f = DSM (arg4.view.read (Elt F) X4)⌝) ∗ (∃ f, Pt c arg10 f ∗ ⌜arg10.view.read (Elt F) f = DSM (arg4.view.read (Elt F) X4)⌝)
            ∗ (∃ f, Pt c arg11 f) ∗ (∃ f, Pt c arg12 f) ∗ (∃ f, Pt c arg13 f) ∗ (∃ f, Pt c arg14 f) ∗ (∃ f, Pt c arg15 f)
            ∗ semVal ((c : Thread nD τ), SemLoc.dma arg16.sem) 0 ∗ (∃ W', owes (c : Thread nD τ) 0 W'))) := by
  simp only [cc0_seg_attn_eq_skeleton]; unfold cc0_seg_attn_skel
  iintro ⟨H1, H2, H3, H4, H5, H6, H7, H8, H9, H10, H11, H12, H13, H14, H15, Hq, HW⟩
  rw [dif_pos h0]
  sl_exec
  have eL : body_first.sl.H9_16 (F := F) (arg4 := arg4) X4 = dsL (DSP (dsv (arg4.view.read (Elt F) X4))) := by sl_kernel_rfl
  have e9 : ∀ f : BufTy.Contents (Elt F) arg9.view.ty, arg9.view.read (Elt F) (arg9.view.writes (Elt F) f (body_first.sl.H9_16 (F := F) (arg4 := arg4) X4)) = DSM (arg4.view.read (Elt F) X4) := fun f => by
    rw [eL]; exact read_ds f _
  have e10 : arg10.view.read (Elt F) (arg10.view.writes (Elt F) arg10.view.junk [⟨Rect.whole S16x8x128, body_first.sl.dma33 (F := F) (arg4 := arg4) (arg9 := arg9) X4 X9⟩]) = DSM (arg4.view.read (Elt F) X4) := by
    refine Eq.trans ?_ (e9 X9)
    funext y
    refine View.read_writes_apply_of_pieces arg10.view _ (body_first.sl.dma33 (F := F) (arg4 := arg4) (arg9 := arg9) X4 X9) _ ?_ y ?_
    · intro p hp
      obtain rfl := List.mem_singleton.mp hp
      intro x; exact congrArg (body_first.sl.dma33 (F := F) (arg4 := arg4) (arg9 := arg9) X4 X9) (Rect.emb_whole_apply _ x).symm
    · exact ⟨_, List.mem_singleton.mpr rfl, by rw [Rect.set_whole]; exact Finset.mem_univ _⟩
  have hw : ∀ k, k0_chk1 k (w28 (F := F) i (arg10.view.read (Elt F) (arg10.view.writes (Elt F) arg10.view.junk [⟨Rect.whole S16x8x128, body_first.sl.dma33 (F := F) (arg4 := arg4) (arg9 := arg9) X4 X9⟩])) k) := by rw [e10]; exact hwDS i _
  let I := loopInv2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) Variants.none c none Set.univ i (BitVec.ofNat 32 (i 0).val) X1 X2 X3 X5 (arg9.view.writes (Elt F) arg9.view.junk (body_first.sl.H9_16 (F := F) (arg4 := arg4) X4)) (arg10.view.writes (Elt F) arg10.view.junk [⟨Rect.whole S16x8x128, body_first.sl.dma33 (F := F) (arg4 := arg4) (arg9 := arg9) X4 X9⟩]) fL0 fL1 hw
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    funext y
    have y1 : (y 1).val < 2048 := (y 1).isLt
    have et : Scf.trips k0_t2_loop.lb k0_t2_loop.ub k0_t2_loop.st = 16 := by decide +kernel
    exact (hL9 y (by rw [et]; omega)).trans (congrFun (outM_congr i _ _ _ _ _ _ _ _ _ _ _ _ hw _ (e9 _) e10 (all11 _ _ hL3) (all12 _ _ hL5)) y)
  isplitl [H9]; · iexists _; isplitl [H9]; (· iexact H9); ipureintro; exact e9 _
  isplitl [H10]; · iexists _; isplitl [H10]; (· iexact H10); ipureintro; exact e10
  isplitl [H11]; · iexists _; iexact H11
  isplitl [H12]; · iexists _; iexact H12
  isplitl [H13]; · iexists _; iexact H13
  isplitl [H14]; · iexists _; iexact H14
  isplitl [H15]; · iexists _; iexact H15
  isplitl [Hq]; · iexact Hq
  iexists _; iexact HW

end Cert.KernelIdeal.Hand
-- ==== Proof.FrameI.lean ====
module

public import proofs.«01_k».proof.Proof.Gen.KernelIdeal.Launch
public import proofs.«01_k».proof.Proof.Gen.KernelIdeal.Points
public import proofs.«01_k».proof.Proof.Gen.KernelIdeal.Skeleton
public import proofs.«01_k».proof.Proof.BodyI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
variable (m : (ℓ : Loc nD τ sig) → Buf (Elt F) ℓ) (ρ : Dev nD → PrngReg)

/-- The buffers of a core when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The block of a window at a point of the grid, of the launch memory. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .smem S16 .f32 := win0_0.stage (cfg0.slots t 0)
abbrev ms0_1 (t : Fin cfg0.N) : Memref sig .tc .smem S4 .f32 := win0_1.stage (cfg0.slots t 1)
abbrev ms0_2 (t : Fin cfg0.N) : Memref sig .tc .smem S4 .f32 := win0_2.stage (cfg0.slots t 2)
abbrev ms0_3 (t : Fin cfg0.N) : Memref sig .tc .vmem S8x2048 .i32 := win0_3.stage (cfg0.slots t 3)
abbrev ms0_4 (t : Fin cfg0.N) : Memref sig .tc .vmem S1x2048x1024 .fp8e4m3 := win0_4.stage (cfg0.slots t 4)
abbrev ms0_5 (t : Fin cfg0.N) : Memref sig .tc .vmem S1x2048x256 .fp8e4m3 := win0_5.stage (cfg0.slots t 5)
abbrev ms0_6 (t : Fin cfg0.N) : Memref sig .tc .vmem S1x2048x256 .fp8e4m3 := win0_6.stage (cfg0.slots t 6)
abbrev ms0_7 (t : Fin cfg0.N) : Memref sig .tc .vmem S1x2048x1024 .bf16 := win0_7.stage (cfg0.slots t 7)
abbrev A9 : Memref sig .tc .vmem S16x8x128 .i32 := Memref.whole cc0_scratch0
abbrev A10 : Memref sig .tc .smem S16x8x128 .i32 := Memref.whole cc0_scratch1
abbrev A11 : Memref sig .tc .vmem S4x16x256x128 .fp8e4m3 := Memref.whole cc0_scratch2
abbrev A12 : Memref sig .tc .vmem S16x256x128 .bf16 := Memref.whole cc0_scratch3
abbrev A13 : Memref sig .tc .vmem S8x8x256 .f32 := Memref.whole cc0_scratch4
abbrev A14 : Memref sig .tc .vmem S8x8x256 .f32 := Memref.whole cc0_scratch5
abbrev A15 : Memref sig .tc .vmem S8x64x256 .f32 := Memref.whole cc0_scratch6

/-- The one DMA cell of the body. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0) := by
  rw [Pipeline.ownSems0_eq_of_list c osem0 [0] (by decide) (by decide)]; rfl
/-- No operand is left in high memory. -/
def H0 : Finset (Ref sig .tc) := ∅
theorem H0_sub : H0 ⊆ Pipeline.restRefs sig spec0 := by decide
theorem hbmPts0_eq (c : Dev nD) : (bigSep H0 (fun b => ((c : Thread nD τ).loc b) ↦{fullShare} V m c b) : sProp 𝕄) = (BI.emp : sProp 𝕄) := by
  rw [BI.bigSep_eq_bigSepL_of_eq [] (by decide) (by decide)]; rfl

/-- What the region hands over: the scratch buffers at anything, the register and the cell at zero. -/
theorem PhiD0_eq (c : Dev nD) :
    (Pipeline.ΦD osem0 spec0 H0 (V m) c : sProp 𝕄)
      = iprop(iprop((∃ d, owns (c : Thread nD τ) A9 fullShare d) ∗ (∃ d, owns (c : Thread nD τ) A11 fullShare d) ∗ (∃ d, owns (c : Thread nD τ) A12 fullShare d) ∗ (∃ d, owns (c : Thread nD τ) A13 fullShare d) ∗ (∃ d, owns (c : Thread nD τ) A14 fullShare d) ∗ (∃ d, owns (c : Thread nD τ) A15 fullShare d) ∗ (∃ d, owns (c : Thread nD τ) A10 fullShare d))
          ∗ (∃ r, prngReg c r) ∗ semVal ((c : Thread nD τ), SemLoc.dma 12) 0 ∗ (BI.emp : sProp 𝕄)) := by
  rw [Pipeline.ΦD_eq, scopedRest0_eq, ownSems00_eq, hbmPts0_eq]
  simp only [A9, A10, A11, A12, A13, A14, A15, owns_whole]; try rfl

/-- The invariant between points: after the first, the two copies of the table hold the starts of the documents. -/
def inv (c : Dev nD) (x4 : S8x2048.Idx → Elt F .i32) (j : ℕ) : sProp 𝕄 :=
  iprop((∃ d9 d10, owns (c : Thread nD τ) A9 fullShare d9 ∗ owns (c : Thread nD τ) A10 fullShare d10 ∗ ⌜j ≠ 0 → d9 = DSM x4 ∧ d10 = DSM x4⌝)
    ∗ (∃ d, owns (c : Thread nD τ) A11 fullShare d) ∗ (∃ d, owns (c : Thread nD τ) A12 fullShare d) ∗ (∃ d, owns (c : Thread nD τ) A13 fullShare d) ∗ (∃ d, owns (c : Thread nD τ) A14 fullShare d) ∗ (∃ d, owns (c : Thread nD τ) A15 fullShare d)
    ∗ (∃ r, prngReg c r) ∗ semVal ((c : Thread nD τ), SemLoc.dma 12) 0)

theorem N_pos : 0 < cfg0.N := by rw [show cfg0.N = 8 from N_0]; decide
/-- The first point of the grid. -/
def tz : Fin cfg0.N := ⟨0, N_pos⟩
/-- The identifiers of the documents, the same block at every point. -/
def segB (c : Dev nD) : S8x2048.Idx → Elt F .i32 := iblk m c 3 tz
theorem segB_eq (c : Dev nD) (t : Fin cfg0.N) : iblk m c 3 t = segB m c := rfl

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF (grid0.coords t) (iblk m c 0 t) (iblk m c 1 t) (iblk m c 2 t) (iblk m c 3 t) (iblk m c 4 t) (iblk m c 5 t) (iblk m c 6 t)
  Φ j := inv c (segB m c) j.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = outF (grid0.coords t) (iblk m c 0 t) (iblk m c 1 t) (iblk m c 2 t) (iblk m c 3 t) (iblk m c 4 t) (iblk m c 5 t) (iblk m c 6 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- At the first point the body takes its branch. -/
theorem first_of_zero (t : Fin cfg0.N) (h : t.val = 0) : Scalar.cmpi .ne (Scalar.extui (Scalar.cmpi .eq (BitVec.ofNat 32 (grid0.coords t 0).val) 0#32) : BitVec 32) 0#32 = 1#1 := by
  obtain rfl : t = tz := Fin.ext h
  decide +kernel

set_option maxHeartbeats 2000000 in
/-- The body at one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = inv c (segB m c) (t.val + 1) from rfl, show (dats m 0 c).Φ t.castSucc = inv c (segB m c) t.val from rfl]
  unfold Dat.owesAt Pipeline.owesWithin
  rw [show (dats m 0 c).owed t.castSucc = 0 from rfl, show (dats m 0 c).owed t.succ = 0 from rfl]
  simp only [before0_0, before0_1, before0_2, before0_3, before0_4, before0_5, before0_6, after0_0, after0_1, after0_2, after0_3, after0_4, after0_5, after0_6, after0_7]
  unfold inv owns
  iintro ⟨⟨⟨%d9, %d10, ⟨%f9, %e9, H9⟩, ⟨%f10, %e10, H10⟩, %hd⟩, ⟨%d11, %f11, -, H11⟩, ⟨%d12, %f12, -, H12⟩, ⟨%d13, %f13, -, H13⟩, ⟨%d14, %f14, -, H14⟩, ⟨%d15, %f15, -, H15⟩, Hg, Hq⟩, ⟨%W, -, HW⟩,
    ⟨%g0, %f0, %e0, H0⟩, ⟨%g1, %f1, %e1, H1⟩, ⟨%g2, %f2, %e2, H2⟩, ⟨%g3, %f3, %e3, H3⟩, ⟨%g4, %f4, %e4, H4⟩, ⟨%g5, %f5, %e5, H5⟩, ⟨%g6, %f6, %e6, H6⟩, ⟨%g7, %f7, -, H7⟩⟩
  by_cases h0 : Scalar.cmpi .ne (Scalar.extui (Scalar.cmpi .eq (BitVec.ofNat 32 (grid0.coords t 0).val) 0#32) : BitVec 32) 0#32 = 1#1
  · iapply wp_wand_r
    isplitl [H0 H1 H2 H3 H4 H5 H6 H7 H9 H10 H11 H12 H13 H14 H15 Hq HW]
    · iapply (body_first c (grid0.coords t) h0 f0 f1 f2 f3 f4 f5 f6 f9 f10 f7 f11 f12 f13 f14 f15 W)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hq]; · iexact Hq
      iexact HW
    iintro %_ ⟨H0, H1, H2, H3, H4, H5, H6, ⟨%o7, H7, %e7⟩, ⟨%k9, H9, %r9⟩, ⟨%k10, H10, %r10⟩, ⟨%k11, H11⟩, ⟨%k12, H12⟩, ⟨%k13, H13⟩, ⟨%k14, H14⟩, ⟨%k15, H15⟩, Hq, ⟨%W', HW⟩⟩
    isplitl [H9 H10 H11 H12 H13 H14 H15 Hg Hq]
    · isplitl [H9 H10]
      · iexists (DSM (segB m c)), (DSM (segB m c))
        isplitl [H9]
        · iexists _; isplitr
          swap; · iexact H9
          ipureintro; exact r9.trans (congrArg DSM e3)
        isplitl [H10]
        · iexists _; isplitr
          swap; · iexact H10
          ipureintro; exact r10.trans (congrArg DSM e3)
        ipureintro; exact fun _ => ⟨rfl, rfl⟩
      isplitl [H11]
      · iexists _, _; isplitr
        swap; · iexact H11
        ipureintro; rfl
      isplitl [H12]
      · iexists _, _; isplitr
        swap; · iexact H12
        ipureintro; rfl
      isplitl [H13]
      · iexists _, _; isplitr
        swap; · iexact H13
        ipureintro; rfl
      isplitl [H14]
      · iexists _, _; isplitr
        swap; · iexact H14
        ipureintro; rfl
      isplitl [H15]
      · iexists _, _; isplitr
        swap; · iexact H15
        ipureintro; rfl
      isplitl [Hg]; · iexact Hg
      iexact Hq
    isplitl [HW]
    · iexists W'; isplitr
      · ipureintro; exact fun _ _ => Or.inl trivial
      iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    iexists _; isplitr
    swap; · iexact H7
    ipureintro; exact e7.trans (by rw [e0, e1, e2, e3, e4, e5, e6])
  · have ht : t.val ≠ 0 := fun h => h0 (first_of_zero t h)
    have e9' := e9.trans (hd ht).1
    have e10' := e10.trans (hd ht).2
    iapply wp_wand_r
    isplitl [H0 H1 H2 H3 H4 H5 H6 H7 H9 H10 H11 H12 H13 H14 H15]
    · iapply (body_next c Set.univ (grid0.coords t) h0 f0 f1 f2 f3 f4 f5 f6 f9 f10 f7 f11 f12 f13 f14 f15 (segB m c) e9' e10')
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [H14]; · iexact H14
      iexact H15
    iintro %_ ⟨H0, H1, H2, H3, H4, H5, H6, ⟨%o7, H7, %e7⟩, H9, H10, ⟨%k11, H11⟩, ⟨%k12, H12⟩, ⟨%k13, H13⟩, ⟨%k14, H14⟩, ⟨%k15, H15⟩⟩
    isplitl [H9 H10 H11 H12 H13 H14 H15 Hg Hq]
    · isplitl [H9 H10]
      · iexists (DSM (segB m c)), (DSM (segB m c))
        isplitl [H9]
        · iexists _; isplitr
          swap; · iexact H9
          ipureintro; exact e9'
        isplitl [H10]
        · iexists _; isplitr
          swap; · iexact H10
          ipureintro; exact e10'
        ipureintro; exact fun _ => ⟨rfl, rfl⟩
      isplitl [H11]
      · iexists _, _; isplitr
        swap; · iexact H11
        ipureintro; rfl
      isplitl [H12]
      · iexists _, _; isplitr
        swap; · iexact H12
        ipureintro; rfl
      isplitl [H13]
      · iexists _, _; isplitr
        swap; · iexact H13
        ipureintro; rfl
      isplitl [H14]
      · iexists _, _; isplitr
        swap; · iexact H14
        ipureintro; rfl
      isplitl [H15]
      · iexists _, _; isplitr
        swap; · iexact H15
        ipureintro; rfl
      isplitl [Hg]; · iexact Hg
      iexact Hq
    isplitl [HW]
    · iexists W; isplitr
      · ipureintro; exact fun _ _ => Or.inl trivial
      iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    iexists _; isplitr
    swap; · iexact H7
    ipureintro; exact e7.trans (by rw [e0, e1, e2, e4, e5, e6]; rfl)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦD osem0 spec0 H0 (V m) c : sProp 𝕄) ⊢ (dats m 0 c).Φ 0 := by
  rw [PhiD0_eq, show (dats m 0 c).Φ 0 = inv c (segB m c) 0 from rfl]
  unfold inv
  iintro ⟨⟨⟨%d9, H9⟩, H11, H12, H13, H14, H15, ⟨%d10, H10⟩⟩, Hg, Hq, -⟩
  isplitl [H9 H10]
  · iexists d9, d10
    isplitl [H9]; · iexact H9
    isplitl [H10]; · iexact H10
    ipureintro; exact fun h => absurd rfl h
  isplitl [H11]; · iexact H11
  isplitl [H12]; · iexact H12
  isplitl [H13]; · iexact H13
  isplitl [H14]; · iexact H14
  isplitl [H15]; · iexact H15
  isplitl [Hg]; · iexact Hg
  iexact Hq

theorem hout (c : Dev nD) : (dats m 0 c).Φ (Fin.last cfg0.N) ⊢ (Pipeline.ΦD osem0 spec0 H0 (V m) c : sProp 𝕄) := by
  rw [PhiD0_eq, show (dats m 0 c).Φ (Fin.last cfg0.N) = inv c (segB m c) cfg0.N from rfl]
  unfold inv
  iintro ⟨⟨%d9, %d10, H9, H10, -⟩, H11, H12, H13, H14, H15, Hg, Hq⟩
  isplitl [H9 H10 H11 H12 H13 H14 H15]
  · isplitl [H9]; · iexists _; iexact H9
    isplitl [H11]; · iexact H11
    isplitl [H12]; · iexact H12
    isplitl [H13]; · iexact H13
    isplitl [H14]; · iexact H14
    isplitl [H15]; · iexact H15
    iexists _; iexact H10
  isplitl [Hg]; · iexact Hg
  isplitl [Hq]; · iexact Hq
  iempintro

set_option backward.isDefEq.respectTransparency.types false in
/-- The run of the whole program: every window's array as the pipeline leaves it, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: the program ends, its arguments are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.KernelIdeal.Hand
-- ==== Proof.ModelB.lean ====
module

public import proofs.«01_k».proof.Proof.Gen.Kernel.Loops
public import proofs.«01_k».proof.Proof.Gen.Kernel.Points
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
/-- The product of a head's two scales and the constant that turns the softmax exponent to base two. -/
def scl (q k : F .f32) : F .f32 := Scalar.mulf (Scalar.mulf q k) (Scalar.ofBits .f32 0x3E38AA3B#32)

/-- The score that stands in a masked place. -/
def msk : F .f32 := Scalar.ofBits .f32 0xFF61B1E6#32

/-- The masked scores of the two heads that use the even half-lanes: keys by queries. -/
def tA (ok : IVec S128x128 1) (s : FVec F S256x256 .f32) (c1 c2 : F .f32) : FVec F S128x256 .f32 :=
  concatenate S128x256 1 [⟨S128x128, select ok (mulf (extractStridedSlice S128x128 ![0, 0] s slices_S256x256_o0_0_S128x128) (broadcast S128x128 c1)) (broadcast S128x128 msk)⟩,
    ⟨S128x128, select ok (mulf (extractStridedSlice S128x128 ![0, 128] s slices_S256x256_o0_128_S128x128) (broadcast S128x128 c2)) (broadcast S128x128 msk)⟩] concatenates_S128x128_S128x128_S128x256_d1

/-- The masked scores of the two heads that use the odd half-lanes: keys by queries. -/
def tB (ok : IVec S128x128 1) (s : FVec F S256x256 .f32) (c1 c2 : F .f32) : FVec F S128x256 .f32 :=
  concatenate S128x256 1 [⟨S128x128, select ok (mulf (extractStridedSlice S128x128 ![128, 0] s slices_S256x256_o128_0_S128x128) (broadcast S128x128 c1)) (broadcast S128x128 msk)⟩,
    ⟨S128x128, select ok (mulf (extractStridedSlice S128x128 ![128, 128] s slices_S256x256_o128_128_S128x128) (broadcast S128x128 c2)) (broadcast S128x128 msk)⟩] concatenates_S128x128_S128x128_S128x256_d1

/-- The running maximum after one more block of keys. -/
def mNew (t : FVec F S128x256 .f32) (m : Vec F S1x8x256 .f32) : FVec F S8x256 .f32 :=
  maximumf (shapeCast S8x256 m shapeCasts_S1x8x256_S8x256)
    (broadcastTo S8x256 (shapeCast S1x256 (multiReduction .maximumf [0] S256 t 0xFF800000#32 reduces_S128x256_S256 (.inl rfl) rfl) shapeCasts_S256_S1x256) broadcasts_S1x256_S8x256)

/-- The factor that turns the old sums to the new maximum. -/
def alph (t : FVec F S128x256 .f32) (m : Vec F S1x8x256 .f32) : FVec F S8x256 .f32 :=
  exp2 (subf (shapeCast S8x256 m shapeCasts_S1x8x256_S8x256) (mNew t m))

/-- The block's weights. -/
def wts (t : FVec F S128x256 .f32) (m : Vec F S1x8x256 .f32) : FVec F S128x256 .f32 :=
  exp2 (subf t (broadcastTo S128x256 (extractStridedSlice S1x256 ![0, 0] (mNew t m) slices_S8x256_o0_0_S1x256) broadcasts_S1x256_S128x256))

/-- The maximum, in the shape it is stored in. -/
def msM (t : FVec F S128x256 .f32) (m : Vec F S1x8x256 .f32) : Vec F S1x8x256 .f32 :=
  shapeCast S1x8x256 (mNew t m) shapeCasts_S8x256_S1x8x256

/-- The sum of the weights (eight partial sums), in the shape it is stored in. -/
def lsM (t : FVec F S128x256 .f32) (m l : Vec F S1x8x256 .f32) : Vec F S1x8x256 .f32 :=
  shapeCast S1x8x256 (addf (mulf (shapeCast S8x256 l shapeCasts_S1x8x256_S8x256) (alph t m))
    (multiReduction .add [0] S8x256 (shapeCast S16x8x256 (wts t m) shapeCasts_S128x256_S16x8x256) 0x00000000#32 reduces_S16x8x256_S8x256 (.inl rfl) rfl)) shapeCasts_S8x256_S1x8x256

/-- The weighted sum of the values, in the shape it is stored in. -/
def asM (t : FVec F S128x256 .f32) (m : Vec F S1x8x256 .f32) (vt : Vec F S1x64x128 .bf16) (a : Vec F S1x64x256 .f32) : Vec F S1x64x256 .f32 :=
  shapeCast S1x64x256 (addf (mulf (shapeCast S64x256 a shapeCasts_S1x64x256_S64x256)
      (broadcastTo S64x256 (extractStridedSlice S1x256 ![0, 0] (alph t m) slices_S8x256_o0_0_S1x256) broadcasts_S1x256_S64x256))
    (matmul dot_S64x128_S128x256_S64x256_1_0_0_1_n_n none (shapeCast S64x128 vt shapeCasts_S1x64x128_S64x128) (truncf .bf16 (wts t m) bitsLt_bf16_f32) (constant S64x256 .f32 0x00000000#32))) shapeCasts_S64x256_S1x64x256

/-- One of the eight slabs of a running statistic. -/
def sl8 {e : EltTy} (m : S8x8x256.Idx → Elt F e) (s : Fin 8) : Vec F S1x8x256 e := fun x => m (ix3 s (x 1) (x 2))

/-- One of the eight slabs of the accumulator. -/
def sl64 {e : EltTy} (m : S8x64x256.Idx → Elt F e) (s : Fin 8) : Vec F S1x64x256 e := fun x => m (ix3 s (x 1) (x 2))

theorem ld_sl8 {e : EltTy} (m : S8x8x256.Idx → Elt F e) (s : ℕ) (hs : s < 8) (h : ∀ a, (![s, 0, 0] : Fin 3 → ℕ) a + S1x8x256.size a ≤ S8x8x256.size a) :
    View.ld m (Rect.unit (s := S8x8x256) ![s, 0, 0] S1x8x256.size h) = sl8 m ⟨s, hs⟩ := by
  funext x
  refine congrArg m (funext fun a => Fin.ext ?_)
  have h0 : (x 0).val = 0 := by have := (x 0).isLt; change (x 0).val < 1 at this; omega
  fin_cases a
  · change s + 1 * (x 0).val = s; omega
  · change 0 + 1 * (x 1).val = (x 1).val; omega
  · change 0 + 1 * (x 2).val = (x 2).val; omega

theorem ld_sl64 {e : EltTy} (m : S8x64x256.Idx → Elt F e) (s : ℕ) (hs : s < 8) (h : ∀ a, (![s, 0, 0] : Fin 3 → ℕ) a + S1x64x256.size a ≤ S8x64x256.size a) :
    View.ld m (Rect.unit (s := S8x64x256) ![s, 0, 0] S1x64x256.size h) = sl64 m ⟨s, hs⟩ := by
  funext x
  refine congrArg m (funext fun a => Fin.ext ?_)
  have h0 : (x 0).val = 0 := by have := (x 0).isLt; change (x 0).val < 1 at this; omega
  fin_cases a
  · change s + 1 * (x 0).val = s; omega
  · change 0 + 1 * (x 1).val = (x 1).val; omega
  · change 0 + 1 * (x 2).val = (x 2).val; omega

/-- The array whose slabs are given. -/
def un8 {e : EltTy} (W : Fin 8 → Vec F S1x8x256 e) : S8x8x256.Idx → Elt F e := fun y => W (y 0) (ix3 0 (y 1) (y 2))

/-- The array whose slabs are given. -/
def un64 {e : EltTy} (W : Fin 8 → Vec F S1x64x256 e) : S8x64x256.Idx → Elt F e := fun y => W (y 0) (ix3 0 (y 1) (y 2))

theorem un8_emb {e : EltTy} (W : Fin 8 → Vec F S1x8x256 e) (s : ℕ) (hs : s < 8) (h : ∀ a, (![s, 0, 0] : Fin 3 → ℕ) a + S1x8x256.size a ≤ S8x8x256.size a) (x : S1x8x256.Idx) :
    un8 W ((Rect.unit (s := S8x8x256) ![s, 0, 0] S1x8x256.size h).emb x) = W ⟨s, hs⟩ x := by
  have h0 : (x 0).val = 0 := by have := (x 0).isLt; change (x 0).val < 1 at this; omega
  have e0 : ((Rect.unit (s := S8x8x256) ![s, 0, 0] S1x8x256.size h).emb x) 0 = (⟨s, hs⟩ : Fin 8) := by
    apply Fin.ext; change s + 1 * (x 0).val = s; omega
  have e1 : (ix3 0 (((Rect.unit (s := S8x8x256) ![s, 0, 0] S1x8x256.size h).emb x) 1) (((Rect.unit (s := S8x8x256) ![s, 0, 0] S1x8x256.size h).emb x) 2) : S1x8x256.Idx) = x := by
    funext a; apply Fin.ext; fin_cases a
    · change 0 = (x 0).val; omega
    · change 0 + 1 * (x 1).val = (x 1).val; omega
    · change 0 + 1 * (x 2).val = (x 2).val; omega
  unfold un8; rw [e0, e1]

theorem un64_emb {e : EltTy} (W : Fin 8 → Vec F S1x64x256 e) (s : ℕ) (hs : s < 8) (h : ∀ a, (![s, 0, 0] : Fin 3 → ℕ) a + S1x64x256.size a ≤ S8x64x256.size a) (x : S1x64x256.Idx) :
    un64 W ((Rect.unit (s := S8x64x256) ![s, 0, 0] S1x64x256.size h).emb x) = W ⟨s, hs⟩ x := by
  have h0 : (x 0).val = 0 := by have := (x 0).isLt; change (x 0).val < 1 at this; omega
  have e0 : ((Rect.unit (s := S8x64x256) ![s, 0, 0] S1x64x256.size h).emb x) 0 = (⟨s, hs⟩ : Fin 8) := by
    apply Fin.ext; change s + 1 * (x 0).val = s; omega
  have e1 : (ix3 0 (((Rect.unit (s := S8x64x256) ![s, 0, 0] S1x64x256.size h).emb x) 1) (((Rect.unit (s := S8x64x256) ![s, 0, 0] S1x64x256.size h).emb x) 2) : S1x64x256.Idx) = x := by
    funext a; apply Fin.ext; fin_cases a
    · change 0 = (x 0).val; omega
    · change 0 + 1 * (x 1).val = (x 1).val; omega
    · change 0 + 1 * (x 2).val = (x 2).val; omega
  unfold un64; rw [e0, e1]

/-- The eight score blocks of one key block, from the loaded tiles and the scales. -/
def TM (ok : IVec S128x128 1) (xs : Fin 8 → Vec F S1x128x128 .fp8e4m3) (kz : Fin 4 → Vec F S1x1x256x128 .fp8e4m3) (q : Fin 16 → F .f32) (k : Fin 4 → F .f32) : Fin 8 → FVec F S128x256 .f32 :=
  ![tA ok (k0_pay37 (xs 0) (xs 1) (kz 0)) (scl (q 0) (k 0)) (scl (q 2) (k 0)),
    tB ok (k0_pay37 (xs 0) (xs 1) (kz 0)) (scl (q 1) (k 0)) (scl (q 3) (k 0)),
    tA ok (k0_pay37 (xs 2) (xs 3) (kz 1)) (scl (q 4) (k 1)) (scl (q 6) (k 1)),
    tB ok (k0_pay37 (xs 2) (xs 3) (kz 1)) (scl (q 5) (k 1)) (scl (q 7) (k 1)),
    tA ok (k0_pay37 (xs 4) (xs 5) (kz 2)) (scl (q 8) (k 2)) (scl (q 10) (k 2)),
    tB ok (k0_pay37 (xs 4) (xs 5) (kz 2)) (scl (q 9) (k 2)) (scl (q 11) (k 2)),
    tA ok (k0_pay37 (xs 6) (xs 7) (kz 3)) (scl (q 12) (k 3)) (scl (q 14) (k 3)),
    tB ok (k0_pay37 (xs 6) (xs 7) (kz 3)) (scl (q 13) (k 3)) (scl (q 15) (k 3))]

/-- The values of each of the eight slabs: two slabs share a key head. -/
def VM (vt : Fin 4 → Vec F S1x64x128 .bf16) : Fin 8 → Vec F S1x64x128 .bf16 := ![vt 0, vt 0, vt 1, vt 1, vt 2, vt 2, vt 3, vt 3]

def stM (t : Fin 8 → FVec F S128x256 .f32) (m : S8x8x256.Idx → Elt F .f32) : S8x8x256.Idx → Elt F .f32 :=
  un8 fun s => msM (t s) (sl8 m s)
def stL (t : Fin 8 → FVec F S128x256 .f32) (m l : S8x8x256.Idx → Elt F .f32) : S8x8x256.Idx → Elt F .f32 :=
  un8 fun s => lsM (t s) (sl8 m s) (sl8 l s)
def stA (t : Fin 8 → FVec F S128x256 .f32) (v : Fin 8 → Vec F S1x64x128 .bf16) (m : S8x8x256.Idx → Elt F .f32) (a : S8x64x256.Idx → Elt F .f32) : S8x64x256.Idx → Elt F .f32 :=
  un64 fun s => asM (t s) (sl8 m s) (v s) (sl64 a s)

/-- The sixteen query-head scales. -/
def qsM (x : S16.Idx → Elt F .f32) : Fin 16 → F .f32 :=
  ![View.ld x (Rect.unit (s := S16) ![0] S1.size inb_S16_S1_0) (Shape.Idx.first (s := S1) (by decide)),
    View.ld x (Rect.unit (s := S16) ![1] S1.size inb_S16_S1_1) (Shape.Idx.first (s := S1) (by decide)),
    View.ld x (Rect.unit (s := S16) ![2] S1.size inb_S16_S1_2) (Shape.Idx.first (s := S1) (by decide)),
    View.ld x (Rect.unit (s := S16) ![3] S1.size inb_S16_S1_3) (Shape.Idx.first (s := S1) (by decide)),
    View.ld x (Rect.unit (s := S16) ![4] S1.size inb_S16_S1_4) (Shape.Idx.first (s := S1) (by decide)),
    View.ld x (Rect.unit (s := S16) ![5] S1.size inb_S16_S1_5) (Shape.Idx.first (s := S1) (by decide)),
    View.ld x (Rect.unit (s := S16) ![6] S1.size inb_S16_S1_6) (Shape.Idx.first (s := S1) (by decide)),
    View.ld x (Rect.unit (s := S16) ![7] S1.size inb_S16_S1_7) (Shape.Idx.first (s := S1) (by decide)),
    View.ld x (Rect.unit (s := S16) ![8] S1.size inb_S16_S1_8) (Shape.Idx.first (s := S1) (by decide)),
    View.ld x (Rect.unit (s := S16) ![9] S1.size inb_S16_S1_9) (Shape.Idx.first (s := S1) (by decide)),
    View.ld x (Rect.unit (s := S16) ![10] S1.size inb_S16_S1_10) (Shape.Idx.first (s := S1) (by decide)),
    View.ld x (Rect.unit (s := S16) ![11] S1.size inb_S16_S1_11) (Shape.Idx.first (s := S1) (by decide)),
    View.ld x (Rect.unit (s := S16) ![12] S1.size inb_S16_S1_12) (Shape.Idx.first (s := S1) (by decide)),
    View.ld x (Rect.unit (s := S16) ![13] S1.size inb_S16_S1_13) (Shape.Idx.first (s := S1) (by decide)),
    View.ld x (Rect.unit (s := S16) ![14] S1.size inb_S16_S1_14) (Shape.Idx.first (s := S1) (by decide)),
    View.ld x (Rect.unit (s := S16) ![15] S1.size inb_S16_S1_15) (Shape.Idx.first (s := S1) (by decide))]
/-- The four key-head scales. -/
def ksM (x : S4.Idx → Elt F .f32) : Fin 4 → F .f32 :=
  ![View.ld x (Rect.unit (s := S4) ![0] S1.size inb_S4_S1_0) (Shape.Idx.first (s := S1) (by decide)),
    View.ld x (Rect.unit (s := S4) ![1] S1.size inb_S4_S1_1) (Shape.Idx.first (s := S1) (by decide)),
    View.ld x (Rect.unit (s := S4) ![2] S1.size inb_S4_S1_2) (Shape.Idx.first (s := S1) (by decide)),
    View.ld x (Rect.unit (s := S4) ![3] S1.size inb_S4_S1_3) (Shape.Idx.first (s := S1) (by decide))]

/-- The eight column tiles of the block of queries. -/
def xsM (x : S1x2048x1024.Idx → Elt F .fp8e4m3) (i : Fin k0_t2_loop.trips) : Fin 8 → Vec F S1x128x128 .fp8e4m3 :=
  ![View.ld x (Rect.unit (s := S1x2048x1024) (k0_off15 i) S1x128x128.size (k0_off15_inb i)),
    View.ld x (Rect.unit (s := S1x2048x1024) (k0_off16 i) S1x128x128.size (k0_off16_inb i)),
    View.ld x (Rect.unit (s := S1x2048x1024) (k0_off19 i) S1x128x128.size (k0_off19_inb i)),
    View.ld x (Rect.unit (s := S1x2048x1024) (k0_off20 i) S1x128x128.size (k0_off20_inb i)),
    View.ld x (Rect.unit (s := S1x2048x1024) (k0_off23 i) S1x128x128.size (k0_off23_inb i)),
    View.ld x (Rect.unit (s := S1x2048x1024) (k0_off24 i) S1x128x128.size (k0_off24_inb i)),
    View.ld x (Rect.unit (s := S1x2048x1024) (k0_off27 i) S1x128x128.size (k0_off27_inb i)),
    View.ld x (Rect.unit (s := S1x2048x1024) (k0_off28 i) S1x128x128.size (k0_off28_inb i))]

/-- The four padded key tiles of one key block. -/
def kzM (x : S4x16x256x128.Idx → Elt F .fp8e4m3) (i : Fin k0_t2_loop.trips) (v28 : Elt F .i32) (hw : k0_chk1 i v28) (k : Fin (k0_t3_loop i v28).trips) : Fin 4 → Vec F S1x1x256x128 .fp8e4m3 :=
  ![View.ld x (Rect.unit (s := S4x16x256x128) (k0_off17 i v28 k) S1x1x256x128.size (k0_off17_inb i v28 hw k)),
    View.ld x (Rect.unit (s := S4x16x256x128) (k0_off21 i v28 k) S1x1x256x128.size (k0_off21_inb i v28 hw k)),
    View.ld x (Rect.unit (s := S4x16x256x128) (k0_off25 i v28 k) S1x1x256x128.size (k0_off25_inb i v28 hw k)),
    View.ld x (Rect.unit (s := S4x16x256x128) (k0_off29 i v28 k) S1x1x256x128.size (k0_off29_inb i v28 hw k))]

/-- The four transposed value tiles of one key block. -/
def vtM (x : S16x256x128.Idx → Elt F .bf16) (i : Fin k0_t2_loop.trips) (v28 : Elt F .i32) (hw : k0_chk1 i v28) (k : Fin (k0_t3_loop i v28).trips) : Fin 4 → Vec F S1x64x128 .bf16 :=
  ![View.ld x (Rect.unit (s := S16x256x128) (k0_off18 i v28 k) S1x64x128.size (k0_off18_inb i v28 hw k)),
    View.ld x (Rect.unit (s := S16x256x128) (k0_off22 i v28 k) S1x64x128.size (k0_off22_inb i v28 hw k)),
    View.ld x (Rect.unit (s := S16x256x128) (k0_off26 i v28 k) S1x64x128.size (k0_off26_inb i v28 hw k)),
    View.ld x (Rect.unit (s := S16x256x128) (k0_off30 i v28 k) S1x64x128.size (k0_off30_inb i v28 hw k))]

/-- The score blocks of the trip `k` of the key loop. -/
def TT (x1 : S16.Idx → Elt F .f32) (x2 : S4.Idx → Elt F .f32) (x5 : S1x2048x1024.Idx → Elt F .fp8e4m3) (x11 : S4x16x256x128.Idx → Elt F .fp8e4m3)
    (i : Fin k0_t2_loop.trips) (v10 v13 : IVec S1x128 32) (v28 : Elt F .i32) (hw : k0_chk1 i v28) (w5 : BitVec 32) (k : Fin (k0_t3_loop i v28).trips) : Fin 8 → FVec F S128x256 .f32 :=
  TM (k0_pay36 (F := F) i v10 v13 v28 w5 1#32 k) (xsM x5 i) (kzM x11 i v28 hw k) (qsM x1) (ksM x2)

/-- The running statistics of one block of queries. -/
structure St (F : FTy → Type) where
  m : S8x8x256.Idx → Elt F .f32
  l : S8x8x256.Idx → Elt F .f32
  a : S8x64x256.Idx → Elt F .f32

/-- The statistics after a trip, from the trip's scores and values. -/
def St.step (t : Fin 8 → FVec F S128x256 .f32) (v : Fin 8 → Vec F S1x64x128 .bf16) (s : St F) : St F :=
  ⟨stM t s.m, stL t s.m s.l, stA t v s.m s.a⟩

/-- The statistics after the first `k` trips. -/
def iter {n : ℕ} (T : Fin n → Fin 8 → FVec F S128x256 .f32) (V : Fin n → Fin 8 → Vec F S1x64x128 .bf16) (s : St F) : ℕ → St F
  | 0 => s
  | k + 1 => if h : k < n then (iter T V s k).step (T ⟨k, h⟩) (V ⟨k, h⟩) else iter T V s k

theorem iter_succ {n : ℕ} (T : Fin n → Fin 8 → FVec F S128x256 .f32) (V : Fin n → Fin 8 → Vec F S1x64x128 .bf16) (s : St F) (k : Fin n) :
    iter T V s (k.val + 1) = (iter T V s k.val).step (T k) (V k) := by
  simp only [iter, k.isLt, dite_true]

end Cert.Kernel.Hand
-- ==== Proof.Loop3B.lean ====
module

public import proofs.«01_k».proof.Proof.ModelB
public import proofs.«01_k».proof.Proof.Gen.Kernel.Launch
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- Whole ownership of a buffer's place with given contents. -/
abbrev Pt (c : Dev nD) {sp : Space} {S : Shape} {e : EltTy} (M : Memref sig .tc sp S e) (f : BufTy.Contents (Elt F) M.view.ty) : sProp 𝕄 :=
  M.view.loc (c : Thread nD τ) ↦[M.view.set]{fullShare} f

/-- One trip of the key loop. -/
theorem trip3 (𝒱 : Variants) (c : Dev nD) (bd : Option 𝒱.V) (E : Set ℕ) (i : grid0.Coords)
    (k0_t2 : Fin k0_t2_loop.trips) (arg17 : BitVec 32) (v6 : BitVec 32) (v10 : IVec S1x128 32) (v13 : IVec S1x128 32) (v28 : Elt F .i32) (k0_hw1 : k0_chk1 k0_t2 v28) (w1 w2 w3 w4 w5 : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (k : Fin (k0_t3_loop k0_t2 v28).trips) (acc : BitVec 32) (f13 : BufTy.Contents (Elt F) arg13.view.ty) (f14 : BufTy.Contents (Elt F) arg14.view.ty) (f15 : BufTy.Contents (Elt F) arg15.view.ty) :
    (iprop(Pt c arg1 X1 ∗ Pt c arg2 X2 ∗ Pt c arg5 X5 ∗ Pt c arg11 X11 ∗ Pt c arg12 X12 ∗ Pt c arg13 f13 ∗ Pt c arg14 f14 ∗ Pt c arg15 f15) : sProp 𝕄)
      ⊢ wp frame (wpE (defs₀ (F := F)) 𝒱 (c : Thread nD τ) bd) E (k0_t3_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t2 arg17 v6 v10 v13 v28 k0_hw1 w1 w2 w3 w4 w5 k acc)
          (fun _ => iprop(Pt c arg1 X1 ∗ Pt c arg2 X2 ∗ Pt c arg5 X5 ∗ Pt c arg11 X11 ∗ Pt c arg12 X12
            ∗ (∃ f, Pt c arg13 f ∗ ⌜arg13.view.read (Elt F) f = stM (TT (arg1.view.read (Elt F) X1) (arg2.view.read (Elt F) X2) (arg5.view.read (Elt F) X5) (arg11.view.read (Elt F) X11) k0_t2 v10 v13 v28 k0_hw1 w5 k) (arg13.view.read (Elt F) f13)⌝)
            ∗ (∃ f, Pt c arg14 f ∗ ⌜arg14.view.read (Elt F) f = stL (TT (arg1.view.read (Elt F) X1) (arg2.view.read (Elt F) X2) (arg5.view.read (Elt F) X5) (arg11.view.read (Elt F) X11) k0_t2 v10 v13 v28 k0_hw1 w5 k) (arg13.view.read (Elt F) f13) (arg14.view.read (Elt F) f14)⌝)
            ∗ (∃ f, Pt c arg15 f ∗ ⌜arg15.view.read (Elt F) f = stA (TT (arg1.view.read (Elt F) X1) (arg2.view.read (Elt F) X2) (arg5.view.read (Elt F) X5) (arg11.view.read (Elt F) X11) k0_t2 v10 v13 v28 k0_hw1 w5 k) (VM (vtM (arg12.view.read (Elt F) X12) k0_t2 v28 k0_hw1 k)) (arg13.view.read (Elt F) f13) (arg15.view.read (Elt F) f15)⌝))) := by
  unfold k0_t3_body
  iintro ⟨H1, H2, H5, H11, H12, H13, H14, H15⟩
  sl_exec
  sl_step
  isplitl [H1]; · iexact H1
  isplitl [H2]; · iexact H2
  isplitl [H5]; · iexact H5
  isplitl [H11]; · iexact H11
  isplitl [H12]; · iexact H12
  isplitl [H13]
  · iexists _; isplitl [H13]; · iexact H13
    ipureintro
    funext y
    refine View.read_writes_apply_of_pieces _ _ _ _ ?_ y (View.cover_of_tiledL (s := S8x8x256) _ S1x8x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un8_emb _ _ (by decide) _ x).symm
      refine congrFun ?_ x
    · rw [← ld_sl8 (h := inb_S8x8x256_S1x8x256_7_0_0)]; sl_kernel_rfl
    · rw [← ld_sl8 (h := inb_S8x8x256_S1x8x256_6_0_0)]; sl_kernel_rfl
    · rw [← ld_sl8 (h := inb_S8x8x256_S1x8x256_5_0_0)]; sl_kernel_rfl
    · rw [← ld_sl8 (h := inb_S8x8x256_S1x8x256_4_0_0)]; sl_kernel_rfl
    · rw [← ld_sl8 (h := inb_S8x8x256_S1x8x256_3_0_0)]; sl_kernel_rfl
    · rw [← ld_sl8 (h := inb_S8x8x256_S1x8x256_2_0_0)]; sl_kernel_rfl
    · rw [← ld_sl8 (h := inb_S8x8x256_S1x8x256_1_0_0)]; sl_kernel_rfl
    · rw [← ld_sl8 (h := inb_S8x8x256_S1x8x256_0_0_0)]; sl_kernel_rfl
  isplitl [H14]
  · iexists _; isplitl [H14]; · iexact H14
    ipureintro
    funext y
    refine View.read_writes_apply_of_pieces _ _ _ _ ?_ y (View.cover_of_tiledL (s := S8x8x256) _ S1x8x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un8_emb _ _ (by decide) _ x).symm
      refine congrFun ?_ x
    · rw [← ld_sl8 (h := inb_S8x8x256_S1x8x256_7_0_0), ← ld_sl8 (h := inb_S8x8x256_S1x8x256_7_0_0)]; sl_kernel_rfl
    · rw [← ld_sl8 (h := inb_S8x8x256_S1x8x256_6_0_0), ← ld_sl8 (h := inb_S8x8x256_S1x8x256_6_0_0)]; sl_kernel_rfl
    · rw [← ld_sl8 (h := inb_S8x8x256_S1x8x256_5_0_0), ← ld_sl8 (h := inb_S8x8x256_S1x8x256_5_0_0)]; sl_kernel_rfl
    · rw [← ld_sl8 (h := inb_S8x8x256_S1x8x256_4_0_0), ← ld_sl8 (h := inb_S8x8x256_S1x8x256_4_0_0)]; sl_kernel_rfl
    · rw [← ld_sl8 (h := inb_S8x8x256_S1x8x256_3_0_0), ← ld_sl8 (h := inb_S8x8x256_S1x8x256_3_0_0)]; sl_kernel_rfl
    · rw [← ld_sl8 (h := inb_S8x8x256_S1x8x256_2_0_0), ← ld_sl8 (h := inb_S8x8x256_S1x8x256_2_0_0)]; sl_kernel_rfl
    · rw [← ld_sl8 (h := inb_S8x8x256_S1x8x256_1_0_0), ← ld_sl8 (h := inb_S8x8x256_S1x8x256_1_0_0)]; sl_kernel_rfl
    · rw [← ld_sl8 (h := inb_S8x8x256_S1x8x256_0_0_0), ← ld_sl8 (h := inb_S8x8x256_S1x8x256_0_0_0)]; sl_kernel_rfl
  · iexists _; isplitl [H15]; · iexact H15
    ipureintro
    funext y
    refine View.read_writes_apply_of_pieces _ _ _ _ ?_ y (View.cover_of_tiledL (s := S8x64x256) _ S1x64x256.size (by sl_kernel_rfl) y)
    simp only [List.forall_mem_cons, List.not_mem_nil, false_imp_iff, implies_true, _root_.and_true]
    refine ⟨?_, ?_, ?_, ?_, ?_, ?_, ?_, ?_⟩
    all_goals
      intro x
      refine Eq.trans ?_ (un64_emb _ _ (by decide) _ x).symm
      refine congrFun ?_ x
    · rw [← ld_sl8 (h := inb_S8x8x256_S1x8x256_7_0_0), ← ld_sl64 (h := inb_S8x64x256_S1x64x256_7_0_0)]; sl_kernel_rfl
    · rw [← ld_sl8 (h := inb_S8x8x256_S1x8x256_6_0_0), ← ld_sl64 (h := inb_S8x64x256_S1x64x256_6_0_0)]; sl_kernel_rfl
    · rw [← ld_sl8 (h := inb_S8x8x256_S1x8x256_5_0_0), ← ld_sl64 (h := inb_S8x64x256_S1x64x256_5_0_0)]; sl_kernel_rfl
    · rw [← ld_sl8 (h := inb_S8x8x256_S1x8x256_4_0_0), ← ld_sl64 (h := inb_S8x64x256_S1x64x256_4_0_0)]; sl_kernel_rfl
    · rw [← ld_sl8 (h := inb_S8x8x256_S1x8x256_3_0_0), ← ld_sl64 (h := inb_S8x64x256_S1x64x256_3_0_0)]; sl_kernel_rfl
    · rw [← ld_sl8 (h := inb_S8x8x256_S1x8x256_2_0_0), ← ld_sl64 (h := inb_S8x64x256_S1x64x256_2_0_0)]; sl_kernel_rfl
    · rw [← ld_sl8 (h := inb_S8x8x256_S1x8x256_1_0_0), ← ld_sl64 (h := inb_S8x64x256_S1x64x256_1_0_0)]; sl_kernel_rfl
    · rw [← ld_sl8 (h := inb_S8x8x256_S1x8x256_0_0_0), ← ld_sl64 (h := inb_S8x64x256_S1x64x256_0_0_0)]; sl_kernel_rfl

/-- The statistics after `k` trips of the key loop. -/
def st3 (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) (k : ℕ) : St F :=
  iter (fun k => TT x1 x2 x5 x11 i v10 v13 v28 hw w5 k) (fun k => VM (vtM x12 i v28 hw k)) s k

theorem st3_zero (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) : st3 x1 x2 x5 x11 x12 i v10 v13 v28 hw w5 s 0 = s := rfl

theorem st3_succ (x1 : S16.Idx → Elt F .f32) (x2 : S4.Idx → Elt F .f32) (x5 : S1x2048x1024.Idx → Elt F .fp8e4m3) (x11 : S4x16x256x128.Idx → Elt F .fp8e4m3) (x12 : S16x256x128.Idx → Elt F .bf16)
    (i : Fin k0_t2_loop.trips) (v10 v13 : IVec S1x128 32) (v28 : Elt F .i32) (hw : k0_chk1 i v28) (w5 : BitVec 32) (s : St F) (k : Fin (k0_t3_loop i v28).trips) :
    st3 x1 x2 x5 x11 x12 i v10 v13 v28 hw w5 s (k.val + 1) = (st3 x1 x2 x5 x11 x12 i v10 v13 v28 hw w5 s k.val).step (TT x1 x2 x5 x11 i v10 v13 v28 hw w5 k) (VM (vtM x12 i v28 hw k)) := iter_succ ..

/-- Before trip `k` of the key loop: what is read is as it was, and the statistics are those of the trips before. -/
abbrev inv3 (c : Dev nD) (k0_t2 : Fin k0_t2_loop.trips) (v10 : IVec S1x128 32) (v13 : IVec S1x128 32) (v28 : Elt F .i32) (k0_hw1 : k0_chk1 k0_t2 v28) (w5 : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) (k : ℕ) (acc : BitVec 32) : sProp 𝕄 :=
  iprop(Pt c arg1 X1 ∗ Pt c arg2 X2 ∗ Pt c arg5 X5 ∗ Pt c arg11 X11 ∗ Pt c arg12 X12
    ∗ (∃ f, Pt c arg13 f ∗ ⌜arg13.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).m⌝)
    ∗ (∃ f, Pt c arg14 f ∗ ⌜arg14.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).l⌝)
    ∗ (∃ f, Pt c arg15 f ∗ ⌜arg15.view.read (Elt F) f = (st3 (arg1.view.read (Elt F) X1) (arg2.view.read (Elt F) X2) (arg5.view.read (Elt F) X5) (arg11.view.read (Elt F) X11) (arg12.view.read (Elt F) X12) k0_t2 v10 v13 v28 k0_hw1 w5 ⟨arg13.view.read (Elt F) G13, arg14.view.read (Elt F) G14, arg15.view.read (Elt F) G15⟩ k).a⌝))

set_option warn.classDefReducibility false in
/-- The key loop by its invariant. -/
@[sl_loop] def loopInv3 (𝒱 : Variants) (c : Dev nD) (bd : Option 𝒱.V) (E : Set ℕ) (i : grid0.Coords)
    (k0_t2 : Fin k0_t2_loop.trips) (arg17 : BitVec 32) (v6 : BitVec 32) (v10 : IVec S1x128 32) (v13 : IVec S1x128 32) (v28 : Elt F .i32) (k0_hw1 : k0_chk1 k0_t2 v28) (w1 w2 w3 w4 w5 : BitVec 32) (init : BitVec 32)
    (X1 : BufTy.Contents (Elt F) arg1.view.ty) (X2 : BufTy.Contents (Elt F) arg2.view.ty) (X5 : BufTy.Contents (Elt F) arg5.view.ty) (X11 : BufTy.Contents (Elt F) arg11.view.ty) (X12 : BufTy.Contents (Elt F) arg12.view.ty)
    (G13 : BufTy.Contents (Elt F) arg13.view.ty) (G14 : BufTy.Contents (Elt F) arg14.view.ty) (G15 : BufTy.Contents (Elt F) arg15.view.ty) :
    LoopInvTy_k0_t3 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k0_t2 arg17 v6 v10 v13 v28 k0_hw1 w1 w2 w3 w4 w5 init where
  inv := inv3 (arg1 := arg1) (arg2 := arg2) (arg5 := arg5) (arg11 := arg11) (arg12 := arg12) (arg13 := arg13) (arg14 := arg14) (arg15 := arg15) c k0_t2 v10 v13 v28 k0_hw1 w5 X1 X2 X5 X11 X12 G13 G14 G15
  step k acc := by
    iintro ⟨H1, H2, H5, H11, H12, ⟨%f13, H13, %h13⟩, ⟨%f14, H14, %h14⟩, ⟨%f15, H15, %h15⟩⟩
    iapply (wp_wand_r Idealize.ShloMosaic.frame (wpE (defs₀ (F := F)) 𝒱 (c : Thread nD τ) bd) E)
    isplitl [H1 H2 H5 H11 H12 H13 H14 H15]
    · iapply (trip3 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i k0_t2 arg17 v6 v10 v13 v28 k0_hw1 w1 w2 w3 w4 w5 X1 X2 X5 X11 X12 k acc f13 f14 f15)
      isplitl [H1]; · iexact H1
      isplitl [H2]; · iexact H2
      isplitl [H5]; · iexact H5
      isplitl [H11]; · iexact H11
      isplitl [H12]; · iexact H12
      isplitl [H13]; · iexact H13
      isplitl [H14]; · iexact H14
      iexact H15
    · iintro %yld ⟨H1, H2, H5, H11, H12, ⟨%g13, H13, %e13⟩, ⟨%g14, H14, %e14⟩, ⟨%g15, H15, %e15⟩⟩
      isplitl [H1]; · iexact H1
      isplitl [H2]; · iexact H2
      isplitl [H5]; · iexact H5
      isplitl [H11]; · iexact H11
      isplitl [H12]; · iexact H12
      isplitl [H13]
      · iexists _; isplitl [H13]; · iexact H13
        ipureintro; rw [e13, h13, st3_succ]; rfl
      isplitl [H14]
      · iexists _; isplitl [H14]; · iexact H14
        ipureintro; rw [e14, h13, h14, st3_succ]; rfl
      · iexists _; isplitl [H15]; · iexact H15
        ipureintro; rw [e15, h13, h15, st3_succ]; rfl

end Cert.Kernel.Hand
-- ==== Proof.Model2B.lean ====
module

public import proofs.«01_k».proof.Proof.Loop3B
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- A finished tile of two heads, from the left half of their two slabs. -/
def oA (v : F .f32) (l0 l1 : Vec F S1x8x256 .f32) (a0 a1 : Vec F S1x64x128 .f32) : Vec F S1x128x128 .bf16 :=
  k0_pay214 (k0_pay211 v l0 a0) (k0_pay212 a1) (k0_pay213 v l1)

/-- A finished tile of two heads, from the right half of their two slabs. -/
def oB (v : F .f32) (l0 l1 : Vec F S1x8x256 .f32) (a0 a1 : Vec F S1x64x128 .f32) : Vec F S1x128x128 .bf16 :=
  k0_pay215 (k0_pay209 v l0) (k0_pay210 v l1) a0 a1

/-- The eight finished tiles of one block of queries. -/
def OT (v : Fin 4 → F .f32) (s : St F) : Fin 8 → Vec F S1x128x128 .bf16 :=
  ![oA (v 0) (View.ld s.l (Rect.unit (s := S8x8x256) ![0, 0, 0] S1x8x256.size inb_S8x8x256_S1x8x256_0_0_0)) (View.ld s.l (Rect.unit (s := S8x8x256) ![1, 0, 0] S1x8x256.size inb_S8x8x256_S1x8x256_1_0_0)) (View.ld s.a (Rect.unit (s := S8x64x256) ![0, 0, 0] S1x64x128.size inb_S8x64x256_S1x64x128_0_0_0)) (View.ld s.a (Rect.unit (s := S8x64x256) ![1, 0, 0] S1x64x128.size inb_S8x64x256_S1x64x128_1_0_0)),
    oB (v 0) (View.ld s.l (Rect.unit (s := S8x8x256) ![0, 0, 0] S1x8x256.size inb_S8x8x256_S1x8x256_0_0_0)) (View.ld s.l (Rect.unit (s := S8x8x256) ![1, 0, 0] S1x8x256.size inb_S8x8x256_S1x8x256_1_0_0)) (View.ld s.a (Rect.unit (s := S8x64x256) ![0, 0, 128] S1x64x128.size inb_S8x64x256_S1x64x128_0_0_128)) (View.ld s.a (Rect.unit (s := S8x64x256) ![1, 0, 128] S1x64x128.size inb_S8x64x256_S1x64x128_1_0_128)),
    oA (v 1) (View.ld s.l (Rect.unit (s := S8x8x256) ![2, 0, 0] S1x8x256.size inb_S8x8x256_S1x8x256_2_0_0)) (View.ld s.l (Rect.unit (s := S8x8x256) ![3, 0, 0] S1x8x256.size inb_S8x8x256_S1x8x256_3_0_0)) (View.ld s.a (Rect.unit (s := S8x64x256) ![2, 0, 0] S1x64x128.size inb_S8x64x256_S1x64x128_2_0_0)) (View.ld s.a (Rect.unit (s := S8x64x256) ![3, 0, 0] S1x64x128.size inb_S8x64x256_S1x64x128_3_0_0)),
    oB (v 1) (View.ld s.l (Rect.unit (s := S8x8x256) ![2, 0, 0] S1x8x256.size inb_S8x8x256_S1x8x256_2_0_0)) (View.ld s.l (Rect.unit (s := S8x8x256) ![3, 0, 0] S1x8x256.size inb_S8x8x256_S1x8x256_3_0_0)) (View.ld s.a (Rect.unit (s := S8x64x256) ![2, 0, 128] S1x64x128.size inb_S8x64x256_S1x64x128_2_0_128)) (View.ld s.a (Rect.unit (s := S8x64x256) ![3, 0, 128] S1x64x128.size inb_S8x64x256_S1x64x128_3_0_128)),
    oA (v 2) (View.ld s.l (Rect.unit (s := S8x8x256) ![4, 0, 0] S1x8x256.size inb_S8x8x256_S1x8x256_4_0_0)) (View.ld s.l (Rect.unit (s := S8x8x256) ![5, 0, 0] S1x8x256.size inb_S8x8x256_S1x8x256_5_0_0)) (View.ld s.a (Rect.unit (s := S8x64x256) ![4, 0, 0] S1x64x128.size inb_S8x64x256_S1x64x128_4_0_0)) (View.ld s.a (Rect.unit (s := S8x64x256) ![5, 0, 0] S1x64x128.size inb_S8x64x256_S1x64x128_5_0_0)),
    oB (v 2) (View.ld s.l (Rect.unit (s := S8x8x256) ![4, 0, 0] S1x8x256.size inb_S8x8x256_S1x8x256_4_0_0)) (View.ld s.l (Rect.unit (s := S8x8x256) ![5, 0, 0] S1x8x256.size inb_S8x8x256_S1x8x256_5_0_0)) (View.ld s.a (Rect.unit (s := S8x64x256) ![4, 0, 128] S1x64x128.size inb_S8x64x256_S1x64x128_4_0_128)) (View.ld s.a (Rect.unit (s := S8x64x256) ![5, 0, 128] S1x64x128.size inb_S8x64x256_S1x64x128_5_0_128)),
    oA (v 3) (View.ld s.l (Rect.unit (s := S8x8x256) ![6, 0, 0] S1x8x256.size inb_S8x8x256_S1x8x256_6_0_0)) (View.ld s.l (Rect.unit (s := S8x8x256) ![7, 0, 0] S1x8x256.size inb_S8x8x256_S1x8x256_7_0_0)) (View.ld s.a (Rect.unit (s := S8x64x256) ![6, 0, 0] S1x64x128.size inb_S8x64x256_S1x64x128_6_0_0)) (View.ld s.a (Rect.unit (s := S8x64x256) ![7, 0, 0] S1x64x128.size inb_S8x64x256_S1x64x128_7_0_0)),
    oB (v 3) (View.ld s.l (Rect.unit (s := S8x8x256) ![6, 0, 0] S1x8x256.size inb_S8x8x256_S1x8x256_6_0_0)) (View.ld s.l (Rect.unit (s := S8x8x256) ![7, 0, 0] S1x8x256.size inb_S8x8x256_S1x8x256_7_0_0)) (View.ld s.a (Rect.unit (s := S8x64x256) ![6, 0, 128] S1x64x128.size inb_S8x64x256_S1x64x128_6_0_128)) (View.ld s.a (Rect.unit (s := S8x64x256) ![7, 0, 128] S1x64x128.size inb_S8x64x256_S1x64x128_7_0_128))]

/-- The key block that holds the word `v`'s position: the division rounded down, as the kernel writes it. -/
def w45 (v28 : BitVec 32) : BitVec 32 :=
  let v29 : BitVec 32 := Scalar.divsi v28 128#32
  let v31 : BitVec 32 := Scalar.extui (Scalar.cmpi .sgt v28 0#32)
  let v33 : BitVec 32 := Scalar.extui (Scalar.cmpi .slt v28 0#32)
  let v34 : BitVec 32 := Scalar.subi v31 v33
  let v36 : BitVec 32 := Scalar.extui (Scalar.cmpi .sgt 128#32 0#32)
  let v38 : BitVec 32 := Scalar.extui (Scalar.cmpi .slt 128#32 0#32)
  let v39 : BitVec 32 := Scalar.subi v36 v38
  let v43 : BitVec 1 := Scalar.andi (Scalar.cmpi .ne v34 v39) (Scalar.cmpi .ne (Scalar.remsi v28 128#32) 0#32)
  Scalar.select v43 (Scalar.subi v29 1#32) v29

/-- The start of the document the block's first query lies in. -/
def w28 (i : grid0.Coords) (x10 : S16x8x128.Idx → Elt F .i32) (k : Fin k0_t2_loop.trips) : Elt F .i32 :=
  View.ld x10 (Rect.unit (s := S16x8x128) (k0_off14 i k) S1x1x1.size (k0_off14_inb i k)) (Shape.Idx.first (s := S1x1x1) (by decide))

/-- The statistics of a finished block of queries. -/
def stF (i : grid0.Coords) (x1 : S16.Idx → Elt F .f32) (x2 : S4.Idx → Elt F .f32) (x5 : S1x2048x1024.Idx → Elt F .fp8e4m3) (x9 x10 : S16x8x128.Idx → Elt F .i32)
    (x11 : S4x16x256x128.Idx → Elt F .fp8e4m3) (x12 : S16x256x128.Idx → Elt F .bf16) (hw : ∀ k, k0_chk1 k (w28 i x10 k)) (k : Fin k0_t2_loop.trips) : St F :=
  st3 x1 x2 x5 x11 x12 k (k0_pay202 (F := F) (View.ld x9 (Rect.unit (s := S16x8x128) (k0_off13 i k) S1x1x128.size (k0_off13_inb i k)))) (k0_pay203 0#32 1#32 k) (w28 i x10 k) (hw k) (w45 (w28 i x10 k))
    ⟨k0_pay204, k0_pay205, k0_pay206⟩ (k0_t3_loop k (w28 i x10 k)).trips

/-- The output block: the rows of a block of queries, eight tiles wide. -/
def outM (i : grid0.Coords) (x1 : S16.Idx → Elt F .f32) (x2 x3 : S4.Idx → Elt F .f32) (x5 : S1x2048x1024.Idx → Elt F .fp8e4m3) (x9 x10 : S16x8x128.Idx → Elt F .i32)
    (x11 : S4x16x256x128.Idx → Elt F .fp8e4m3) (x12 : S16x256x128.Idx → Elt F .bf16) (hw : ∀ k, k0_chk1 k (w28 i x10 k)) : S1x2048x1024.Idx → Elt F .bf16 :=
  fun y => OT (ksM x3) (stF i x1 x2 x5 x9 x10 x11 x12 hw ⟨(y 1).val / 128, Nat.div_lt_of_lt_mul (y 1).isLt⟩) ⟨(y 2).val / 128, Nat.div_lt_of_lt_mul (y 2).isLt⟩
    (ix3 0 ⟨(y 1).val % 128, Nat.mod_lt _ (by decide)⟩ ⟨(y 2).val % 128, Nat.mod_lt _ (by decide)⟩)

theorem read_whole (f : BufTy.Contents (Elt F) arg13.view.ty) (w : S8x8x256.Idx → Elt F .f32) (h : ∀ a, (![0, 0, 0] : Fin 3 → ℕ) a + S8x8x256.size a ≤ S8x8x256.size a) :
    arg13.view.read (Elt F) (arg13.view.writes (Elt F) f [⟨Rect.unit (s := S8x8x256) ![0, 0, 0] S8x8x256.size h, w⟩]) = w := by
  funext y
  refine View.read_writes_apply_of_pieces _ _ w _ ?_ y (View.cover_of_tiledL (s := S8x8x256) _ S8x8x256.size (by sl_kernel_rfl) y)
  simp only [List.forall_mem_cons, List.not_mem_nil, false_imp_iff, implies_true, _root_.and_true]
  intro x; refine congrArg w (funext fun a => Fin.ext ?_)
  fin_cases a
  · change (x 0).val = 0 + 1 * (x 0).val; omega
  · change (x 1).val = 0 + 1 * (x 1).val; omega
  · change (x 2).val = 0 + 1 * (x 2).val; omega

theorem read_whole' (f : BufTy.Contents (Elt F) arg15.view.ty) (w : S8x64x256.Idx → Elt F .f32) (h : ∀ a, (![0, 0, 0] : Fin 3 → ℕ) a + S8x64x256.size a ≤ S8x64x256.size a) :
    arg15.view.read (Elt F) (arg15.view.writes (Elt F) f [⟨Rect.unit (s := S8x64x256) ![0, 0, 0] S8x64x256.size h, w⟩]) = w := by
  funext y
  refine View.read_writes_apply_of_pieces _ _ w _ ?_ y (View.cover_of_tiledL (s := S8x64x256) _ S8x64x256.size (by sl_kernel_rfl) y)
  simp only [List.forall_mem_cons, List.not_mem_nil, false_imp_iff, implies_true, _root_.and_true]
  intro x; refine congrArg w (funext fun a => Fin.ext ?_)
  fin_cases a
  · change (x 0).val = 0 + 1 * (x 0).val; omega
  · change (x 1).val = 0 + 1 * (x 1).val; omega
  · change (x 2).val = 0 + 1 * (x 2).val; omega

theorem emb_tile (k j : ℕ) (hj : j < 8) (W : Fin 8 → Vec F S1x128x128 .bf16) (o : Fin 3 → ℕ) (h : ∀ a, o a + S1x128x128.size a ≤ S1x2048x1024.size a) (e : o = ![0, 128 * k, 128 * j]) (x : S1x128x128.Idx) :
    W ⟨j, hj⟩ x = (fun y : S1x2048x1024.Idx => W ⟨(y 2).val / 128, Nat.div_lt_of_lt_mul (y 2).isLt⟩ (ix3 0 ⟨(y 1).val % 128, Nat.mod_lt _ (by decide)⟩ ⟨(y 2).val % 128, Nat.mod_lt _ (by decide)⟩)) ((Rect.unit (s := S1x2048x1024) o S1x128x128.size h).emb x) := by
  subst e
  have h0 : (x 0).val < 1 := (x 0).isLt
  have h1 : (x 1).val < 128 := (x 1).isLt
  have h2 : (x 2).val < 128 := (x 2).isLt
  have e1 : (((Rect.unit (s := S1x2048x1024) ![0, 128 * k, 128 * j] S1x128x128.size h).emb x) 1).val = 128 * k + 1 * (x 1).val := rfl
  have e2 : (((Rect.unit (s := S1x2048x1024) ![0, 128 * k, 128 * j] S1x128x128.size h).emb x) 2).val = 128 * j + 1 * (x 2).val := rfl
  have d2 : (((Rect.unit (s := S1x2048x1024) ![0, 128 * k, 128 * j] S1x128x128.size h).emb x) 2).val / 128 = j := by rw [e2]; omega
  have m1 : (((Rect.unit (s := S1x2048x1024) ![0, 128 * k, 128 * j] S1x128x128.size h).emb x) 1).val % 128 = (x 1).val := by rw [e1]; omega
  have m2 : (((Rect.unit (s := S1x2048x1024) ![0, 128 * k, 128 * j] S1x128x128.size h).emb x) 2).val % 128 = (x 2).val := by rw [e2]; omega
  show W ⟨j, hj⟩ x = W _ _
  refine congr (congrArg W (Fin.ext ?_)) ?_
  · exact d2.symm
  · funext a; apply Fin.ext; fin_cases a
    · change (x 0).val = 0; omega
    · exact m1.symm
    · exact m2.symm

/-- Reading after the eight tiles of a block of rows were stored: in the block a tile's word, elsewhere what was there. -/
theorem read_tiles (k : ℕ) (f : BufTy.Contents (Elt F) arg8.view.ty) (W : Fin 8 → Vec F S1x128x128 .bf16) (o0 o1 o2 o3 o4 o5 o6 o7 : Fin 3 → ℕ) (h0 : ∀ a, o0 a + S1x128x128.size a ≤ S1x2048x1024.size a) (e0 : o0 = ![0, 128 * k, 0]) (h1 : ∀ a, o1 a + S1x128x128.size a ≤ S1x2048x1024.size a) (e1 : o1 = ![0, 128 * k, 128]) (h2 : ∀ a, o2 a + S1x128x128.size a ≤ S1x2048x1024.size a) (e2 : o2 = ![0, 128 * k, 256]) (h3 : ∀ a, o3 a + S1x128x128.size a ≤ S1x2048x1024.size a) (e3 : o3 = ![0, 128 * k, 384]) (h4 : ∀ a, o4 a + S1x128x128.size a ≤ S1x2048x1024.size a) (e4 : o4 = ![0, 128 * k, 512]) (h5 : ∀ a, o5 a + S1x128x128.size a ≤ S1x2048x1024.size a) (e5 : o5 = ![0, 128 * k, 640]) (h6 : ∀ a, o6 a + S1x128x128.size a ≤ S1x2048x1024.size a) (e6 : o6 = ![0, 128 * k, 768]) (h7 : ∀ a, o7 a + S1x128x128.size a ≤ S1x2048x1024.size a) (e7 : o7 = ![0, 128 * k, 896]) :
    (∀ y, (y 1).val / 128 = k → arg8.view.read (Elt F) (arg8.view.writes (Elt F) f [⟨Rect.unit (s := S1x2048x1024) o7 S1x128x128.size h7, W 7⟩, ⟨Rect.unit (s := S1x2048x1024) o6 S1x128x128.size h6, W 6⟩, ⟨Rect.unit (s := S1x2048x1024) o5 S1x128x128.size h5, W 5⟩, ⟨Rect.unit (s := S1x2048x1024) o4 S1x128x128.size h4, W 4⟩, ⟨Rect.unit (s := S1x2048x1024) o3 S1x128x128.size h3, W 3⟩, ⟨Rect.unit (s := S1x2048x1024) o2 S1x128x128.size h2, W 2⟩, ⟨Rect.unit (s := S1x2048x1024) o1 S1x128x128.size h1, W 1⟩, ⟨Rect.unit (s := S1x2048x1024) o0 S1x128x128.size h0, W 0⟩]) y = W ⟨(y 2).val / 128, Nat.div_lt_of_lt_mul (y 2).isLt⟩ (ix3 0 ⟨(y 1).val % 128, Nat.mod_lt _ (by decide)⟩ ⟨(y 2).val % 128, Nat.mod_lt _ (by decide)⟩))
    ∧ (∀ y, (y 1).val / 128 ≠ k → arg8.view.read (Elt F) (arg8.view.writes (Elt F) f [⟨Rect.unit (s := S1x2048x1024) o7 S1x128x128.size h7, W 7⟩, ⟨Rect.unit (s := S1x2048x1024) o6 S1x128x128.size h6, W 6⟩, ⟨Rect.unit (s := S1x2048x1024) o5 S1x128x128.size h5, W 5⟩, ⟨Rect.unit (s := S1x2048x1024) o4 S1x128x128.size h4, W 4⟩, ⟨Rect.unit (s := S1x2048x1024) o3 S1x128x128.size h3, W 3⟩, ⟨Rect.unit (s := S1x2048x1024) o2 S1x128x128.size h2, W 2⟩, ⟨Rect.unit (s := S1x2048x1024) o1 S1x128x128.size h1, W 1⟩, ⟨Rect.unit (s := S1x2048x1024) o0 S1x128x128.size h0, W 0⟩]) y = arg8.view.read (Elt F) f y) := by
  constructor
  · intro y hy
    refine View.read_writes_apply_of_pieces _ _ (fun y : S1x2048x1024.Idx => W ⟨(y 2).val / 128, Nat.div_lt_of_lt_mul (y 2).isLt⟩ (ix3 0 ⟨(y 1).val % 128, Nat.mod_lt _ (by decide)⟩ ⟨(y 2).val % 128, Nat.mod_lt _ (by decide)⟩)) _ ?_ y ?_
    · simp only [List.forall_mem_cons, List.not_mem_nil, false_imp_iff, implies_true, _root_.and_true]
      exact ⟨fun x => emb_tile k 7 (by decide) W o7 h7 e7 x, fun x => emb_tile k 6 (by decide) W o6 h6 e6 x, fun x => emb_tile k 5 (by decide) W o5 h5 e5 x, fun x => emb_tile k 4 (by decide) W o4 h4 e4 x, fun x => emb_tile k 3 (by decide) W o3 h3 e3 x, fun x => emb_tile k 2 (by decide) W o2 h2 e2 x, fun x => emb_tile k 1 (by decide) W o1 h1 e1 x, fun x => emb_tile k 0 (by decide) W o0 h0 e0 x⟩
    · have y0 : (y 0).val < 1 := (y 0).isLt
      have y2 : (y 2).val < 1024 := (y 2).isLt
      simp only [List.exists_mem_cons_iff, List.not_mem_nil, false_and, exists_false, or_false, Rect.mem_set_unit]
      have hh : (y 2).val / 128 = 7 ∨ (y 2).val / 128 = 6 ∨ (y 2).val / 128 = 5 ∨ (y 2).val / 128 = 4 ∨ (y 2).val / 128 = 3 ∨ (y 2).val / 128 = 2 ∨ (y 2).val / 128 = 1 ∨ (y 2).val / 128 = 0 := by omega
      have key : ∀ (j : ℕ) (o : Fin 3 → ℕ), o = ![0, 128 * k, 128 * j] → (y 2).val / 128 = j → ∀ a : Fin 3, o a ≤ (y a).val ∧ (y a).val < o a + S1x128x128.size a := by
        intro j o e hj a; subst e; fin_cases a
        · change 0 ≤ (y 0).val ∧ (y 0).val < 0 + 1; omega
        · change 128 * k ≤ (y 1).val ∧ (y 1).val < 128 * k + 128; omega
        · change 128 * j ≤ (y 2).val ∧ (y 2).val < 128 * j + 128; omega
      rcases hh with h | h | h | h | h | h | h | h
      · exact .inl (key 7 o7 e7 h)
      · exact .inr (.inl (key 6 o6 e6 h))
      · exact .inr (.inr (.inl (key 5 o5 e5 h)))
      · exact .inr (.inr (.inr (.inl (key 4 o4 e4 h))))
      · exact .inr (.inr (.inr (.inr (.inl (key 3 o3 e3 h)))))
      · exact .inr (.inr (.inr (.inr (.inr (.inl (key 2 o2 e2 h))))))
      · exact .inr (.inr (.inr (.inr (.inr (.inr (.inl (key 1 o1 e1 h)))))))
      · exact .inr (.inr (.inr (.inr (.inr (.inr (.inr (key 0 o0 e0 h)))))))
  · intro y hy
    have key : ∀ (j : ℕ) (o : Fin 3 → ℕ), o = ![0, 128 * k, 128 * j] → ¬ ∀ a : Fin 3, o a ≤ (y a).val ∧ (y a).val < o a + S1x128x128.size a := by
      intro j o e h; subst e
      have h1 : 128 * k ≤ (y 1).val ∧ (y 1).val < 128 * k + 128 := h 1
      omega
    refine View.read_writes_apply_of_forall_not_mem _ _ y _ ?_
    simp only [List.forall_mem_cons, List.not_mem_nil, false_imp_iff, implies_true, _root_.and_true, Rect.mem_set_unit]
    exact ⟨key 7 o7 e7, key 6 o6 e6, key 5 o5 e5, key 4 o4 e4, key 3 o3 e3, key 2 o2 e2, key 1 o1 e1, key 0 o0 e0⟩

end Cert.Kernel.Hand
-- ==== Proof.Loop2B.lean ====
module

public import proofs.«01_k».proof.Proof.Model2B
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- One trip of the loop over blocks of queries. -/
theorem trip2 (𝒱 : Variants) (c : Dev nD) (bd : Option 𝒱.V) (E : Set ℕ) (i : grid0.Coords) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k))
    (k : Fin k0_t2_loop.trips) (acc : Unit) (f8 : BufTy.Contents (Elt F) arg8.view.ty) (f13 : BufTy.Contents (Elt F) arg13.view.ty) (f14 : BufTy.Contents (Elt F) arg14.view.ty) (f15 : BufTy.Contents (Elt F) arg15.view.ty) :
    (iprop(Pt c arg1 X1 ∗ Pt c arg2 X2 ∗ Pt c arg3 X3 ∗ Pt c arg5 X5 ∗ Pt c arg9 X9 ∗ Pt c arg10 X10 ∗ Pt c arg11 X11 ∗ Pt c arg12 X12 ∗ Pt c arg8 f8 ∗ Pt c arg13 f13 ∗ Pt c arg14 f14 ∗ Pt c arg15 f15) : sProp 𝕄)
      ⊢ wp frame (wpE (defs₀ (F := F)) 𝒱 (c : Thread nD τ) bd) E (k0_t2_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 k acc)
          (fun _ => iprop(Pt c arg1 X1 ∗ Pt c arg2 X2 ∗ Pt c arg3 X3 ∗ Pt c arg5 X5 ∗ Pt c arg9 X9 ∗ Pt c arg10 X10 ∗ Pt c arg11 X11 ∗ Pt c arg12 X12
            ∗ (∃ f, Pt c arg8 f ∗ ⌜(∀ y, (y 1).val / 128 = k.val → arg8.view.read (Elt F) f y = outM i (arg1.view.read (Elt F) X1) (arg2.view.read (Elt F) X2) (arg3.view.read (Elt F) X3) (arg5.view.read (Elt F) X5) (arg9.view.read (Elt F) X9) (arg10.view.read (Elt F) X10) (arg11.view.read (Elt F) X11) (arg12.view.read (Elt F) X12) hw y)
                ∧ (∀ y, (y 1).val / 128 ≠ k.val → arg8.view.read (Elt F) f y = arg8.view.read (Elt F) f8 y)⌝)
            ∗ (∃ f, Pt c arg13 f) ∗ (∃ f, Pt c arg14 f) ∗ (∃ f, Pt c arg15 f))) := by
  have hk : k0_chk1 k (View.readAt (Elt F) arg10.view (Rect.unit (s := S16x8x128) (k0_off14 i k) S1x1x1.size (k0_off14_inb i k)).toLoadRect X10 (Shape.Idx.first (s := S1x1x1) (by decide))) := hw k
  unfold k0_t2_body
  iintro ⟨H1, H2, H3, H5, H9, H10, H11, H12, H8, H13, H14, H15⟩
  sl_exec (disch := exact hk)
  sl_step
  isplitl [H1]; · iexact H1
  isplitl [H2]; · iexact H2
  isplitl [H3]; · iexact H3
  isplitl [H5]; · iexact H5
  isplitl [H9]; · iexact H9
  isplitl [H10]; · iexact H10
  isplitl [H11]; · iexact H11
  isplitl [H12]; · iexact H12
  isplitl [H8]
  · iexists _; isplitl [H8]; · iexact H8
    ipureintro
    have hs : (⟨arg13.view.read (Elt F) fL0, arg14.view.read (Elt F) fL1, arg15.view.read (Elt F) fL2⟩ : St F) = stF i (arg1.view.read (Elt F) X1) (arg2.view.read (Elt F) X2) (arg5.view.read (Elt F) X5) (arg9.view.read (Elt F) X9) (arg10.view.read (Elt F) X10) (arg11.view.read (Elt F) X11) (arg12.view.read (Elt F) X12) hw k := by
      have e13 : arg13.view.read (Elt F) (arg13.view.writes (Elt F) arg13.view.junk trip2.sl.H13_1) = k0_pay204 := read_whole _ _ _
      have e14 : arg14.view.read (Elt F) (arg14.view.writes (Elt F) arg14.view.junk trip2.sl.H14_1) = k0_pay205 := read_whole (arg13 := arg14) _ _ _
      have e15 : arg15.view.read (Elt F) (arg15.view.writes (Elt F) arg15.view.junk trip2.sl.H15_1) = k0_pay206 := read_whole' _ _ _
      rw [hL6, hL8, hL10, e13, e14, e15]
      sl_kernel_rfl
    have ht := read_tiles (arg8 := arg8) k.val f8 (OT (ksM (arg3.view.read (Elt F) X3)) ⟨arg13.view.read (Elt F) fL0, arg14.view.read (Elt F) fL1, arg15.view.read (Elt F) fL2⟩)
      (k0_off47 k) (k0_off48 k) (k0_off49 k) (k0_off50 k) (k0_off51 k) (k0_off52 k) (k0_off53 k) (k0_off54 k)
      (k0_off47_inb k) (k0_off47_eq k) (k0_off48_inb k) (k0_off48_eq k) (k0_off49_inb k) (k0_off49_eq k) (k0_off50_inb k) (k0_off50_eq k) (k0_off51_inb k) (k0_off51_eq k) (k0_off52_inb k) (k0_off52_eq k) (k0_off53_inb k) (k0_off53_eq k) (k0_off54_inb k) (k0_off54_eq k)
    refine ⟨fun y hy => Eq.trans ?_ ((ht.1 y hy).trans ?_), fun y hy => Eq.trans ?_ (ht.2 y hy)⟩
    · refine congrFun (congrArg (fun L => arg8.view.read (Elt F) (arg8.view.writes (Elt F) f8 L)) ?_) y
      sl_kernel_rfl
    · rw [hs]
      have ey : (⟨(y 1).val / 128, Nat.div_lt_of_lt_mul (y 1).isLt⟩ : Fin k0_t2_loop.trips) = k := Fin.ext hy
      unfold outM; rw [ey]
    · refine congrFun (congrArg (fun L => arg8.view.read (Elt F) (arg8.view.writes (Elt F) f8 L)) ?_) y
      sl_kernel_rfl
  isplitl [H13]; · iexists _; iexact H13
  isplitl [H14]; · iexists _; iexact H14
  iexists _; iexact H15

/-- Before trip `k` of the loop over blocks of queries: the rows of the blocks before are finished. -/
abbrev inv2 (c : Dev nD) (i : grid0.Coords)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k)) (k : ℕ) (acc : Unit) : sProp 𝕄 :=
  iprop(Pt c arg1 X1 ∗ Pt c arg2 X2 ∗ Pt c arg3 X3 ∗ Pt c arg5 X5 ∗ Pt c arg9 X9 ∗ Pt c arg10 X10 ∗ Pt c arg11 X11 ∗ Pt c arg12 X12
    ∗ (∃ f, Pt c arg8 f ∗ ⌜∀ y, (y 1).val / 128 < k → arg8.view.read (Elt F) f y = outM i (arg1.view.read (Elt F) X1) (arg2.view.read (Elt F) X2) (arg3.view.read (Elt F) X3) (arg5.view.read (Elt F) X5) (arg9.view.read (Elt F) X9) (arg10.view.read (Elt F) X10) (arg11.view.read (Elt F) X11) (arg12.view.read (Elt F) X12) hw y⌝)
    ∗ (∃ f, Pt c arg13 f) ∗ (∃ f, Pt c arg14 f) ∗ (∃ f, Pt c arg15 f))

set_option warn.classDefReducibility false in
/-- The loop over blocks of queries by its invariant. -/
def loopInv2 (𝒱 : Variants) (c : Dev nD) (bd : Option 𝒱.V) (E : Set ℕ) (i : grid0.Coords) (arg0 : BitVec 32)
    (X1 : BufTy.Contents (Elt F) arg1.view.ty) (X2 : BufTy.Contents (Elt F) arg2.view.ty) (X3 : BufTy.Contents (Elt F) arg3.view.ty) (X5 : BufTy.Contents (Elt F) arg5.view.ty)
    (X9 : BufTy.Contents (Elt F) arg9.view.ty) (X10 : BufTy.Contents (Elt F) arg10.view.ty) (X11 : BufTy.Contents (Elt F) arg11.view.ty) (X12 : BufTy.Contents (Elt F) arg12.view.ty)
    (hw : ∀ k, k0_chk1 k (w28 i (arg10.view.read (Elt F) X10) k)) :
    LoopInvTy_k0_t2 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 arg0 where
  inv := inv2 (arg1 := arg1) (arg2 := arg2) (arg3 := arg3) (arg5 := arg5) (arg8 := arg8) (arg9 := arg9) (arg10 := arg10) (arg11 := arg11) (arg12 := arg12) (arg13 := arg13) (arg14 := arg14) (arg15 := arg15) c i X1 X2 X3 X5 X9 X10 X11 X12 hw
  step k acc := by
    iintro ⟨H1, H2, H3, H5, H9, H10, H11, H12, ⟨%f8, H8, %h8⟩, ⟨%f13, H13⟩, ⟨%f14, H14⟩, ⟨%f15, H15⟩⟩
    iapply (wp_wand_r Idealize.ShloMosaic.frame (wpE (defs₀ (F := F)) 𝒱 (c : Thread nD τ) bd) E)
    isplitl [H1 H2 H3 H5 H9 H10 H11 H12 H8 H13 H14 H15]
    · iapply (trip2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i arg0 X1 X2 X3 X5 X9 X10 X11 X12 hw k acc f8 f13 f14 f15)
      isplitl [H1]; · iexact H1
      isplitl [H2]; · iexact H2
      isplitl [H3]; · iexact H3
      isplitl [H5]; · iexact H5
      isplitl [H9]; · iexact H9
      isplitl [H10]; · iexact H10
      isplitl [H11]; · iexact H11
      isplitl [H12]; · iexact H12
      isplitl [H8]; · iexact H8
      isplitl [H13]; · iexact H13
      isplitl [H14]; · iexact H14
      iexact H15
    · iintro %yld ⟨H1, H2, H3, H5, H9, H10, H11, H12, ⟨%g8, H8, %e8⟩, H13, H14, H15⟩
      isplitl [H1]; · iexact H1
      isplitl [H2]; · iexact H2
      isplitl [H3]; · iexact H3
      isplitl [H5]; · iexact H5
      isplitl [H9]; · iexact H9
      isplitl [H10]; · iexact H10
      isplitl [H11]; · iexact H11
      isplitl [H12]; · iexact H12
      isplitl [H8]
      · iexists _; isplitl [H8]; · iexact H8
        ipureintro
        intro y hy
        by_cases hk : (y 1).val / 128 = k.val
        · exact e8.1 y hk
        · rw [e8.2 y hk]; exact h8 y (by omega)
      isplitl [H13]; · iexact H13
      isplitl [H14]; · iexact H14
      iexact H15

end Cert.Kernel.Hand
-- ==== Proof.Loop1B.lean ====
module

public import proofs.«01_k».proof.Proof.Loop3B
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

theorem kzI {a b : ℕ} (ha : a < 4) (hb : b < 256) : 2 * a + b / 128 < 8 := by omega

/-- The eight padded key tiles of one key block: per key head the lanes kept in place and the lanes moved by half. -/
def KZ (x6 : S1x2048x256.Idx → Elt F .fp8e4m3) (k : Fin k0_t1_loop.trips) : Fin 8 → Vec F S1x1x128x128 .fp8e4m3 :=
  let a : Vec F S1x128x128 .fp8e4m3 := View.ld x6 (Rect.unit (s := S1x2048x256) (k0_off1 k) S1x128x128.size (k0_off1_inb k))
  let c : Vec F S1x128x128 .fp8e4m3 := View.ld x6 (Rect.unit (s := S1x2048x256) (k0_off6 k) S1x128x128.size (k0_off6_inb k))
  ![k0_pay26 a, k0_pay27 a, k0_pay29 a, k0_pay30 (k0_pay28 a), k0_pay32 c, k0_pay33 c, k0_pay1 (k0_pay35 c), k0_pay2 (k0_pay34 c)]

/-- The two transposed value tiles of one key block. -/
def VTM (x7 : S1x2048x256.Idx → Elt F .fp8e4m3) (k : Fin k0_t1_loop.trips) : Fin 2 → Vec F S1x128x128 .bf16 :=
  ![k0_pay3 (View.ld x7 (Rect.unit (s := S1x2048x256) (k0_off1 k) S1x128x128.size (k0_off1_inb k))),
    k0_pay4 (View.ld x7 (Rect.unit (s := S1x2048x256) (k0_off6 k) S1x128x128.size (k0_off6_inb k)))]

/-- The padded keys of all blocks. -/
def kzG (x6 : S1x2048x256.Idx → Elt F .fp8e4m3) : S4x16x256x128.Idx → Elt F .fp8e4m3 :=
  fun y => KZ x6 (y 1) ⟨2 * (y 0).val + (y 2).val / 128, kzI (y 0).isLt (y 2).isLt⟩ (ix4 0 0 ⟨(y 2).val % 128, Nat.mod_lt _ (by decide)⟩ (y 3))

/-- The transposed values of all blocks. -/
def vtG (x7 : S1x2048x256.Idx → Elt F .fp8e4m3) : S16x256x128.Idx → Elt F .bf16 :=
  fun y => VTM x7 (y 0) ⟨(y 1).val / 128, Nat.div_lt_of_lt_mul (y 1).isLt⟩ (ix3 0 ⟨(y 1).val % 128, Nat.mod_lt _ (by decide)⟩ (y 2))

theorem emb_kz (k j : ℕ) (hj : j < 8) (W : Fin 8 → Vec F S1x1x128x128 .fp8e4m3) (o : Fin 4 → ℕ) (h : ∀ a, o a + S1x1x128x128.size a ≤ S4x16x256x128.size a) (e : o = ![j / 2, k, 128 * (j % 2), 0]) (x : S1x1x128x128.Idx) :
    W ⟨j, hj⟩ x = (fun y : S4x16x256x128.Idx => W ⟨2 * (y 0).val + (y 2).val / 128, kzI (y 0).isLt (y 2).isLt⟩ (ix4 0 0 ⟨(y 2).val % 128, Nat.mod_lt _ (by decide)⟩ (y 3))) ((Rect.unit (s := S4x16x256x128) o S1x1x128x128.size h).emb x) := by
  subst e
  have h0 : (x 0).val < 1 := (x 0).isLt
  have h1 : (x 1).val < 1 := (x 1).isLt
  have h2 : (x 2).val < 128 := (x 2).isLt
  have e0 : (((Rect.unit (s := S4x16x256x128) ![j / 2, k, 128 * (j % 2), 0] S1x1x128x128.size h).emb x) 0).val = j / 2 + 1 * (x 0).val := rfl
  have e2 : (((Rect.unit (s := S4x16x256x128) ![j / 2, k, 128 * (j % 2), 0] S1x1x128x128.size h).emb x) 2).val = 128 * (j % 2) + 1 * (x 2).val := rfl
  have e3 : (((Rect.unit (s := S4x16x256x128) ![j / 2, k, 128 * (j % 2), 0] S1x1x128x128.size h).emb x) 3).val = 0 + 1 * (x 3).val := rfl
  show W ⟨j, hj⟩ x = W _ _
  refine congr (congrArg W (Fin.ext ?_)) ?_
  · show j = 2 * _ + _ / 128
    rw [e0, e2]; omega
  · funext a; apply Fin.ext; fin_cases a
    · change (x 0).val = 0; omega
    · change (x 1).val = 0; omega
    · show (x 2).val = _ % 128
      rw [e2]; omega
    · exact Eq.trans (by omega : (x 3).val = 0 + 1 * (x 3).val) e3.symm

theorem emb_vt (k j : ℕ) (hj : j < 2) (W : Fin 2 → Vec F S1x128x128 .bf16) (o : Fin 3 → ℕ) (h : ∀ a, o a + S1x128x128.size a ≤ S16x256x128.size a) (e : o = ![k, 128 * j, 0]) (x : S1x128x128.Idx) :
    W ⟨j, hj⟩ x = (fun y : S16x256x128.Idx => W ⟨(y 1).val / 128, Nat.div_lt_of_lt_mul (y 1).isLt⟩ (ix3 0 ⟨(y 1).val % 128, Nat.mod_lt _ (by decide)⟩ (y 2))) ((Rect.unit (s := S16x256x128) o S1x128x128.size h).emb x) := by
  subst e
  have h0 : (x 0).val < 1 := (x 0).isLt
  have h1 : (x 1).val < 128 := (x 1).isLt
  have e1 : (((Rect.unit (s := S16x256x128) ![k, 128 * j, 0] S1x128x128.size h).emb x) 1).val = 128 * j + 1 * (x 1).val := rfl
  have e2 : (((Rect.unit (s := S16x256x128) ![k, 128 * j, 0] S1x128x128.size h).emb x) 2).val = 0 + 1 * (x 2).val := rfl
  show W ⟨j, hj⟩ x = W _ _
  refine congr (congrArg W (Fin.ext ?_)) ?_
  · show j = _ / 128
    rw [e1]; omega
  · funext a; apply Fin.ext; fin_cases a
    · change (x 0).val = 0; omega
    · show (x 1).val = _ % 128
      rw [e1]; omega
    · exact Eq.trans (by omega : (x 2).val = 0 + 1 * (x 2).val) e2.symm

/-- Reading the padded keys after one block's tiles were stored. -/
theorem read_kz (k : ℕ) (f : BufTy.Contents (Elt F) arg11.view.ty) (W : Fin 8 → Vec F S1x1x128x128 .fp8e4m3) (o0 o1 o2 o3 o4 o5 o6 o7 : Fin 4 → ℕ) (h0 : ∀ a, o0 a + S1x1x128x128.size a ≤ S4x16x256x128.size a) (e0 : o0 = ![0, k, 0, 0]) (h1 : ∀ a, o1 a + S1x1x128x128.size a ≤ S4x16x256x128.size a) (e1 : o1 = ![0, k, 128, 0]) (h2 : ∀ a, o2 a + S1x1x128x128.size a ≤ S4x16x256x128.size a) (e2 : o2 = ![1, k, 0, 0]) (h3 : ∀ a, o3 a + S1x1x128x128.size a ≤ S4x16x256x128.size a) (e3 : o3 = ![1, k, 128, 0]) (h4 : ∀ a, o4 a + S1x1x128x128.size a ≤ S4x16x256x128.size a) (e4 : o4 = ![2, k, 0, 0]) (h5 : ∀ a, o5 a + S1x1x128x128.size a ≤ S4x16x256x128.size a) (e5 : o5 = ![2, k, 128, 0]) (h6 : ∀ a, o6 a + S1x1x128x128.size a ≤ S4x16x256x128.size a) (e6 : o6 = ![3, k, 0, 0]) (h7 : ∀ a, o7 a + S1x1x128x128.size a ≤ S4x16x256x128.size a) (e7 : o7 = ![3, k, 128, 0]) :
    (∀ y, (y 1).val = k → arg11.view.read (Elt F) (arg11.view.writes (Elt F) f [⟨Rect.unit (s := S4x16x256x128) o7 S1x1x128x128.size h7, W 7⟩, ⟨Rect.unit (s := S4x16x256x128) o6 S1x1x128x128.size h6, W 6⟩, ⟨Rect.unit (s := S4x16x256x128) o5 S1x1x128x128.size h5, W 5⟩, ⟨Rect.unit (s := S4x16x256x128) o4 S1x1x128x128.size h4, W 4⟩, ⟨Rect.unit (s := S4x16x256x128) o3 S1x1x128x128.size h3, W 3⟩, ⟨Rect.unit (s := S4x16x256x128) o2 S1x1x128x128.size h2, W 2⟩, ⟨Rect.unit (s := S4x16x256x128) o1 S1x1x128x128.size h1, W 1⟩, ⟨Rect.unit (s := S4x16x256x128) o0 S1x1x128x128.size h0, W 0⟩]) y = W ⟨2 * (y 0).val + (y 2).val / 128, kzI (y 0).isLt (y 2).isLt⟩ (ix4 0 0 ⟨(y 2).val % 128, Nat.mod_lt _ (by decide)⟩ (y 3)))
    ∧ (∀ y, (y 1).val ≠ k → arg11.view.read (Elt F) (arg11.view.writes (Elt F) f [⟨Rect.unit (s := S4x16x256x128) o7 S1x1x128x128.size h7, W 7⟩, ⟨Rect.unit (s := S4x16x256x128) o6 S1x1x128x128.size h6, W 6⟩, ⟨Rect.unit (s := S4x16x256x128) o5 S1x1x128x128.size h5, W 5⟩, ⟨Rect.unit (s := S4x16x256x128) o4 S1x1x128x128.size h4, W 4⟩, ⟨Rect.unit (s := S4x16x256x128) o3 S1x1x128x128.size h3, W 3⟩, ⟨Rect.unit (s := S4x16x256x128) o2 S1x1x128x128.size h2, W 2⟩, ⟨Rect.unit (s := S4x16x256x128) o1 S1x1x128x128.size h1, W 1⟩, ⟨Rect.unit (s := S4x16x256x128) o0 S1x1x128x128.size h0, W 0⟩]) y = arg11.view.read (Elt F) f y) := by
  constructor
  · intro y hy
    refine View.read_writes_apply_of_pieces _ _ (fun y : S4x16x256x128.Idx => W ⟨2 * (y 0).val + (y 2).val / 128, kzI (y 0).isLt (y 2).isLt⟩ (ix4 0 0 ⟨(y 2).val % 128, Nat.mod_lt _ (by decide)⟩ (y 3))) _ ?_ y ?_
    · simp only [List.forall_mem_cons, List.not_mem_nil, false_imp_iff, implies_true, _root_.and_true]
      exact ⟨fun x => emb_kz k 7 (by decide) W o7 h7 e7 x, fun x => emb_kz k 6 (by decide) W o6 h6 e6 x, fun x => emb_kz k 5 (by decide) W o5 h5 e5 x, fun x => emb_kz k 4 (by decide) W o4 h4 e4 x, fun x => emb_kz k 3 (by decide) W o3 h3 e3 x, fun x => emb_kz k 2 (by decide) W o2 h2 e2 x, fun x => emb_kz k 1 (by decide) W o1 h1 e1 x, fun x => emb_kz k 0 (by decide) W o0 h0 e0 x⟩
    · have y0 : (y 0).val < 4 := (y 0).isLt
      have y2 : (y 2).val < 256 := (y 2).isLt
      have y3 : (y 3).val < 128 := (y 3).isLt
      simp only [List.exists_mem_cons_iff, List.not_mem_nil, false_and, exists_false, or_false, Rect.mem_set_unit]
      have key : ∀ (j : ℕ) (o : Fin 4 → ℕ), o = ![j / 2, k, 128 * (j % 2), 0] → 2 * (y 0).val + (y 2).val / 128 = j → ∀ a : Fin 4, o a ≤ (y a).val ∧ (y a).val < o a + S1x1x128x128.size a := by
        intro j o e hj a; subst e; fin_cases a
        · change j / 2 ≤ (y 0).val ∧ (y 0).val < j / 2 + 1; omega
        · change k ≤ (y 1).val ∧ (y 1).val < k + 1; omega
        · change 128 * (j % 2) ≤ (y 2).val ∧ (y 2).val < 128 * (j % 2) + 128; omega
        · change 0 ≤ (y 3).val ∧ (y 3).val < 0 + 128; omega
      have hh : 2 * (y 0).val + (y 2).val / 128 = 7 ∨ 2 * (y 0).val + (y 2).val / 128 = 6 ∨ 2 * (y 0).val + (y 2).val / 128 = 5 ∨ 2 * (y 0).val + (y 2).val / 128 = 4 ∨ 2 * (y 0).val + (y 2).val / 128 = 3 ∨ 2 * (y 0).val + (y 2).val / 128 = 2 ∨ 2 * (y 0).val + (y 2).val / 128 = 1 ∨ 2 * (y 0).val + (y 2).val / 128 = 0 := by omega
      rcases hh with h | h | h | h | h | h | h | h
      · exact .inl (key 7 o7 e7 h)
      · exact .inr (.inl (key 6 o6 e6 h))
      · exact .inr (.inr (.inl (key 5 o5 e5 h)))
      · exact .inr (.inr (.inr (.inl (key 4 o4 e4 h))))
      · exact .inr (.inr (.inr (.inr (.inl (key 3 o3 e3 h)))))
      · exact .inr (.inr (.inr (.inr (.inr (.inl (key 2 o2 e2 h))))))
      · exact .inr (.inr (.inr (.inr (.inr (.inr (.inl (key 1 o1 e1 h)))))))
      · exact .inr (.inr (.inr (.inr (.inr (.inr (.inr (key 0 o0 e0 h)))))))
  · intro y hy
    have key : ∀ (j : ℕ) (o : Fin 4 → ℕ), o = ![j / 2, k, 128 * (j % 2), 0] → ¬ ∀ a : Fin 4, o a ≤ (y a).val ∧ (y a).val < o a + S1x1x128x128.size a := by
      intro j o e h; subst e
      have h1 : k ≤ (y 1).val ∧ (y 1).val < k + 1 := h 1
      omega
    refine View.read_writes_apply_of_forall_not_mem _ _ y _ ?_
    simp only [List.forall_mem_cons, List.not_mem_nil, false_imp_iff, implies_true, _root_.and_true, Rect.mem_set_unit]
    exact ⟨key 7 o7 e7, key 6 o6 e6, key 5 o5 e5, key 4 o4 e4, key 3 o3 e3, key 2 o2 e2, key 1 o1 e1, key 0 o0 e0⟩

/-- Reading the transposed values after one block's tiles were stored. -/
theorem read_vt (k : ℕ) (f : BufTy.Contents (Elt F) arg12.view.ty) (W : Fin 2 → Vec F S1x128x128 .bf16) (o0 o1 : Fin 3 → ℕ) (h0 : ∀ a, o0 a + S1x128x128.size a ≤ S16x256x128.size a) (e0 : o0 = ![k, 0, 0]) (h1 : ∀ a, o1 a + S1x128x128.size a ≤ S16x256x128.size a) (e1 : o1 = ![k, 128, 0]) :
    (∀ y, (y 0).val = k → arg12.view.read (Elt F) (arg12.view.writes (Elt F) f [⟨Rect.unit (s := S16x256x128) o1 S1x128x128.size h1, W 1⟩, ⟨Rect.unit (s := S16x256x128) o0 S1x128x128.size h0, W 0⟩]) y = W ⟨(y 1).val / 128, Nat.div_lt_of_lt_mul (y 1).isLt⟩ (ix3 0 ⟨(y 1).val % 128, Nat.mod_lt _ (by decide)⟩ (y 2)))
    ∧ (∀ y, (y 0).val ≠ k → arg12.view.read (Elt F) (arg12.view.writes (Elt F) f [⟨Rect.unit (s := S16x256x128) o1 S1x128x128.size h1, W 1⟩, ⟨Rect.unit (s := S16x256x128) o0 S1x128x128.size h0, W 0⟩]) y = arg12.view.read (Elt F) f y) := by
  constructor
  · intro y hy
    refine View.read_writes_apply_of_pieces _ _ (fun y : S16x256x128.Idx => W ⟨(y 1).val / 128, Nat.div_lt_of_lt_mul (y 1).isLt⟩ (ix3 0 ⟨(y 1).val % 128, Nat.mod_lt _ (by decide)⟩ (y 2))) _ ?_ y ?_
    · simp only [List.forall_mem_cons, List.not_mem_nil, false_imp_iff, implies_true, _root_.and_true]
      exact ⟨fun x => emb_vt k 1 (by decide) W o1 h1 e1 x, fun x => emb_vt k 0 (by decide) W o0 h0 e0 x⟩
    · have y1 : (y 1).val < 256 := (y 1).isLt
      have y2 : (y 2).val < 128 := (y 2).isLt
      simp only [List.exists_mem_cons_iff, List.not_mem_nil, false_and, exists_false, or_false, Rect.mem_set_unit]
      have key : ∀ (j : ℕ) (o : Fin 3 → ℕ), o = ![k, 128 * j, 0] → (y 1).val / 128 = j → ∀ a : Fin 3, o a ≤ (y a).val ∧ (y a).val < o a + S1x128x128.size a := by
        intro j o e hj a; subst e; fin_cases a
        · change k ≤ (y 0).val ∧ (y 0).val < k + 1; omega
        · change 128 * j ≤ (y 1).val ∧ (y 1).val < 128 * j + 128; omega
        · change 0 ≤ (y 2).val ∧ (y 2).val < 0 + 128; omega
      have hh : (y 1).val / 128 = 1 ∨ (y 1).val / 128 = 0 := by omega
      rcases hh with h | h
      · exact .inl (key 1 o1 e1 h)
      · exact .inr (key 0 o0 e0 h)
  · intro y hy
    have key : ∀ (j : ℕ) (o : Fin 3 → ℕ), o = ![k, 128 * j, 0] → ¬ ∀ a : Fin 3, o a ≤ (y a).val ∧ (y a).val < o a + S1x128x128.size a := by
      intro j o e h; subst e
      have h1 : k ≤ (y 0).val ∧ (y 0).val < k + 1 := h 0
      omega
    refine View.read_writes_apply_of_forall_not_mem _ _ y _ ?_
    simp only [List.forall_mem_cons, List.not_mem_nil, false_imp_iff, implies_true, _root_.and_true, Rect.mem_set_unit]
    exact ⟨key 1 o1 e1, key 0 o0 e0⟩

set_option maxHeartbeats 1000000 in
/-- One trip of the loop that stages the keys and the values. -/
theorem trip1 (𝒱 : Variants) (c : Dev nD) (bd : Option 𝒱.V) (E : Set ℕ) (i : grid0.Coords)
    (X6 : BufTy.Contents (Elt F) arg6.view.ty) (X7 : BufTy.Contents (Elt F) arg7.view.ty) (k : Fin k0_t1_loop.trips) (acc : Unit)
    (f11 : BufTy.Contents (Elt F) arg11.view.ty) (f12 : BufTy.Contents (Elt F) arg12.view.ty) :
    (iprop(Pt c arg6 X6 ∗ Pt c arg7 X7 ∗ Pt c arg11 f11 ∗ Pt c arg12 f12) : sProp 𝕄)
      ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 k acc)
          (fun _ => iprop(Pt c arg6 X6 ∗ Pt c arg7 X7
            ∗ (∃ f, Pt c arg11 f ∗ ⌜(∀ y, (y 1).val = k.val → arg11.view.read (Elt F) f y = kzG (arg6.view.read (Elt F) X6) y)
                ∧ (∀ y, (y 1).val ≠ k.val → arg11.view.read (Elt F) f y = arg11.view.read (Elt F) f11 y)⌝)
            ∗ (∃ f, Pt c arg12 f ∗ ⌜(∀ y, (y 0).val = k.val → arg12.view.read (Elt F) f y = vtG (arg7.view.read (Elt F) X7) y)
                ∧ (∀ y, (y 0).val ≠ k.val → arg12.view.read (Elt F) f y = arg12.view.read (Elt F) f12 y)⌝))) := by
  unfold k0_t1_body
  iintro ⟨H6, H7, H11, H12⟩
  sl_exec
  sl_step
  isplitl [H6]; · iexact H6
  isplitl [H7]; · iexact H7
  isplitl [H11]
  · iexists _; isplitl [H11]; · iexact H11
    ipureintro
    have ht := read_kz (arg11 := arg11) k.val f11 (KZ (arg6.view.read (Elt F) X6) k) (k0_off2 k) (k0_off3 k) (k0_off4 k) (k0_off5 k) (k0_off7 k) (k0_off8 k) (k0_off9 k) (k0_off10 k) (k0_off2_inb k) (k0_off2_eq k) (k0_off3_inb k) (k0_off3_eq k) (k0_off4_inb k) (k0_off4_eq k) (k0_off5_inb k) (k0_off5_eq k) (k0_off7_inb k) (k0_off7_eq k) (k0_off8_inb k) (k0_off8_eq k) (k0_off9_inb k) (k0_off9_eq k) (k0_off10_inb k) (k0_off10_eq k)
    refine ⟨fun y hy => Eq.trans ?_ ((ht.1 y hy).trans ?_), fun y hy => Eq.trans ?_ (ht.2 y hy)⟩
    · refine congrFun (congrArg (fun L => arg11.view.read (Elt F) (arg11.view.writes (Elt F) f11 L)) ?_) y
      sl_kernel_rfl
    · have ey : (y 1 : Fin k0_t1_loop.trips) = k := Fin.ext hy
      unfold kzG; rw [ey]
    · refine congrFun (congrArg (fun L => arg11.view.read (Elt F) (arg11.view.writes (Elt F) f11 L)) ?_) y
      sl_kernel_rfl
  · iexists _; isplitl [H12]; · iexact H12
    ipureintro
    have ht := read_vt (arg12 := arg12) k.val f12 (VTM (arg7.view.read (Elt F) X7) k) (k0_off11 k) (k0_off12 k) (k0_off11_inb k) (k0_off11_eq k) (k0_off12_inb k) (k0_off12_eq k)
    refine ⟨fun y hy => Eq.trans ?_ ((ht.1 y hy).trans ?_), fun y hy => Eq.trans ?_ (ht.2 y hy)⟩
    · refine congrFun (congrArg (fun L => arg12.view.read (Elt F) (arg12.view.writes (Elt F) f12 L)) ?_) y
      sl_kernel_rfl
    · have ey : (y 0 : Fin k0_t1_loop.trips) = k := Fin.ext hy
      unfold vtG; rw [ey]
    · refine congrFun (congrArg (fun L => arg12.view.read (Elt F) (arg12.view.writes (Elt F) f12 L)) ?_) y
      sl_kernel_rfl

/-- Before trip `k` of the staging loop: the blocks before are staged. -/
abbrev inv1 (c : Dev nD) (X6 : BufTy.Contents (Elt F) arg6.view.ty) (X7 : BufTy.Contents (Elt F) arg7.view.ty) (k : ℕ) (acc : Unit) : sProp 𝕄 :=
  iprop(Pt c arg6 X6 ∗ Pt c arg7 X7
    ∗ (∃ f, Pt c arg11 f ∗ ⌜∀ y, (y 1).val < k → arg11.view.read (Elt F) f y = kzG (arg6.view.read (Elt F) X6) y⌝)
    ∗ (∃ f, Pt c arg12 f ∗ ⌜∀ y, (y 0).val < k → arg12.view.read (Elt F) f y = vtG (arg7.view.read (Elt F) X7) y⌝))

set_option warn.classDefReducibility false in
/-- The staging loop by its invariant. -/
@[sl_loop] def loopInv1 (𝒱 : Variants) (c : Dev nD) (bd : Option 𝒱.V) (E : Set ℕ) (i : grid0.Coords)
    (X6 : BufTy.Contents (Elt F) arg6.view.ty) (X7 : BufTy.Contents (Elt F) arg7.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 where
  inv := inv1 (arg6 := arg6) (arg7 := arg7) (arg11 := arg11) (arg12 := arg12) c X6 X7
  step k acc := by
    iintro ⟨H6, H7, ⟨%f11, H11, %h11⟩, ⟨%f12, H12, %h12⟩⟩
    iapply (wp_wand_r Idealize.ShloMosaic.frame (wpE (defs₀ (F := F)) 𝒱 (c : Thread nD τ) bd) E)
    isplitl [H6 H7 H11 H12]
    · iapply (trip1 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) 𝒱 c bd E i X6 X7 k acc f11 f12)
      isplitl [H6]; · iexact H6
      isplitl [H7]; · iexact H7
      isplitl [H11]; · iexact H11
      iexact H12
    · iintro %yld ⟨H6, H7, ⟨%g11, H11, %e11⟩, ⟨%g12, H12, %e12⟩⟩
      isplitl [H6]; · iexact H6
      isplitl [H7]; · iexact H7
      isplitl [H11]
      · iexists _; isplitl [H11]; · iexact H11
        ipureintro
        intro y hy
        by_cases hk : (y 1).val = k.val
        · exact e11.1 y hk
        · rw [e11.2 y hk]; exact h11 y (by omega)
      · iexists _; isplitl [H12]; · iexact H12
        ipureintro
        intro y hy
        by_cases hk : (y 0).val = k.val
        · exact e12.1 y hk
        · rw [e12.2 y hk]; exact h12 y (by omega)

end Cert.Kernel.Hand
-- ==== Proof.DsB.lean ====
module

public import proofs.«01_k».proof.Proof.Model2B
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
/-! The starts of the documents: a running maximum over the places where the document changes. -/

/-- The place itself where the document changes, and zero elsewhere. -/
def ch (g : ℕ → ℕ → BitVec 32) (b p : ℕ) : ℕ := if 0 < p ∧ g b p ≠ g b (p - 1) then p else 0

/-- One step of the running maximum, at the distance `s`. -/
def dbl (s : ℕ) (g : ℕ → ℕ → ℕ) (b p : ℕ) : ℕ := max (g b p) (if s ≤ p then g b (p - s) else 0)

/-- The words of the numbers `g`. -/
def W (g : ℕ → ℕ → ℕ) : IVec S8x2048 32 := fun y => BitVec.ofNat 32 (g (y 0).val (y 1).val)

theorem toInt_small (n : ℕ) (h : n < 2048) : (BitVec.ofNat 32 n).toInt = (n : ℤ) := by
  have e : (BitVec.ofNat 32 n).toNat = n := by rw [BitVec.toNat_ofNat]; omega
  rw [BitVec.toInt_eq_toNat_of_lt (by rw [e]; omega), e]

theorem maxs (a b : ℕ) (ha : a < 2048) (hb : b < 2048) : IntOp.maxsi (BitVec.ofNat 32 a) (BitVec.ofNat 32 b) = BitVec.ofNat 32 (max a b) := by
  unfold IntOp.maxsi BitVec.slt
  rw [toInt_small a ha, toInt_small b hb]
  by_cases h : (b : ℤ) < a
  · rw [if_pos (by simpa using h), max_eq_left (by omega)]
  · rw [if_neg (by simpa using h), max_eq_right (by omega)]

theorem rot (s : ℕ) (hs : s < 2048) (v : IVec S8x2048 32) (y : S8x2048.Idx) :
    dynamicRotate (1 : Fin 2) (BitVec.ofNat 32 s) none v rotates_S8x2048_d1 y = v (ix2 (y 0) ⟨((y 1).val + 2048 - s) % 2048, Nat.mod_lt _ (by decide)⟩) := by
  unfold dynamicRotate
  refine congrArg v (funext fun a => Fin.ext ?_)
  have e : (BitVec.ofNat 32 s).toNat = s := by rw [BitVec.toNat_ofNat]; omega
  fin_cases a
  · rfl
  · show (_ + 2048 - ((BitVec.ofNat 32 s).toNat + 0) % 2048) % 2048 = _
    rw [e]
    show ((y 1).val + 2048 - (s + 0) % 2048) % 2048 = ((y 1).val + 2048 - s) % 2048
    congr 2; omega

theorem step (s : ℕ) (hs : s < 2048) (g : ℕ → ℕ → ℕ) (hg : ∀ b p, g b p ≤ p) :
    maxsi (W g) (select (cmpi .sge (iota .tc S8x2048 32 [1] iota_S8x2048_d1_w32) (broadcast S8x2048 (BitVec.ofNat 32 s)))
      (dynamicRotate (1 : Fin 2) (BitVec.ofNat 32 s) none (W g) rotates_S8x2048_d1) (broadcast S8x2048 0#32)) = W (dbl s g) := by
  funext y
  have y1 : (y 1).val < 2048 := (y 1).isLt
  have e0 : iota .tc S8x2048 32 [1] iota_S8x2048_d1_w32 y = BitVec.ofNat 32 (y 1).val := by simp [iota]
  show IntOp.maxsi (BitVec.ofNat 32 (g (y 0).val (y 1).val)) (if IntOp.cmpi .sge (iota .tc S8x2048 32 [1] iota_S8x2048_d1_w32 y) (BitVec.ofNat 32 s) = 1#1 then
      dynamicRotate (1 : Fin 2) (BitVec.ofNat 32 s) none (W g) rotates_S8x2048_d1 y else 0#32) = BitVec.ofNat 32 (dbl s g (y 0).val (y 1).val)
  rw [e0, rot s hs]
  have g1 := hg (y 0).val (y 1).val
  have g2 := hg (y 0).val ((y 1).val - s)
  unfold dbl
  by_cases h : s ≤ (y 1).val
  · rw [if_pos h, if_pos]
    · rw [← maxs _ _ (by omega) (by omega)]
      refine congrArg (fun z => IntOp.maxsi _ (BitVec.ofNat 32 z)) ?_
      show g (y 0).val (((y 1).val + 2048 - s) % 2048) = _
      congr 1; omega
    · unfold IntOp.cmpi BitVec.sle
      rw [toInt_small _ y1, toInt_small _ hs]
      simp only [Nat.cast_le]
      simp [h]
  · rw [if_neg h, if_neg]
    · rw [← maxs _ _ (by omega) (by omega)]
    · unfold IntOp.cmpi BitVec.sle
      rw [toInt_small _ y1, toInt_small _ hs]
      simp only [Nat.cast_le]
      simp [h]

theorem dbl_le (s : ℕ) (g : ℕ → ℕ → ℕ) (hg : ∀ b p, g b p ≤ p) (b p : ℕ) : dbl s g b p ≤ p := by
  unfold dbl
  have h1 := hg b p
  have h2 := hg b (p - s)
  split <;> omega

theorem ch_le (g : ℕ → ℕ → BitVec 32) (b p : ℕ) : ch g b p ≤ p := by
  unfold ch; split <;> omega

/-- The segment words read at numbers. -/
def sg (x4 : S8x2048.Idx → Elt F .i32) (b p : ℕ) : BitVec 32 := if h : b < 8 ∧ p < 2048 then x4 (ix2 ⟨b, h.1⟩ ⟨p, h.2⟩) else 0#32

theorem sg_eq (x4 : S8x2048.Idx → Elt F .i32) (y : S8x2048.Idx) : sg x4 (y 0).val (y 1).val = x4 y := by
  unfold sg; rw [dif_pos ⟨(y 0).isLt, (y 1).isLt⟩]; exact congrArg x4 (eq_ix2 y).symm

/-- The running maximum over all distances: the start of the document each place lies in. -/
def dsN (x4 : S8x2048.Idx → Elt F .i32) : ℕ → ℕ → ℕ :=
  dbl 1024 (dbl 512 (dbl 256 (dbl 128 (dbl 64 (dbl 32 (dbl 16 (dbl 8 (dbl 4 (dbl 2 (dbl 1 (ch (sg x4))))))))))))

theorem dsN_le (x4 : S8x2048.Idx → Elt F .i32) (b p : ℕ) : dsN x4 b p ≤ p :=
  dbl_le _ _ (dbl_le _ _ (dbl_le _ _ (dbl_le _ _ (dbl_le _ _ (dbl_le _ _ (dbl_le _ _ (dbl_le _ _ (dbl_le _ _ (dbl_le _ _ (dbl_le _ _ (ch_le _))))))))))) b p

/-- The kernel's words for the starts of the documents. -/
def dsv (x4 : S8x2048.Idx → Elt F .i32) : IVec S8x2048 32 :=
  k0_pay7 (iota .tc S8x2048 32 [1] iota_S8x2048_d1_w32) (k0_pay6 (F := F) (View.ld x4 (Rect.unit (s := S8x2048) ![0, 0] S8x2048.size inb_S8x2048_S8x2048_0_0))) 32#32

theorem ch_eq (x4 : S8x2048.Idx → Elt F .i32) :
    select (andi (cmpi .sgt (iota .tc S8x2048 32 [1] iota_S8x2048_d1_w32) (broadcast S8x2048 0#32))
      (cmpi .ne x4 (dynamicRotate (1 : Fin 2) (BitVec.ofNat 32 1) none x4 rotates_S8x2048_d1))) (iota .tc S8x2048 32 [1] iota_S8x2048_d1_w32) (broadcast S8x2048 0#32) = W (ch (sg x4)) := by
  funext y
  have y1 : (y 1).val < 2048 := (y 1).isLt
  have e0 : iota .tc S8x2048 32 [1] iota_S8x2048_d1_w32 y = BitVec.ofNat 32 (y 1).val := by simp [iota]
  show (if IntOp.andi (IntOp.cmpi .sgt (iota .tc S8x2048 32 [1] iota_S8x2048_d1_w32 y) 0#32) (IntOp.cmpi .ne (x4 y) (dynamicRotate (1 : Fin 2) (BitVec.ofNat 32 1) none x4 rotates_S8x2048_d1 y)) = 1#1
      then iota .tc S8x2048 32 [1] iota_S8x2048_d1_w32 y else 0#32) = BitVec.ofNat 32 (ch (sg x4) (y 0).val (y 1).val)
  have er := rot 1 (by decide) (fun y => (x4 y : BitVec 32)) y
  rw [e0, show dynamicRotate (1 : Fin 2) (BitVec.ofNat 32 1) none x4 rotates_S8x2048_d1 y = _ from er]
  have c1 : IntOp.cmpi .sgt (BitVec.ofNat 32 (y 1).val) 0#32 = if 0 < (y 1).val then 1#1 else 0#1 := by
    unfold IntOp.cmpi BitVec.slt
    rw [toInt_small _ y1]
    by_cases h : 0 < (y 1).val
    · rw [if_pos h]; simp [h]
    · rw [if_neg h]; simp [h]
  rw [c1]
  unfold ch
  by_cases h : 0 < (y 1).val
  · have e1 : x4 (ix2 (y 0) ⟨((y 1).val + 2048 - 1) % 2048, Nat.mod_lt _ (by decide)⟩) = sg x4 (y 0).val ((y 1).val - 1) := by
      have := sg_eq x4 (ix2 (y 0) ⟨(y 1).val - 1, by omega⟩)
      refine Eq.trans ?_ this.symm
      refine congrArg x4 (congrArg (ix2 (y 0)) (Fin.ext ?_))
      show ((y 1).val + 2048 - 1) % 2048 = (y 1).val - 1
      omega
    have e2 := sg_eq x4 y
    rw [e1, ← e2, if_pos h]
    by_cases hn : sg x4 (y 0).val (y 1).val = sg x4 (y 0).val ((y 1).val - 1)
    · rw [if_neg (c := 0 < (y 1).val ∧ ¬ _) (fun hh => absurd hn hh.2), if_neg]
      rw [hn]; unfold IntOp.cmpi; simp [IntOp.andi]
    · rw [if_pos (c := _ ∧ _) ⟨h, hn⟩, if_pos]
      unfold IntOp.cmpi; simp only [IntOp.andi, if_true]
      show 1#1 &&& BitVec.ofBool (_ != _) = 1#1
      rw [bne_iff_ne.mpr hn]; rfl
  · rw [if_neg h, if_neg (c := _ ∧ _) (fun hh => h hh.1), if_neg]
    simp [IntOp.andi]

theorem ld_all (x4 : S8x2048.Idx → Elt F .i32) : View.ld x4 (Rect.unit (s := S8x2048) ![0, 0] S8x2048.size inb_S8x2048_S8x2048_0_0) = x4 := by
  funext y
  refine congrArg x4 (funext fun a => Fin.ext ?_)
  fin_cases a
  · change 0 + 1 * (y 0).val = (y 0).val; omega
  · change 0 + 1 * (y 1).val = (y 1).val; omega

theorem pay6_eq (x4 : S8x2048.Idx → Elt F .i32) : k0_pay6 (F := F) x4 = W (dbl 16 (dbl 8 (dbl 4 (dbl 2 (dbl 1 (ch (sg x4))))))) := by
  have l0 := ch_le (sg x4)
  have l1 := dbl_le 1 _ l0
  have l2 := dbl_le 2 _ l1
  have l4 := dbl_le 4 _ l2
  have l8 := dbl_le 8 _ l4
  rw [← step 16 (by decide) _ l8, ← step 8 (by decide) _ l4, ← step 4 (by decide) _ l2, ← step 2 (by decide) _ l1, ← step 1 (by decide) _ l0, ← ch_eq]
  rfl

theorem pay7_eq (g : ℕ → ℕ → ℕ) (l0 : ∀ b p, g b p ≤ p) :
    k0_pay7 (iota .tc S8x2048 32 [1] iota_S8x2048_d1_w32) (W g) 32#32 = W (dbl 1024 (dbl 512 (dbl 256 (dbl 128 (dbl 64 (dbl 32 g)))))) := by
  have l1 := dbl_le 32 _ l0
  have l2 := dbl_le 64 _ l1
  have l4 := dbl_le 128 _ l2
  have l8 := dbl_le 256 _ l4
  have l9 := dbl_le 512 _ l8
  rw [← step 1024 (by decide) _ l9, ← step 512 (by decide) _ l8, ← step 256 (by decide) _ l4, ← step 128 (by decide) _ l2, ← step 64 (by decide) _ l1, ← step 32 (by decide) _ l0]
  rfl

theorem dsv_eq (x4 : S8x2048.Idx → Elt F .i32) : dsv x4 = W (dsN x4) := by
  unfold dsv
  rw [ld_all, pay6_eq, pay7_eq _ (fun b p => dbl_le _ _ (dbl_le _ _ (dbl_le _ _ (dbl_le _ _ (dbl_le _ _ (ch_le _))))) b p)]
  rfl

end Cert.Kernel.Hand
-- ==== Proof.ChkB.lean ====
module

public import Idealize.ShloMosaic.Lib.Pipeline.Value
public import proofs.«01_k».proof.Proof.DsB
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
theorem w45_nat : ∀ n : Fin 2048, w45 (BitVec.ofNat 32 n.val) = BitVec.ofNat 32 (n.val / 128) := by decide +kernel

theorem loop_facts : ∀ (k : Fin 16) (lo : Fin 16), lo.val ≤ k.val →
    (⟨BitVec.ofNat 32 lo.val, Scalar.addi (BitVec.ofNat 32 lo.val) (Scalar.muli (Scalar.divsi (Scalar.subi (Scalar.addi (Scf.iv 0#32 1#32 k.val) 1#32) (BitVec.ofNat 32 lo.val)) 1#32) 1#32), 1#32⟩ : Scf.Loop 32).OK
    ∧ (⟨BitVec.ofNat 32 lo.val, Scalar.addi (BitVec.ofNat 32 lo.val) (Scalar.muli (Scalar.divsi (Scalar.subi (Scalar.addi (Scf.iv 0#32 1#32 k.val) 1#32) (BitVec.ofNat 32 lo.val)) 1#32) 1#32), 1#32⟩ : Scf.Loop 32).trips = k.val + 1 - lo.val := by
  decide +kernel

theorem t3_loop_eq (k : Fin k0_t2_loop.trips) (v : BitVec 32) :
    k0_t3_loop k v = ⟨w45 v, Scalar.addi (w45 v) (Scalar.muli (Scalar.divsi (Scalar.subi (Scalar.addi (Scf.iv 0#32 1#32 k.val) 1#32) (w45 v)) 1#32) 1#32), 1#32⟩ := rfl

theorem iv_nat : ∀ (lo : Fin 16) (t : Fin 17), (Scalar.indexCast (Scf.iv (BitVec.ofNat 32 lo.val) 1#32 t.val) : BitVec 32).toNat = lo.val + t.val := by decide +kernel
theorem t4_loop_eq (k : Fin k0_t2_loop.trips) (v : BitVec 32) :
    k0_t4_loop k v = ⟨Scalar.addi (w45 v) (Scalar.muli (Scalar.divsi (Scalar.subi (Scalar.addi (Scf.iv 0#32 1#32 k.val) 1#32) (w45 v)) 1#32) 1#32), Scalar.addi (w45 v) (Scalar.subi (Scalar.addi (Scf.iv 0#32 1#32 k.val) 1#32) (w45 v)), 1#32⟩ := rfl

theorem loop4_facts : ∀ (k : Fin 16) (lo : Fin 16), lo.val ≤ k.val →
    (⟨Scalar.addi (BitVec.ofNat 32 lo.val) (Scalar.muli (Scalar.divsi (Scalar.subi (Scalar.addi (Scf.iv 0#32 1#32 k.val) 1#32) (BitVec.ofNat 32 lo.val)) 1#32) 1#32), Scalar.addi (BitVec.ofNat 32 lo.val) (Scalar.subi (Scalar.addi (Scf.iv 0#32 1#32 k.val) 1#32) (BitVec.ofNat 32 lo.val)), 1#32⟩ : Scf.Loop 32).OK
    ∧ (⟨Scalar.addi (BitVec.ofNat 32 lo.val) (Scalar.muli (Scalar.divsi (Scalar.subi (Scalar.addi (Scf.iv 0#32 1#32 k.val) 1#32) (BitVec.ofNat 32 lo.val)) 1#32) 1#32), Scalar.addi (BitVec.ofNat 32 lo.val) (Scalar.subi (Scalar.addi (Scf.iv 0#32 1#32 k.val) 1#32) (BitVec.ofNat 32 lo.val)), 1#32⟩ : Scf.Loop 32).trips = 0 := by
  decide +kernel

section
variable (k : Fin k0_t2_loop.trips) (n : ℕ) (hn : n ≤ 128 * k.val)
include hn

theorem klt : k.val < 16 := k.isLt

theorem w45_of : w45 (BitVec.ofNat 32 n) = BitVec.ofNat 32 (n / 128) := w45_nat ⟨n, by have := klt k n hn; omega⟩

theorem trips3 : (k0_t3_loop k (BitVec.ofNat 32 n)).OK ∧ (k0_t3_loop k (BitVec.ofNat 32 n)).trips = k.val + 1 - n / 128 := by
  have h := klt k n hn
  rw [t3_loop_eq, w45_of k n hn]
  exact loop_facts ⟨k.val, h⟩ ⟨n / 128, by omega⟩ (by show n / 128 ≤ k.val; omega)

theorem trips4 : (k0_t4_loop k (BitVec.ofNat 32 n)).OK ∧ (k0_t4_loop k (BitVec.ofNat 32 n)).trips = 0 := by
  have h := klt k n hn
  rw [t4_loop_eq, w45_of k n hn]
  exact loop4_facts ⟨k.val, h⟩ ⟨n / 128, by omega⟩ (by show n / 128 ≤ k.val; omega)

theorem iv_of (t : Fin (k0_t3_loop k (BitVec.ofNat 32 n)).trips) :
    (Scalar.indexCast (Scf.iv (w45 (BitVec.ofNat 32 n)) 1#32 t.val) : BitVec 32).toNat = n / 128 + t.val := by
  have h := klt k n hn
  have ht := t.isLt
  have h3 := (trips3 k n hn).2
  rw [w45_of k n hn]
  exact iv_nat ⟨n / 128, by omega⟩ ⟨t.val, by omega⟩

theorem in4 (g z : ℕ) (hg : g < 4) (hz : z = 0) (t : Fin (k0_t3_loop k (BitVec.ofNat 32 n)).trips) (a : Fin 4) :
    (![g, (Scalar.indexCast (Scf.iv (w45 (BitVec.ofNat 32 n)) 1#32 t.val) : BitVec 32).toNat, z, z] : Fin 4 → ℕ) a + S1x1x256x128.size a ≤ S4x16x256x128.size a := by
  have h := klt k n hn
  have ht := t.isLt
  have h3 := (trips3 k n hn).2
  rw [iv_of k n hn]
  subst hz
  fin_cases a
  · change g + 1 ≤ 4; omega
  · change (n / 128 + t.val) + 1 ≤ 16; omega
  · change 0 + 256 ≤ 256; omega
  · change 0 + 128 ≤ 128; omega

theorem in3 (g z : ℕ) (hg : g ≤ 192) (hz : z = 0) (t : Fin (k0_t3_loop k (BitVec.ofNat 32 n)).trips) (a : Fin 3) :
    (![(Scalar.indexCast (Scf.iv (w45 (BitVec.ofNat 32 n)) 1#32 t.val) : BitVec 32).toNat, g, z] : Fin 3 → ℕ) a + S1x64x128.size a ≤ S16x256x128.size a := by
  have h := klt k n hn
  have ht := t.isLt
  have h3 := (trips3 k n hn).2
  rw [iv_of k n hn]
  subst hz
  fin_cases a
  · change (n / 128 + t.val) + 1 ≤ 16; omega
  · change g + 64 ≤ 256; omega
  · change 0 + 128 ≤ 128; omega

/-- The facts the body assumes hold when the word read is a place not after the block's first query. -/
theorem chk1_of : k0_chk1 k (BitVec.ofNat 32 n) := by
  have t4 : ∀ t : Fin (k0_t4_loop k (BitVec.ofNat 32 n)).trips, False := fun t => by
    have h := (trips4 k n hn).2; have ht := t.isLt; omega
  exact ⟨(trips3 k n hn).1,
    fun t => in4 k n hn 0 0 (by decide) rfl t, fun t => in3 k n hn 0 0 (by decide) rfl t,
    fun t => in4 k n hn 1 0 (by decide) rfl t, fun t => in3 k n hn 64 0 (by decide) rfl t,
    fun t => in4 k n hn 2 0 (by decide) rfl t, fun t => in3 k n hn 128 0 (by decide) rfl t,
    fun t => in4 k n hn 3 0 (by decide) rfl t, fun t => in3 k n hn 192 0 (by decide) rfl t,
    (trips4 k n hn).1,
    fun t => (t4 t).elim, fun t => (t4 t).elim, fun t => (t4 t).elim, fun t => (t4 t).elim,
    fun t => (t4 t).elim, fun t => (t4 t).elim, fun t => (t4 t).elim, fun t => (t4 t).elim⟩
end

/-- The sixteen slabs of the starts of the documents, one per key block. -/
def DSP (v : IVec S8x2048 32) : Fin 16 → IVec S1x8x128 32 :=
  ![shapeCast S1x8x128 (extractStridedSlice S8x128 ![0, 0] v slices_S8x2048_o0_0_S8x128) shapeCasts_S8x128_S1x8x128, k0_pay9 v, k0_pay10 v, k0_pay11 v, k0_pay12 v, k0_pay13 v, k0_pay14 v, k0_pay15 v, k0_pay17 (k0_pay16 v), k0_pay18 v, k0_pay19 v, k0_pay20 v, k0_pay21 v, k0_pay22 v, k0_pay23 v, k0_pay24 v]

/-- The table of the starts of the documents. -/
def DSM (x4 : S8x2048.Idx → Elt F .i32) : S16x8x128.Idx → Elt F .i32 := fun y => DSP (dsv x4) (y 0) (ix3 0 (y 1) (y 2))

theorem slab (o : Fin 2 → ℕ) (j : ℕ) (hj : j < 16) (eo : o = ![0, 128 * j]) (v : IVec S8x2048 32) (h : S8x2048.Slices o S8x128) (hc : S8x128.ShapeCasts S1x8x128) (y1 : Fin 8) (y2 : Fin 128) :
    shapeCast S1x8x128 (extractStridedSlice S8x128 o v h) hc (ix3 0 y1 y2) = v (ix2 y1 ⟨128 * j + y2.val, by omega⟩) := by
  subst eo
  refine (shapeCast_addUnit_apply (n := 2) ![8, 128] (extractStridedSlice S8x128 ![0, 128 * j] v h) hc (ix3 0 y1 y2)).trans ?_
  unfold extractStridedSlice
  refine congrArg v (funext fun a => Fin.ext ?_)
  fin_cases a
  · change 0 + y1.val = y1.val; omega
  · rfl

theorem DSP_eq (v : IVec S8x2048 32) (j : Fin 16) (y1 : Fin 8) (y2 : Fin 128) : DSP v j (ix3 0 y1 y2) = v (ix2 y1 ⟨128 * j.val + y2.val, by omega⟩) := by
  fin_cases j
  · exact slab ![0, 0] 0 (by decide) rfl v slices_S8x2048_o0_0_S8x128 _ y1 y2
  · exact slab ![0, 128] 1 (by decide) rfl v slices_S8x2048_o0_128_S8x128 _ y1 y2
  · exact slab ![0, 256] 2 (by decide) rfl v slices_S8x2048_o0_256_S8x128 _ y1 y2
  · exact slab ![0, 384] 3 (by decide) rfl v slices_S8x2048_o0_384_S8x128 _ y1 y2
  · exact slab ![0, 512] 4 (by decide) rfl v slices_S8x2048_o0_512_S8x128 _ y1 y2
  · exact slab ![0, 640] 5 (by decide) rfl v slices_S8x2048_o0_640_S8x128 _ y1 y2
  · exact slab ![0, 768] 6 (by decide) rfl v slices_S8x2048_o0_768_S8x128 _ y1 y2
  · exact slab ![0, 896] 7 (by decide) rfl v slices_S8x2048_o0_896_S8x128 _ y1 y2
  · exact slab ![0, 1024] 8 (by decide) rfl v slices_S8x2048_o0_1024_S8x128 _ y1 y2
  · exact slab ![0, 1152] 9 (by decide) rfl v slices_S8x2048_o0_1152_S8x128 _ y1 y2
  · exact slab ![0, 1280] 10 (by decide) rfl v slices_S8x2048_o0_1280_S8x128 _ y1 y2
  · exact slab ![0, 1408] 11 (by decide) rfl v slices_S8x2048_o0_1408_S8x128 _ y1 y2
  · exact slab ![0, 1536] 12 (by decide) rfl v slices_S8x2048_o0_1536_S8x128 _ y1 y2
  · exact slab ![0, 1664] 13 (by decide) rfl v slices_S8x2048_o0_1664_S8x128 _ y1 y2
  · exact slab ![0, 1792] 14 (by decide) rfl v slices_S8x2048_o0_1792_S8x128 _ y1 y2
  · exact slab ![0, 1920] 15 (by decide) rfl v slices_S8x2048_o0_1920_S8x128 _ y1 y2

/-- The table's entries: place `128 j + l` of row `b` starts its document at `dsN b (128 j + l)`. -/
theorem DSM_eq (x4 : S8x2048.Idx → Elt F .i32) (y : S16x8x128.Idx) : DSM x4 y = BitVec.ofNat 32 (dsN x4 (y 1).val (128 * (y 0).val + (y 2).val)) := by
  unfold DSM
  refine (DSP_eq (dsv x4) (y 0) (y 1) (y 2)).trans ?_
  rw [dsv_eq]; rfl

/-- The word the body reads for a block of queries, from the table. -/
theorem w28_DSM (i : grid0.Coords) (x4 : S8x2048.Idx → Elt F .i32) (k : Fin k0_t2_loop.trips) : w28 (F := F) i (DSM x4) k = BitVec.ofNat 32 (dsN x4 (i 0).val (128 * k.val)) := by
  unfold w28
  have hi : (i 0).val < 8 := (i 0).isLt
  have hk : k.val < 16 := k.isLt
  have e : View.ld (DSM x4) (Rect.unit (s := S16x8x128) (k0_off14 i k) S1x1x1.size (k0_off14_inb i k)) (Shape.Idx.first (s := S1x1x1) (by decide))
      = DSM x4 (ix3 ⟨k.val, hk⟩ ⟨(i 0).val, hi⟩ 0) := by
    refine congrArg (DSM x4) (funext fun a => Fin.ext ?_)
    have eo := congrFun (k0_off14_eq i k) a
    show k0_off14 i k a + 1 * 0 = _
    rw [eo]
    fin_cases a <;> rfl
  rw [e, DSM_eq]; rfl

theorem hwDS (i : grid0.Coords) (x4 : S8x2048.Idx → Elt F .i32) (k : Fin k0_t2_loop.trips) : k0_chk1 k (w28 (F := F) i (DSM x4) k) := by
  rw [w28_DSM]
  exact chk1_of k _ (dsN_le _ _ _)

end Cert.Kernel.Hand
-- ==== Proof.BodyB.lean ====
module

public import proofs.«01_k».proof.Proof.Loop2B
public import proofs.«01_k».proof.Proof.Loop1B
public import proofs.«01_k».proof.Proof.ChkB
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable {arg1 : Memref sig .tc .smem S16 .f32} {harg1 : arg1.IsWhole} {arg2 : Memref sig .tc .smem S4 .f32} {harg2 : arg2.IsWhole} {arg3 : Memref sig .tc .smem S4 .f32} {harg3 : arg3.IsWhole} {arg4 : Memref sig .tc .vmem S8x2048 .i32} {harg4 : arg4.IsWhole} {arg5 : Memref sig .tc .vmem S1x2048x1024 .fp8e4m3} {harg5 : arg5.IsWhole} {arg6 : Memref sig .tc .vmem S1x2048x256 .fp8e4m3} {harg6 : arg6.IsWhole} {arg7 : Memref sig .tc .vmem S1x2048x256 .fp8e4m3} {harg7 : arg7.IsWhole} {arg8 : Memref sig .tc .vmem S1x2048x1024 .bf16} {harg8 : arg8.IsWhole} {arg9 : Memref sig .tc .vmem S16x8x128 .i32} {harg9 : arg9.IsWhole} {arg10 : Memref sig .tc .smem S16x8x128 .i32} {harg10 : arg10.IsWhole} {arg11 : Memref sig .tc .vmem S4x16x256x128 .fp8e4m3} {harg11 : arg11.IsWhole} {arg12 : Memref sig .tc .vmem S16x256x128 .bf16} {harg12 : arg12.IsWhole} {arg13 : Memref sig .tc .vmem S8x8x256 .f32} {harg13 : arg13.IsWhole} {arg14 : Memref sig .tc .vmem S8x8x256 .f32} {harg14 : arg14.IsWhole} {arg15 : Memref sig .tc .vmem S8x64x256 .f32} {harg15 : arg15.IsWhole} {arg16 : DmaSems sig S_}

/-- The output block, of the input blocks alone. -/
def outF (i : grid0.Coords) (x1 : S16.Idx → Elt F .f32) (x2 x3 : S4.Idx → Elt F .f32) (x4 : S8x2048.Idx → Elt F .i32) (x5 : S1x2048x1024.Idx → Elt F .fp8e4m3)
    (x6 x7 : S1x2048x256.Idx → Elt F .fp8e4m3) : S1x2048x1024.Idx → Elt F .bf16 :=
  outM i x1 x2 x3 x5 (DSM x4) (DSM x4) (kzG x6) (vtG x7) (hwDS i x4)

theorem outM_congr (i : grid0.Coords) (x1 : S16.Idx → Elt F .f32) (x2 x3 : S4.Idx → Elt F .f32) (x5 : S1x2048x1024.Idx → Elt F .fp8e4m3) (x9 x10 x9' x10' : S16x8x128.Idx → Elt F .i32)
    (x11 x11' : S4x16x256x128.Idx → Elt F .fp8e4m3) (x12 x12' : S16x256x128.Idx → Elt F .bf16) (hw : ∀ k, k0_chk1 k (w28 i x10 k)) (hw' : ∀ k, k0_chk1 k (w28 i x10' k))
    (h9 : x9 = x9') (h10 : x10 = x10') (h11 : x11 = x11') (h12 : x12 = x12') : outM i x1 x2 x3 x5 x9 x10 x11 x12 hw = outM i x1 x2 x3 x5 x9' x10' x11' x12' hw' := by
  subst h9; subst h10; subst h11; subst h12; rfl

theorem all11 (f : BufTy.Contents (Elt F) arg11.view.ty) (g : S4x16x256x128.Idx → Elt F .fp8e4m3)
    (h : ∀ y, (y 1).val < Scf.trips k0_t1_loop.lb k0_t1_loop.ub k0_t1_loop.st → arg11.view.read (Elt F) f y = g y) : arg11.view.read (Elt F) f = g := by
  funext y
  have y1 : (y 1).val < 16 := (y 1).isLt
  exact h y (lt_of_lt_of_eq y1 (by decide +kernel))

theorem all12 (f : BufTy.Contents (Elt F) arg12.view.ty) (g : S16x256x128.Idx → Elt F .bf16)
    (h : ∀ y, (y 0).val < Scf.trips k0_t1_loop.lb k0_t1_loop.ub k0_t1_loop.st → arg12.view.read (Elt F) f y = g y) : arg12.view.read (Elt F) f = g := by
  funext y
  have y1 : (y 0).val < 16 := (y 0).isLt
  exact h y (lt_of_lt_of_eq y1 (by decide +kernel))

set_option maxHeartbeats 2000000 in
/-- One point of the grid after the first: the table is there already. -/
theorem body_next (c : Dev nD) (E : Set ℕ) (i : grid0.Coords) (h0 : ¬ Scalar.cmpi .ne (Scalar.extui (Scalar.cmpi .eq (BitVec.ofNat 32 (i 0).val) 0#32) : BitVec 32) 0#32 = 1#1)
    (X1 : BufTy.Contents (Elt F) arg1.view.ty)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X9 : BufTy.Contents (Elt F) arg9.view.ty)
    (X10 : BufTy.Contents (Elt F) arg10.view.ty)
    (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (x4 : S8x2048.Idx → Elt F .i32) (h9 : arg9.view.read (Elt F) X9 = DSM x4) (h10 : arg10.view.read (Elt F) X10 = DSM x4) :
    (iprop(Pt c arg1 X1 ∗ Pt c arg2 X2 ∗ Pt c arg3 X3 ∗ Pt c arg4 X4 ∗ Pt c arg5 X5 ∗ Pt c arg6 X6 ∗ Pt c arg7 X7 ∗ Pt c arg8 f8 ∗ Pt c arg9 X9 ∗ Pt c arg10 X10 ∗ Pt c arg11 f11 ∗ Pt c arg12 f12
        ∗ Pt c arg13 f13 ∗ Pt c arg14 f14 ∗ Pt c arg15 f15) : sProp 𝕄)
      ⊢ wp frame (wpE (defs₀ (F := F)) Variants.none (c : Thread nD τ) none) E (cc0_seg_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
          (fun _ => iprop(Pt c arg1 X1 ∗ Pt c arg2 X2 ∗ Pt c arg3 X3 ∗ Pt c arg4 X4 ∗ Pt c arg5 X5 ∗ Pt c arg6 X6 ∗ Pt c arg7 X7
            ∗ (∃ f, Pt c arg8 f ∗ ⌜arg8.view.read (Elt F) f = outF i (arg1.view.read (Elt F) X1) (arg2.view.read (Elt F) X2) (arg3.view.read (Elt F) X3) x4 (arg5.view.read (Elt F) X5) (arg6.view.read (Elt F) X6) (arg7.view.read (Elt F) X7)⌝)
            ∗ Pt c arg9 X9 ∗ Pt c arg10 X10
            ∗ (∃ f, Pt c arg11 f) ∗ (∃ f, Pt c arg12 f) ∗ (∃ f, Pt c arg13 f) ∗ (∃ f, Pt c arg14 f) ∗ (∃ f, Pt c arg15 f))) := by
  simp only [cc0_seg_attn_eq_skeleton]; unfold cc0_seg_attn_skel
  iintro ⟨H1, H2, H3, H4, H5, H6, H7, H8, H9, H10, H11, H12, H13, H14, H15⟩
  rw [dif_neg h0]
  sl_exec
  have hw : ∀ k, k0_chk1 k (w28 (F := F) i (arg10.view.read (Elt F) X10) k) := by rw [h10]; exact hwDS i x4
  let I := loopInv2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) Variants.none c none E i (BitVec.ofNat 32 (i 0).val) X1 X2 X3 X5 X9 X10 fL0 fL1 hw
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    funext y
    have y1 : (y 1).val < 2048 := (y 1).isLt
    have et : Scf.trips k0_t2_loop.lb k0_t2_loop.ub k0_t2_loop.st = 16 := by decide +kernel
    exact (hL9 y (by rw [et]; omega)).trans (congrFun (outM_congr i _ _ _ _ _ _ _ _ _ _ _ _ hw _ h9 h10 (all11 _ _ hL3) (all12 _ _ hL5)) y)
  isplitl [H9]; · iexact H9
  isplitl [H10]; · iexact H10
  isplitl [H11]; · iexists _; iexact H11
  isplitl [H12]; · iexists _; iexact H12
  isplitl [H13]; · iexists _; iexact H13
  isplitl [H14]; · iexists _; iexact H14
  iexists _; iexact H15

/-- The sixteen stores of the table, last first. -/
def dsL (W : Fin 16 → Vec F S1x8x128 .i32) : List (View.Piece (Elt F) S16x8x128 .i32) :=
  [⟨Rect.unit (s := S16x8x128) ![15, 0, 0] S1x8x128.size inb_S16x8x128_S1x8x128_15_0_0, W 15⟩, ⟨Rect.unit (s := S16x8x128) ![14, 0, 0] S1x8x128.size inb_S16x8x128_S1x8x128_14_0_0, W 14⟩, ⟨Rect.unit (s := S16x8x128) ![13, 0, 0] S1x8x128.size inb_S16x8x128_S1x8x128_13_0_0, W 13⟩, ⟨Rect.unit (s := S16x8x128) ![12, 0, 0] S1x8x128.size inb_S16x8x128_S1x8x128_12_0_0, W 12⟩, ⟨Rect.unit (s := S16x8x128) ![11, 0, 0] S1x8x128.size inb_S16x8x128_S1x8x128_11_0_0, W 11⟩, ⟨Rect.unit (s := S16x8x128) ![10, 0, 0] S1x8x128.size inb_S16x8x128_S1x8x128_10_0_0, W 10⟩, ⟨Rect.unit (s := S16x8x128) ![9, 0, 0] S1x8x128.size inb_S16x8x128_S1x8x128_9_0_0, W 9⟩, ⟨Rect.unit (s := S16x8x128) ![8, 0, 0] S1x8x128.size inb_S16x8x128_S1x8x128_8_0_0, W 8⟩, ⟨Rect.unit (s := S16x8x128) ![7, 0, 0] S1x8x128.size inb_S16x8x128_S1x8x128_7_0_0, W 7⟩, ⟨Rect.unit (s := S16x8x128) ![6, 0, 0] S1x8x128.size inb_S16x8x128_S1x8x128_6_0_0, W 6⟩, ⟨Rect.unit (s := S16x8x128) ![5, 0, 0] S1x8x128.size inb_S16x8x128_S1x8x128_5_0_0, W 5⟩, ⟨Rect.unit (s := S16x8x128) ![4, 0, 0] S1x8x128.size inb_S16x8x128_S1x8x128_4_0_0, W 4⟩, ⟨Rect.unit (s := S16x8x128) ![3, 0, 0] S1x8x128.size inb_S16x8x128_S1x8x128_3_0_0, W 3⟩, ⟨Rect.unit (s := S16x8x128) ![2, 0, 0] S1x8x128.size inb_S16x8x128_S1x8x128_2_0_0, W 2⟩, ⟨Rect.unit (s := S16x8x128) ![1, 0, 0] S1x8x128.size inb_S16x8x128_S1x8x128_1_0_0, W 1⟩, ⟨Rect.unit (s := S16x8x128) ![0, 0, 0] S1x8x128.size inb_S16x8x128_S1x8x128_0_0_0, W 0⟩]

theorem emb_ds (j : Fin 16) (W : Fin 16 → Vec F S1x8x128 .i32) (o : Fin 3 → ℕ) (eo : o = ![j.val, 0, 0]) (h : ∀ a, o a + S1x8x128.size a ≤ S16x8x128.size a) (x : S1x8x128.Idx) :
    (fun y : S16x8x128.Idx => W (y 0) (ix3 0 (y 1) (y 2))) ((Rect.unit (s := S16x8x128) o S1x8x128.size h).emb x) = W j x := by
  subst eo
  have x0 : (x 0).val < 1 := (x 0).isLt
  have e0 : ((Rect.unit (s := S16x8x128) ![j.val, 0, 0] S1x8x128.size h).emb x) 0 = j := Fin.ext (by change j.val + 1 * (x 0).val = j.val; omega)
  have ex : (ix3 0 (((Rect.unit (s := S16x8x128) ![j.val, 0, 0] S1x8x128.size h).emb x) 1) (((Rect.unit (s := S16x8x128) ![j.val, 0, 0] S1x8x128.size h).emb x) 2) : S1x8x128.Idx) = x := by
    funext a
    fin_cases a <;> refine Fin.ext ?_
    · change 0 = (x 0).val; omega
    · change 0 + 1 * (x 1).val = (x 1).val; omega
    · change 0 + 1 * (x 2).val = (x 2).val; omega
  show W _ _ = _
  rw [e0]
  exact congrArg (W j) ex

/-- The table read after its sixteen stores. -/
theorem read_ds (f : BufTy.Contents (Elt F) arg9.view.ty) (W : Fin 16 → Vec F S1x8x128 .i32) :
    arg9.view.read (Elt F) (arg9.view.writes (Elt F) f (dsL W)) = fun y => W (y 0) (ix3 0 (y 1) (y 2)) := by
  funext y
  unfold dsL
  refine View.read_writes_apply_of_pieces _ _ (fun y : S16x8x128.Idx => W (y 0) (ix3 0 (y 1) (y 2))) _ ?_ y ?_
  · simp only [List.forall_mem_cons, List.not_mem_nil, false_imp_iff, implies_true, _root_.and_true]
    exact ⟨fun x => (emb_ds 15 W _ rfl _ x).symm, fun x => (emb_ds 14 W _ rfl _ x).symm, fun x => (emb_ds 13 W _ rfl _ x).symm, fun x => (emb_ds 12 W _ rfl _ x).symm, fun x => (emb_ds 11 W _ rfl _ x).symm, fun x => (emb_ds 10 W _ rfl _ x).symm, fun x => (emb_ds 9 W _ rfl _ x).symm, fun x => (emb_ds 8 W _ rfl _ x).symm, fun x => (emb_ds 7 W _ rfl _ x).symm, fun x => (emb_ds 6 W _ rfl _ x).symm, fun x => (emb_ds 5 W _ rfl _ x).symm, fun x => (emb_ds 4 W _ rfl _ x).symm, fun x => (emb_ds 3 W _ rfl _ x).symm, fun x => (emb_ds 2 W _ rfl _ x).symm, fun x => (emb_ds 1 W _ rfl _ x).symm, fun x => (emb_ds 0 W _ rfl _ x).symm⟩
  · have y0 : (y 0).val < 16 := (y 0).isLt
    have y1 : (y 1).val < 8 := (y 1).isLt
    have y2 : (y 2).val < 128 := (y 2).isLt
    simp only [List.exists_mem_cons_iff, List.not_mem_nil, _root_.false_and, exists_false, _root_.or_false, Rect.mem_set_unit]
    have key : ∀ j : ℕ, (y 0).val = j → ∀ a : Fin 3, (![j, 0, 0] : Fin 3 → ℕ) a ≤ (y a).val ∧ (y a).val < (![j, 0, 0] : Fin 3 → ℕ) a + S1x8x128.size a := by
      intro j hj a; fin_cases a
      · change j ≤ (y 0).val ∧ (y 0).val < j + 1; omega
      · change 0 ≤ (y 1).val ∧ (y 1).val < 0 + 8; omega
      · change 0 ≤ (y 2).val ∧ (y 2).val < 0 + 128; omega
    have hh : (y 0).val = 0 ∨ (y 0).val = 1 ∨ (y 0).val = 2 ∨ (y 0).val = 3 ∨ (y 0).val = 4 ∨ (y 0).val = 5 ∨ (y 0).val = 6 ∨ (y 0).val = 7 ∨ (y 0).val = 8 ∨ (y 0).val = 9 ∨ (y 0).val = 10 ∨ (y 0).val = 11 ∨ (y 0).val = 12 ∨ (y 0).val = 13 ∨ (y 0).val = 14 ∨ (y 0).val = 15 := by omega
    rcases hh with h | h | h | h | h | h | h | h | h | h | h | h | h | h | h | h
    · exact .inr (.inr (.inr (.inr (.inr (.inr (.inr (.inr (.inr (.inr (.inr (.inr (.inr (.inr (.inr (key 0 h)))))))))))))))
    · exact .inr (.inr (.inr (.inr (.inr (.inr (.inr (.inr (.inr (.inr (.inr (.inr (.inr (.inr (.inl (key 1 h)))))))))))))))
    · exact .inr (.inr (.inr (.inr (.inr (.inr (.inr (.inr (.inr (.inr (.inr (.inr (.inr (.inl (key 2 h))))))))))))))
    · exact .inr (.inr (.inr (.inr (.inr (.inr (.inr (.inr (.inr (.inr (.inr (.inr (.inl (key 3 h)))))))))))))
    · exact .inr (.inr (.inr (.inr (.inr (.inr (.inr (.inr (.inr (.inr (.inr (.inl (key 4 h))))))))))))
    · exact .inr (.inr (.inr (.inr (.inr (.inr (.inr (.inr (.inr (.inr (.inl (key 5 h)))))))))))
    · exact .inr (.inr (.inr (.inr (.inr (.inr (.inr (.inr (.inr (.inl (key 6 h))))))))))
    · exact .inr (.inr (.inr (.inr (.inr (.inr (.inr (.inr (.inl (key 7 h)))))))))
    · exact .inr (.inr (.inr (.inr (.inr (.inr (.inr (.inl (key 8 h))))))))
    · exact .inr (.inr (.inr (.inr (.inr (.inr (.inl (key 9 h)))))))
    · exact .inr (.inr (.inr (.inr (.inr (.inl (key 10 h))))))
    · exact .inr (.inr (.inr (.inr (.inl (key 11 h)))))
    · exact .inr (.inr (.inr (.inl (key 12 h))))
    · exact .inr (.inr (.inl (key 13 h)))
    · exact .inr (.inl (key 14 h))
    · exact .inl (key 15 h)

set_option maxHeartbeats 2000000 in
/-- The first point of the grid: the table is filled and copied to the scalar memory. -/
theorem body_first (c : Dev nD) (i : grid0.Coords) (h0 : Scalar.cmpi .ne (Scalar.extui (Scalar.cmpi .eq (BitVec.ofNat 32 (i 0).val) 0#32) : BitVec 32) 0#32 = 1#1)
    (X1 : BufTy.Contents (Elt F) arg1.view.ty)
    (X2 : BufTy.Contents (Elt F) arg2.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (X7 : BufTy.Contents (Elt F) arg7.view.ty)
    (X9 : BufTy.Contents (Elt F) arg9.view.ty)
    (X10 : BufTy.Contents (Elt F) arg10.view.ty)
    (f8 : BufTy.Contents (Elt F) arg8.view.ty) (f11 : BufTy.Contents (Elt F) arg11.view.ty) (f12 : BufTy.Contents (Elt F) arg12.view.ty) (f13 : BufTy.Contents (Elt F) arg13.view.ty) (f14 : BufTy.Contents (Elt F) arg14.view.ty) (f15 : BufTy.Contents (Elt F) arg15.view.ty)
    (W : Waits sig Unit) :
    (iprop(Pt c arg1 X1 ∗ Pt c arg2 X2 ∗ Pt c arg3 X3 ∗ Pt c arg4 X4 ∗ Pt c arg5 X5 ∗ Pt c arg6 X6 ∗ Pt c arg7 X7 ∗ Pt c arg8 f8 ∗ Pt c arg9 X9 ∗ Pt c arg10 X10 ∗ Pt c arg11 f11 ∗ Pt c arg12 f12
        ∗ Pt c arg13 f13 ∗ Pt c arg14 f14 ∗ Pt c arg15 f15
        ∗ semVal ((c : Thread nD τ), SemLoc.dma arg16.sem) 0 ∗ owes (c : Thread nD τ) 0 W) : sProp 𝕄)
      ⊢ wp frame (wpE (defs₀ (F := F)) Variants.none (c : Thread nD τ) none) Set.univ (cc0_seg_attn (F := F) i arg1 harg1 arg2 harg2 arg3 harg3 arg4 harg4 arg5 harg5 arg6 harg6 arg7 harg7 arg8 harg8 arg9 harg9 arg10 harg10 arg11 harg11 arg12 harg12 arg13 harg13 arg14 harg14 arg15 harg15 arg16)
          (fun _ => iprop(Pt c arg1 X1 ∗ Pt c arg2 X2 ∗ Pt c arg3 X3 ∗ Pt c arg4 X4 ∗ Pt c arg5 X5 ∗ Pt c arg6 X6 ∗ Pt c arg7 X7
            ∗ (∃ f, Pt c arg8 f ∗ ⌜arg8.view.read (Elt F) f = outF i (arg1.view.read (Elt F) X1) (arg2.view.read (Elt F) X2) (arg3.view.read (Elt F) X3) (arg4.view.read (Elt F) X4) (arg5.view.read (Elt F) X5) (arg6.view.read (Elt F) X6) (arg7.view.read (Elt F) X7)⌝)
            ∗ (∃ f, Pt c arg9 f ∗ ⌜arg9.view.read (Elt F) f = DSM (arg4.view.read (Elt F) X4)⌝) ∗ (∃ f, Pt c arg10 f ∗ ⌜arg10.view.read (Elt F) f = DSM (arg4.view.read (Elt F) X4)⌝)
            ∗ (∃ f, Pt c arg11 f) ∗ (∃ f, Pt c arg12 f) ∗ (∃ f, Pt c arg13 f) ∗ (∃ f, Pt c arg14 f) ∗ (∃ f, Pt c arg15 f)
            ∗ semVal ((c : Thread nD τ), SemLoc.dma arg16.sem) 0 ∗ (∃ W', owes (c : Thread nD τ) 0 W'))) := by
  simp only [cc0_seg_attn_eq_skeleton]; unfold cc0_seg_attn_skel
  iintro ⟨H1, H2, H3, H4, H5, H6, H7, H8, H9, H10, H11, H12, H13, H14, H15, Hq, HW⟩
  rw [dif_pos h0]
  sl_exec
  have eL : body_first.sl.H9_16 (F := F) (arg4 := arg4) X4 = dsL (DSP (dsv (arg4.view.read (Elt F) X4))) := by sl_kernel_rfl
  have e9 : ∀ f : BufTy.Contents (Elt F) arg9.view.ty, arg9.view.read (Elt F) (arg9.view.writes (Elt F) f (body_first.sl.H9_16 (F := F) (arg4 := arg4) X4)) = DSM (arg4.view.read (Elt F) X4) := fun f => by
    rw [eL]; exact read_ds f _
  have e10 : arg10.view.read (Elt F) (arg10.view.writes (Elt F) arg10.view.junk [⟨Rect.whole S16x8x128, body_first.sl.dma33 (F := F) (arg4 := arg4) (arg9 := arg9) X4 X9⟩]) = DSM (arg4.view.read (Elt F) X4) := by
    refine Eq.trans ?_ (e9 X9)
    funext y
    refine View.read_writes_apply_of_pieces arg10.view _ (body_first.sl.dma33 (F := F) (arg4 := arg4) (arg9 := arg9) X4 X9) _ ?_ y ?_
    · intro p hp
      obtain rfl := List.mem_singleton.mp hp
      intro x; exact congrArg (body_first.sl.dma33 (F := F) (arg4 := arg4) (arg9 := arg9) X4 X9) (Rect.emb_whole_apply _ x).symm
    · exact ⟨_, List.mem_singleton.mpr rfl, by rw [Rect.set_whole]; exact Finset.mem_univ _⟩
  have hw : ∀ k, k0_chk1 k (w28 (F := F) i (arg10.view.read (Elt F) (arg10.view.writes (Elt F) arg10.view.junk [⟨Rect.whole S16x8x128, body_first.sl.dma33 (F := F) (arg4 := arg4) (arg9 := arg9) X4 X9⟩])) k) := by rw [e10]; exact hwDS i _
  let I := loopInv2 (F := F) (harg1 := harg1) (harg2 := harg2) (harg3 := harg3) (harg4 := harg4) (harg5 := harg5) (harg6 := harg6) (harg7 := harg7) (harg8 := harg8) (harg9 := harg9) (harg10 := harg10) (harg11 := harg11) (harg12 := harg12) (harg13 := harg13) (harg14 := harg14) (harg15 := harg15) (arg16 := arg16) Variants.none c none Set.univ i (BitVec.ofNat 32 (i 0).val) X1 X2 X3 X5 (arg9.view.writes (Elt F) arg9.view.junk (body_first.sl.H9_16 (F := F) (arg4 := arg4) X4)) (arg10.view.writes (Elt F) arg10.view.junk [⟨Rect.whole S16x8x128, body_first.sl.dma33 (F := F) (arg4 := arg4) (arg9 := arg9) X4 X9⟩]) fL0 fL1 hw
  sl_exec
  sl_step
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]
  · iexists _; isplitl [H8]; · iexact H8
    ipureintro
    funext y
    have y1 : (y 1).val < 2048 := (y 1).isLt
    have et : Scf.trips k0_t2_loop.lb k0_t2_loop.ub k0_t2_loop.st = 16 := by decide +kernel
    exact (hL9 y (by rw [et]; omega)).trans (congrFun (outM_congr i _ _ _ _ _ _ _ _ _ _ _ _ hw _ (e9 _) e10 (all11 _ _ hL3) (all12 _ _ hL5)) y)
  isplitl [H9]; · iexists _; isplitl [H9]; (· iexact H9); ipureintro; exact e9 _
  isplitl [H10]; · iexists _; isplitl [H10]; (· iexact H10); ipureintro; exact e10
  isplitl [H11]; · iexists _; iexact H11
  isplitl [H12]; · iexists _; iexact H12
  isplitl [H13]; · iexists _; iexact H13
  isplitl [H14]; · iexists _; iexact H14
  isplitl [H15]; · iexists _; iexact H15
  isplitl [Hq]; · iexact Hq
  iexists _; iexact HW

end Cert.Kernel.Hand
-- ==== Proof.FrameB.lean ====
module

public import proofs.«01_k».proof.Proof.Gen.Kernel.Launch
public import proofs.«01_k».proof.Proof.Gen.Kernel.Points
public import proofs.«01_k».proof.Proof.Gen.Kernel.Skeleton
public import proofs.«01_k».proof.Proof.BodyB
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (Pipeline.UD sig nD τ) ℕ
variable (m : (ℓ : Loc nD τ sig) → Buf (Elt F) ℓ) (ρ : Dev nD → PrngReg)

/-- The buffers of a core when the region is entered: as launched. -/
abbrev V (c : Dev nD) (b : Ref sig .tc) : Buf (Elt F) ((c : Thread nD τ).loc b) := m ((c : Thread nD τ).loc b)

set_option maxHeartbeats 800000 in
theorem hmain (𝒱₀ : Variants) : Pipeline.HMain (Ix := Unit) (Name := ℕ) (U := Pipeline.UD sig nD τ) (Lvl := ℕ) cfgs 0 defs₀ 𝒱₀ m (main (F := F)) (V m) :=
  Pipeline.hmain_region cfgs 0 defs₀ 𝒱₀ m main fun c => (main_chain c).trans rfl

/-- The block of a window at a point of the grid, of the launch memory. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

theorem before0_0_of {c : Dev nD} (dat : Dat τ (Elt F) Unit ℕ (Pipeline.UD sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before0_1_of {c : Dev nD} (dat : Dat τ (Elt F) Unit ℕ (Pipeline.UD sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before0_2_of {c : Dev nD} (dat : Dat τ (Elt F) Unit ℕ (Pipeline.UD sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before0_3_of {c : Dev nD} (dat : Dat τ (Elt F) Unit ℕ (Pipeline.UD sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before0_4_of {c : Dev nD} (dat : Dat τ (Elt F) Unit ℕ (Pipeline.UD sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
theorem before0_5_of {c : Dev nD} (dat : Dat τ (Elt F) Unit ℕ (Pipeline.UD sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
theorem before0_6_of {c : Dev nD} (dat : Dat τ (Elt F) Unit ℕ (Pipeline.UD sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

abbrev ms0_0 (t : Fin cfg0.N) : Memref sig .tc .smem S16 .f32 := win0_0.stage (cfg0.slots t 0)
abbrev ms0_1 (t : Fin cfg0.N) : Memref sig .tc .smem S4 .f32 := win0_1.stage (cfg0.slots t 1)
abbrev ms0_2 (t : Fin cfg0.N) : Memref sig .tc .smem S4 .f32 := win0_2.stage (cfg0.slots t 2)
abbrev ms0_3 (t : Fin cfg0.N) : Memref sig .tc .vmem S8x2048 .i32 := win0_3.stage (cfg0.slots t 3)
abbrev ms0_4 (t : Fin cfg0.N) : Memref sig .tc .vmem S1x2048x1024 .fp8e4m3 := win0_4.stage (cfg0.slots t 4)
abbrev ms0_5 (t : Fin cfg0.N) : Memref sig .tc .vmem S1x2048x256 .fp8e4m3 := win0_5.stage (cfg0.slots t 5)
abbrev ms0_6 (t : Fin cfg0.N) : Memref sig .tc .vmem S1x2048x256 .fp8e4m3 := win0_6.stage (cfg0.slots t 6)
abbrev ms0_7 (t : Fin cfg0.N) : Memref sig .tc .vmem S1x2048x1024 .bf16 := win0_7.stage (cfg0.slots t 7)
abbrev A9 : Memref sig .tc .vmem S16x8x128 .i32 := Memref.whole cc0_scratch0
abbrev A10 : Memref sig .tc .smem S16x8x128 .i32 := Memref.whole cc0_scratch1
abbrev A11 : Memref sig .tc .vmem S4x16x256x128 .fp8e4m3 := Memref.whole cc0_scratch2
abbrev A12 : Memref sig .tc .vmem S16x256x128 .bf16 := Memref.whole cc0_scratch3
abbrev A13 : Memref sig .tc .vmem S8x8x256 .f32 := Memref.whole cc0_scratch4
abbrev A14 : Memref sig .tc .vmem S8x8x256 .f32 := Memref.whole cc0_scratch5
abbrev A15 : Memref sig .tc .vmem S8x64x256 .f32 := Memref.whole cc0_scratch6

/-- The one DMA cell of the body. -/
abbrev osem0 : Fin 1 → SemLoc sig := fun j => (![SemLoc.dma 12] : Fin 1 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), SemLoc.dma 12) 0) := by
  rw [Pipeline.ownSems0_eq_of_list c osem0 [0] (by decide) (by decide)]; rfl
/-- No operand is left in high memory. -/
def H0 : Finset (Ref sig .tc) := ∅
theorem H0_sub : H0 ⊆ Pipeline.restRefs sig spec0 := by decide
theorem hbmPts0_eq (c : Dev nD) : (bigSep H0 (fun b => ((c : Thread nD τ).loc b) ↦{fullShare} V m c b) : sProp 𝕄) = (BI.emp : sProp 𝕄) := by
  rw [BI.bigSep_eq_bigSepL_of_eq [] (by decide) (by decide)]; rfl

/-- What the region hands over: the scratch buffers at anything, the register and the cell at zero. -/
theorem PhiD0_eq (c : Dev nD) :
    (Pipeline.ΦD osem0 spec0 H0 (V m) c : sProp 𝕄)
      = iprop(iprop((∃ d, owns (c : Thread nD τ) A9 fullShare d) ∗ (∃ d, owns (c : Thread nD τ) A11 fullShare d) ∗ (∃ d, owns (c : Thread nD τ) A12 fullShare d) ∗ (∃ d, owns (c : Thread nD τ) A13 fullShare d) ∗ (∃ d, owns (c : Thread nD τ) A14 fullShare d) ∗ (∃ d, owns (c : Thread nD τ) A15 fullShare d) ∗ (∃ d, owns (c : Thread nD τ) A10 fullShare d))
          ∗ (∃ r, prngReg c r) ∗ semVal ((c : Thread nD τ), SemLoc.dma 12) 0 ∗ (BI.emp : sProp 𝕄)) := by
  rw [Pipeline.ΦD_eq, scopedRest0_eq, ownSems00_eq, hbmPts0_eq]
  simp only [A9, A10, A11, A12, A13, A14, A15, owns_whole]; try rfl

/-- The invariant between points: after the first, the two copies of the table hold the starts of the documents. -/
def inv (c : Dev nD) (x4 : S8x2048.Idx → Elt F .i32) (j : ℕ) : sProp 𝕄 :=
  iprop((∃ d9 d10, owns (c : Thread nD τ) A9 fullShare d9 ∗ owns (c : Thread nD τ) A10 fullShare d10 ∗ ⌜j ≠ 0 → d9 = DSM x4 ∧ d10 = DSM x4⌝)
    ∗ (∃ d, owns (c : Thread nD τ) A11 fullShare d) ∗ (∃ d, owns (c : Thread nD τ) A12 fullShare d) ∗ (∃ d, owns (c : Thread nD τ) A13 fullShare d) ∗ (∃ d, owns (c : Thread nD τ) A14 fullShare d) ∗ (∃ d, owns (c : Thread nD τ) A15 fullShare d)
    ∗ (∃ r, prngReg c r) ∗ semVal ((c : Thread nD τ), SemLoc.dma 12) 0)

theorem N_pos : 0 < cfg0.N := by rw [show cfg0.N = 8 from N_0]; decide
/-- The first point of the grid. -/
def tz : Fin cfg0.N := ⟨0, N_pos⟩
/-- The identifiers of the documents, the same block at every point. -/
def segB (c : Dev nD) : S8x2048.Idx → Elt F .i32 := iblk m c 3 tz
theorem segB_eq (c : Dev nD) (t : Fin cfg0.N) : iblk m c 3 t = segB m c := rfl

/-- The proof data of the pipeline. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outF (grid0.coords t) (iblk m c 0 t) (iblk m c 1 t) (iblk m c 2 t) (iblk m c 3 t) (iblk m c 4 t) (iblk m c 5 t) (iblk m c 6 t)
  Φ j := inv c (segB m c) j.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem before0_0 (c : Dev nD) (t : Fin cfg0.N) (d) : (dats m 0 c).before 0 t d = iblk m c 0 t :=
  before0_0_of m (dats m 0 c) (A_eq m c 0) (after0_0 m c) t d
theorem after0_1 (c : Dev nD) (t : Fin cfg0.N) : (dats m 0 c).after 1 t = iblk m c 1 t := by dsimp only [dats]
theorem before0_1 (c : Dev nD) (t : Fin cfg0.N) (d) : (dats m 0 c).before 1 t d = iblk m c 1 t :=
  before0_1_of m (dats m 0 c) (A_eq m c 1) (after0_1 m c) t d
theorem after0_2 (c : Dev nD) (t : Fin cfg0.N) : (dats m 0 c).after 2 t = iblk m c 2 t := by dsimp only [dats]
theorem before0_2 (c : Dev nD) (t : Fin cfg0.N) (d) : (dats m 0 c).before 2 t d = iblk m c 2 t :=
  before0_2_of m (dats m 0 c) (A_eq m c 2) (after0_2 m c) t d
theorem after0_3 (c : Dev nD) (t : Fin cfg0.N) : (dats m 0 c).after 3 t = iblk m c 3 t := by dsimp only [dats]
theorem before0_3 (c : Dev nD) (t : Fin cfg0.N) (d) : (dats m 0 c).before 3 t d = iblk m c 3 t :=
  before0_3_of m (dats m 0 c) (A_eq m c 3) (after0_3 m c) t d
theorem after0_4 (c : Dev nD) (t : Fin cfg0.N) : (dats m 0 c).after 4 t = iblk m c 4 t := by dsimp only [dats]
theorem before0_4 (c : Dev nD) (t : Fin cfg0.N) (d) : (dats m 0 c).before 4 t d = iblk m c 4 t :=
  before0_4_of m (dats m 0 c) (A_eq m c 4) (after0_4 m c) t d
theorem after0_5 (c : Dev nD) (t : Fin cfg0.N) : (dats m 0 c).after 5 t = iblk m c 5 t := by dsimp only [dats]
theorem before0_5 (c : Dev nD) (t : Fin cfg0.N) (d) : (dats m 0 c).before 5 t d = iblk m c 5 t :=
  before0_5_of m (dats m 0 c) (A_eq m c 5) (after0_5 m c) t d
theorem after0_6 (c : Dev nD) (t : Fin cfg0.N) : (dats m 0 c).after 6 t = iblk m c 6 t := by dsimp only [dats]
theorem before0_6 (c : Dev nD) (t : Fin cfg0.N) (d) : (dats m 0 c).before 6 t d = iblk m c 6 t :=
  before0_6_of m (dats m 0 c) (A_eq m c 6) (after0_6 m c) t d
theorem after0_7 (c : Dev nD) (t : Fin cfg0.N) : (dats m 0 c).after 7 t = outF (grid0.coords t) (iblk m c 0 t) (iblk m c 1 t) (iblk m c 2 t) (iblk m c 3 t) (iblk m c 4 t) (iblk m c 5 t) (iblk m c 6 t) := by dsimp only [dats]

def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d)))
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t))

/-- At the first point the body takes its branch. -/
theorem first_of_zero (t : Fin cfg0.N) (h : t.val = 0) : Scalar.cmpi .ne (Scalar.extui (Scalar.cmpi .eq (BitVec.ofNat 32 (grid0.coords t 0).val) 0#32) : BitVec 32) 0#32 = 1#1 := by
  obtain rfl : t = tz := Fin.ext h
  decide +kernel

set_option maxHeartbeats 2000000 in
/-- The body at one point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.succ = inv c (segB m c) (t.val + 1) from rfl, show (dats m 0 c).Φ t.castSucc = inv c (segB m c) t.val from rfl]
  unfold Dat.owesAt Pipeline.owesWithin
  rw [show (dats m 0 c).owed t.castSucc = 0 from rfl, show (dats m 0 c).owed t.succ = 0 from rfl]
  simp only [before0_0, before0_1, before0_2, before0_3, before0_4, before0_5, before0_6, after0_0, after0_1, after0_2, after0_3, after0_4, after0_5, after0_6, after0_7]
  unfold inv owns
  iintro ⟨⟨⟨%d9, %d10, ⟨%f9, %e9, H9⟩, ⟨%f10, %e10, H10⟩, %hd⟩, ⟨%d11, %f11, -, H11⟩, ⟨%d12, %f12, -, H12⟩, ⟨%d13, %f13, -, H13⟩, ⟨%d14, %f14, -, H14⟩, ⟨%d15, %f15, -, H15⟩, Hg, Hq⟩, ⟨%W, -, HW⟩,
    ⟨%g0, %f0, %e0, H0⟩, ⟨%g1, %f1, %e1, H1⟩, ⟨%g2, %f2, %e2, H2⟩, ⟨%g3, %f3, %e3, H3⟩, ⟨%g4, %f4, %e4, H4⟩, ⟨%g5, %f5, %e5, H5⟩, ⟨%g6, %f6, %e6, H6⟩, ⟨%g7, %f7, -, H7⟩⟩
  by_cases h0 : Scalar.cmpi .ne (Scalar.extui (Scalar.cmpi .eq (BitVec.ofNat 32 (grid0.coords t 0).val) 0#32) : BitVec 32) 0#32 = 1#1
  · iapply wp_wand_r
    isplitl [H0 H1 H2 H3 H4 H5 H6 H7 H9 H10 H11 H12 H13 H14 H15 Hq HW]
    · iapply (body_first c (grid0.coords t) h0 f0 f1 f2 f3 f4 f5 f6 f9 f10 f7 f11 f12 f13 f14 f15 W)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [H14]; · iexact H14
      isplitl [H15]; · iexact H15
      isplitl [Hq]; · iexact Hq
      iexact HW
    iintro %_ ⟨H0, H1, H2, H3, H4, H5, H6, ⟨%o7, H7, %e7⟩, ⟨%k9, H9, %r9⟩, ⟨%k10, H10, %r10⟩, ⟨%k11, H11⟩, ⟨%k12, H12⟩, ⟨%k13, H13⟩, ⟨%k14, H14⟩, ⟨%k15, H15⟩, Hq, ⟨%W', HW⟩⟩
    isplitl [H9 H10 H11 H12 H13 H14 H15 Hg Hq]
    · isplitl [H9 H10]
      · iexists (DSM (segB m c)), (DSM (segB m c))
        isplitl [H9]
        · iexists _; isplitr
          swap; · iexact H9
          ipureintro; exact r9.trans (congrArg DSM e3)
        isplitl [H10]
        · iexists _; isplitr
          swap; · iexact H10
          ipureintro; exact r10.trans (congrArg DSM e3)
        ipureintro; exact fun _ => ⟨rfl, rfl⟩
      isplitl [H11]
      · iexists _, _; isplitr
        swap; · iexact H11
        ipureintro; rfl
      isplitl [H12]
      · iexists _, _; isplitr
        swap; · iexact H12
        ipureintro; rfl
      isplitl [H13]
      · iexists _, _; isplitr
        swap; · iexact H13
        ipureintro; rfl
      isplitl [H14]
      · iexists _, _; isplitr
        swap; · iexact H14
        ipureintro; rfl
      isplitl [H15]
      · iexists _, _; isplitr
        swap; · iexact H15
        ipureintro; rfl
      isplitl [Hg]; · iexact Hg
      iexact Hq
    isplitl [HW]
    · iexists W'; isplitr
      · ipureintro; exact fun _ _ => Or.inl trivial
      iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    iexists _; isplitr
    swap; · iexact H7
    ipureintro; exact e7.trans (by rw [e0, e1, e2, e3, e4, e5, e6])
  · have ht : t.val ≠ 0 := fun h => h0 (first_of_zero t h)
    have e9' := e9.trans (hd ht).1
    have e10' := e10.trans (hd ht).2
    iapply wp_wand_r
    isplitl [H0 H1 H2 H3 H4 H5 H6 H7 H9 H10 H11 H12 H13 H14 H15]
    · iapply (body_next c Set.univ (grid0.coords t) h0 f0 f1 f2 f3 f4 f5 f6 f9 f10 f7 f11 f12 f13 f14 f15 (segB m c) e9' e10')
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H9]; · iexact H9
      isplitl [H10]; · iexact H10
      isplitl [H11]; · iexact H11
      isplitl [H12]; · iexact H12
      isplitl [H13]; · iexact H13
      isplitl [H14]; · iexact H14
      iexact H15
    iintro %_ ⟨H0, H1, H2, H3, H4, H5, H6, ⟨%o7, H7, %e7⟩, H9, H10, ⟨%k11, H11⟩, ⟨%k12, H12⟩, ⟨%k13, H13⟩, ⟨%k14, H14⟩, ⟨%k15, H15⟩⟩
    isplitl [H9 H10 H11 H12 H13 H14 H15 Hg Hq]
    · isplitl [H9 H10]
      · iexists (DSM (segB m c)), (DSM (segB m c))
        isplitl [H9]
        · iexists _; isplitr
          swap; · iexact H9
          ipureintro; exact e9'
        isplitl [H10]
        · iexists _; isplitr
          swap; · iexact H10
          ipureintro; exact e10'
        ipureintro; exact fun _ => ⟨rfl, rfl⟩
      isplitl [H11]
      · iexists _, _; isplitr
        swap; · iexact H11
        ipureintro; rfl
      isplitl [H12]
      · iexists _, _; isplitr
        swap; · iexact H12
        ipureintro; rfl
      isplitl [H13]
      · iexists _, _; isplitr
        swap; · iexact H13
        ipureintro; rfl
      isplitl [H14]
      · iexists _, _; isplitr
        swap; · iexact H14
        ipureintro; rfl
      isplitl [H15]
      · iexists _, _; isplitr
        swap; · iexact H15
        ipureintro; rfl
      isplitl [Hg]; · iexact Hg
      iexact Hq
    isplitl [HW]
    · iexists W; isplitr
      · ipureintro; exact fun _ _ => Or.inl trivial
      iexact HW
    isplitl [H0]
    · iexists _; isplitr
      swap; · iexact H0
      ipureintro; exact e0
    isplitl [H1]
    · iexists _; isplitr
      swap; · iexact H1
      ipureintro; exact e1
    isplitl [H2]
    · iexists _; isplitr
      swap; · iexact H2
      ipureintro; exact e2
    isplitl [H3]
    · iexists _; isplitr
      swap; · iexact H3
      ipureintro; exact e3
    isplitl [H4]
    · iexists _; isplitr
      swap; · iexact H4
      ipureintro; exact e4
    isplitl [H5]
    · iexists _; isplitr
      swap; · iexact H5
      ipureintro; exact e5
    isplitl [H6]
    · iexists _; isplitr
      swap; · iexact H6
      ipureintro; exact e6
    iexists _; isplitr
    swap; · iexact H7
    ipureintro; exact e7.trans (by rw [e0, e1, e2, e4, e5, e6]; rfl)

theorem defs₀_row (t : Fin cfg0.N) : defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

theorem hin (c : Dev nD) : (Pipeline.ΦD osem0 spec0 H0 (V m) c : sProp 𝕄) ⊢ (dats m 0 c).Φ 0 := by
  rw [PhiD0_eq, show (dats m 0 c).Φ 0 = inv c (segB m c) 0 from rfl]
  unfold inv
  iintro ⟨⟨⟨%d9, H9⟩, H11, H12, H13, H14, H15, ⟨%d10, H10⟩⟩, Hg, Hq, -⟩
  isplitl [H9 H10]
  · iexists d9, d10
    isplitl [H9]; · iexact H9
    isplitl [H10]; · iexact H10
    ipureintro; exact fun h => absurd rfl h
  isplitl [H11]; · iexact H11
  isplitl [H12]; · iexact H12
  isplitl [H13]; · iexact H13
  isplitl [H14]; · iexact H14
  isplitl [H15]; · iexact H15
  isplitl [Hg]; · iexact Hg
  iexact Hq

theorem hout (c : Dev nD) : (dats m 0 c).Φ (Fin.last cfg0.N) ⊢ (Pipeline.ΦD osem0 spec0 H0 (V m) c : sProp 𝕄) := by
  rw [PhiD0_eq, show (dats m 0 c).Φ (Fin.last cfg0.N) = inv c (segB m c) cfg0.N from rfl]
  unfold inv
  iintro ⟨⟨%d9, %d10, H9, H10, -⟩, H11, H12, H13, H14, H15, Hg, Hq⟩
  isplitl [H9 H10 H11 H12 H13 H14 H15]
  · isplitl [H9]; · iexists _; iexact H9
    isplitl [H11]; · iexact H11
    isplitl [H12]; · iexact H12
    isplitl [H13]; · iexact H13
    isplitl [H14]; · iexact H14
    isplitl [H15]; · iexact H15
    iexists _; iexact H10
  isplitl [Hg]; · iexact Hg
  isplitl [Hq]; · iexact Hq
  iempintro

set_option backward.isDefEq.respectTransparency.types false in
/-- The run of the whole program: every window's array as the pipeline leaves it, every counter at zero. -/
theorem run_main : θ_run defs (onTc (τ := τ) (main (F := F))) (s₀ m ρ) (fun r => Pipeline.FramePost cfgs (dats m) 0 (V m) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := hin m) (hout := hout m)

/-- The frame: the program ends, its arguments are as they were and every counter is at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h => ⟨fun c => ⟨((h.1 c).1 4).trans (((dats m 0 c).arrAt_in 4 rfl _).trans (A_eq m c 4)),
      ((h.1 c).1 5).trans (((dats m 0 c).arrAt_in 5 rfl _).trans (A_eq m c 5)),
      ((h.1 c).1 6).trans (((dats m 0 c).arrAt_in 6 rfl _).trans (A_eq m c 6)),
      ((h.1 c).1 0).trans (((dats m 0 c).arrAt_in 0 rfl _).trans (A_eq m c 0)),
      ((h.1 c).1 1).trans (((dats m 0 c).arrAt_in 1 rfl _).trans (A_eq m c 1)),
      ((h.1 c).1 2).trans (((dats m 0 c).arrAt_in 2 rfl _).trans (A_eq m c 2)),
      ((h.1 c).1 3).trans (((dats m 0 c).arrAt_in 3 rfl _).trans (A_eq m c 3))⟩, h.2⟩) (run_main m ρ)

end Cert.Kernel.Hand
-- ==== Proof.Frames.lean ====
/- The frames of the three programs and the constants the kernel names. -/
module

public import proofs.«01_k».proof.Defs
public import proofs.«01_k».proof.Proof.FrameI
public import proofs.«01_k».proof.Proof.FrameB
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import Idealize.ShloMosaic.Adequacy
public import Idealize.ShloMosaic.Init

@[expose] public section

noncomputable section

namespace Cert.Hand

open Idealize.ShloMosaic Idealize.SL.Sem

/-- The kernel as printed ends, leaves its arguments as they were and every counter at zero. -/
theorem frame_p : Cert.quiescent_Kernel (hKernel := Cert.Kernel.Gen.facts) := fun m g _ => Cert.Kernel.Hand.frame m g

/-- The same of the kernel over the extended reals. -/
theorem frame_pi : Cert.quiescent_KernelIdeal (hKernelIdeal := Cert.KernelIdeal.Gen.facts) := fun m g _ => Cert.KernelIdeal.Hand.frame m g

/-- The same of the reference over the extended reals. -/
theorem frame_ri : Cert.quiescent_ReferenceIdeal (hReferenceIdeal := Cert.ReferenceIdeal.Gen.facts) := fun m g _ => Cert.ReferenceIdeal.Gen.frame m g

/-- The two constants the kernel names denote what the table of names says. -/
theorem preserves : Cert.preserves_Kernel_KernelIdeal :=
  ⟨IdealRules.named_const.statement Cert.KernelIdeal.κ "mask" .f32 0xFF61B1E6#32 ⊥ rfl,
    IdealRules.named_const.statement Cert.KernelIdeal.κ "score_log2e" .f32 0x3E38AA3B#32 (((8 * (Real.log 2))⁻¹ : ℝ) : EReal) rfl⟩

end Cert.Hand

end
-- ==== Proof.Soft.lean ====
/- The online softmax of one row over the extended reals, block by block, against the softmax written out. -/
module

public import Idealize.ShloMosaic.PureOps.Ideal

@[expose] public section

noncomputable section

namespace Cert.Soft

open Idealize.ShloMosaic

/-- The factor from natural to binary exponents. -/
def lc : ℝ := (Real.log 2)⁻¹

theorem lc_pos : 0 < lc := inv_pos.2 (Real.log_pos (by norm_num))

theorem exp2_mul_lc (x : EReal) : Ideal.exp2 (x * (lc : EReal)) = Ideal.exp x := by
  induction x using EReal.rec with
  | bot => rw [EReal.bot_mul_coe_of_pos lc_pos]; rfl
  | top => rw [EReal.top_mul_coe_of_pos lc_pos]; rfl
  | coe r =>
    rw [← EReal.coe_mul, Ideal.exp2_coe, Ideal.exp_coe]
    congr 1
    change (2 : ℝ) ^ (r * lc) = _
    rw [Real.rpow_def_of_pos (by norm_num)]
    congr 1
    have : Real.log 2 ≠ 0 := (Real.log_pos (by norm_num)).ne'
    unfold lc; field_simp

theorem exp2_nonneg (x : EReal) : 0 ≤ Ideal.exp2 x := by
  induction x using EReal.rec with
  | bot => exact le_refl _
  | top => exact le_top
  | coe r => rw [Ideal.exp2_coe]; exact EReal.coe_nonneg.2 (Real.rpow_nonneg (by norm_num) r)

theorem exp_nonneg (x : EReal) : 0 ≤ Ideal.exp x := by rw [← exp2_mul_lc]; exact exp2_nonneg _

theorem exp2_ne_top {x y : EReal} (h : x ≤ y) : Ideal.exp2 (x - y) ≠ ⊤ := by
  have h' : x - y ≠ ⊤ := by
    induction x using EReal.rec with
    | bot => simp
    | top => rw [top_le_iff] at h; subst h; simp
    | coe r =>
      induction y using EReal.rec with
      | bot => simp at h
      | top => simp
      | coe s => rw [← EReal.coe_sub]; exact EReal.coe_ne_top _
  revert h'
  generalize x - y = z
  induction z using EReal.rec with
  | bot => intro _; simp
  | top => intro h; exact absurd rfl h
  | coe r => intro _; rw [Ideal.exp2_coe]; exact EReal.coe_ne_top _

/-- Moving a weight to a larger maximum. -/
theorem exp2_shift {t M M' : EReal} (h : t ≤ M) (h' : M ≤ M') : Ideal.exp2 (t - M) * Ideal.exp2 (M - M') = Ideal.exp2 (t - M') := by
  induction M' using EReal.rec with
  | bot => rw [le_bot_iff] at h'; subst h'; rw [le_bot_iff] at h; subst h; simp
  | top => simp
  | coe c =>
    induction M using EReal.rec with
    | bot => rw [le_bot_iff] at h; subst h; simp
    | top => simp at h'
    | coe b =>
      induction t using EReal.rec with
      | bot => simp
      | top => simp at h
      | coe a =>
        rw [← EReal.coe_sub, ← EReal.coe_sub, ← EReal.coe_sub, Ideal.exp2_coe, Ideal.exp2_coe, Ideal.exp2_coe, ← EReal.coe_mul]
        congr 1
        change (2 : ℝ) ^ (a - b) * (2 : ℝ) ^ (b - c) = (2 : ℝ) ^ (a - c)
        rw [← Real.rpow_add (by norm_num)]; congr 1; ring

theorem sum_mul_nn {ι : Type} (s : Finset ι) (f : ι → EReal) {a : EReal} (h : 0 ≤ a) (ha : a ≠ ⊤) : (∑ i ∈ s, f i) * a = ∑ i ∈ s, f i * a := by
  classical
  induction s using Finset.induction_on with
  | empty => simp
  | insert i s hi ih => rw [Finset.sum_insert hi, Finset.sum_insert hi, EReal.right_distrib_of_nonneg_of_ne_top h ha, ih]

/-- A sum of weighted values moved to a larger maximum. -/
theorem sum_shift {ι : Type} (s : Finset ι) (f t : ι → EReal) {M M' : EReal} (h : ∀ i ∈ s, t i ≤ M) (h' : M ≤ M') :
    (∑ i ∈ s, f i * Ideal.exp2 (t i - M)) * Ideal.exp2 (M - M') = ∑ i ∈ s, f i * Ideal.exp2 (t i - M') := by
  rw [sum_mul_nn s _ (exp2_nonneg _) (exp2_ne_top h')]
  exact Finset.sum_congr rfl fun i hi => by rw [mul_assoc, exp2_shift (h i hi) h']

theorem inv_ne_top (x : EReal) : x⁻¹ ≠ ⊤ := by
  induction x using EReal.rec with
  | bot => simp
  | top => simp
  | coe r => rw [← EReal.coe_inv]; exact EReal.coe_ne_top _

/-- The scaled division: what the row is divided by before or after the sum. -/
theorem div_sum {ι : Type} (s : Finset ι) (v w : ι → EReal) (hw : ∀ i ∈ s, 0 ≤ w i) (x : EReal) :
    (∑ i ∈ s, v i * w i) * Ideal.div x (∑ i ∈ s, w i) = (∑ i ∈ s, v i * (w i * Ideal.div 1 (∑ i ∈ s, w i))) * x := by
  by_cases h0 : ∑ i ∈ s, w i = 0
  · have hz := (Finset.sum_eq_zero_iff_of_nonneg hw).1 h0
    have e1 : ∑ i ∈ s, v i * w i = 0 := Finset.sum_eq_zero fun i hi => by rw [hz i hi, mul_zero]
    have e2 : ∑ i ∈ s, v i * (w i * Ideal.div 1 (∑ i ∈ s, w i)) = 0 := Finset.sum_eq_zero fun i hi => by rw [hz i hi, zero_mul, mul_zero]
    rw [e1, e2, zero_mul, zero_mul]
  · unfold Ideal.div
    rw [if_neg h0, if_neg h0, one_mul]
    have hn : 0 ≤ (∑ i ∈ s, w i)⁻¹ := EReal.inv_nonneg_of_nonneg (Finset.sum_nonneg hw)
    have : ∀ i, v i * (w i * (∑ i ∈ s, w i)⁻¹) = v i * w i * (∑ i ∈ s, w i)⁻¹ := fun i => (mul_assoc _ _ _).symm
    simp only [this]
    rw [← sum_mul_nn s (fun i => v i * w i) hn (inv_ne_top _), mul_assoc, mul_comm x]

theorem sub_mul_lc (x y : EReal) : (x - y) * (lc : EReal) = x * (lc : EReal) - y * (lc : EReal) := by
  rw [sub_eq_add_neg, EReal.right_distrib_of_nonneg_of_ne_top (EReal.coe_nonneg.2 lc_pos.le) (EReal.coe_ne_top _), EReal.neg_mul, ← sub_eq_add_neg]

theorem sup_mul_lc {ι : Type} (s : Finset ι) (f : ι → EReal) : s.sup (fun i => f i * (lc : EReal)) = s.sup f * (lc : EReal) := by
  have hm : Monotone fun x : EReal => x * (lc : EReal) := fun x y h => mul_le_mul_of_nonneg_right h (EReal.coe_nonneg.2 lc_pos.le)
  exact (Finset.comp_sup_eq_sup_comp (fun x : EReal => x * (lc : EReal)) (fun x y => hm.map_sup x y) (EReal.bot_mul_coe_of_pos lc_pos)).symm

/-- What the recurrences reach: the maximum, the sums of the weights, the sum of the weighted values, of the blocks seen. -/
theorem online {D : Type} (t : ℕ → Fin 128 → EReal) (v : D → ℕ → Fin 128 → EReal) (m : ℕ → EReal) (l : ℕ → Fin 8 → EReal) (a : ℕ → D → EReal)
    (ix : Fin 16 → Fin 8 → Fin 128) (n : ℕ) (hm0 : m 0 = ⊥) (hl0 : ∀ u, l 0 u = 0) (ha0 : ∀ d, a 0 d = 0)
    (hm : ∀ i < n, m (i + 1) = max (m i) (Finset.univ.sup (t i)))
    (hl : ∀ i < n, ∀ u, l (i + 1) u = l i u * Ideal.exp2 (m i - m (i + 1)) + ∑ x, Ideal.exp2 (t i (ix x u) - m (i + 1)))
    (ha : ∀ i < n, ∀ d, a (i + 1) d = a i d * Ideal.exp2 (m i - m (i + 1)) + ∑ x, v d i x * Ideal.exp2 (t i x - m (i + 1))) :
    m n = (Finset.range n).sup (fun i => Finset.univ.sup (t i))
      ∧ (∀ u, l n u = ∑ i ∈ Finset.range n, ∑ x, Ideal.exp2 (t i (ix x u) - m n))
      ∧ (∀ d, a n d = ∑ i ∈ Finset.range n, ∑ x, v d i x * Ideal.exp2 (t i x - m n)) := by
  induction n with
  | zero => exact ⟨by simpa using hm0, fun u => by simpa using hl0 u, fun d => by simpa using ha0 d⟩
  | succ n ih =>
    obtain ⟨i1, i2, i3⟩ := ih (fun i hi => hm i (by omega)) (fun i hi => hl i (by omega)) (fun i hi => ha i (by omega))
    have e := hm n (by omega)
    have hle : m n ≤ m (n + 1) := by rw [e]; exact le_max_left _ _
    have hlt : ∀ i ∈ Finset.range n, ∀ x, t i x ≤ m n := fun i hi x => by
      rw [i1]; exact (Finset.le_sup (f := t i) (Finset.mem_univ x)).trans (Finset.le_sup (f := fun i => Finset.univ.sup (t i)) hi)
    refine ⟨?_, fun u => ?_, fun d => ?_⟩
    · rw [e, i1, Finset.range_add_one, Finset.sup_insert, sup_comm]
    · rw [hl n (by omega) u, i2 u, Finset.sum_range_succ]
      congr 1
      rw [← Finset.sum_product', ← Finset.sum_product']
      have := sum_shift (Finset.range n ×ˢ (Finset.univ : Finset (Fin 16))) (fun _ => 1) (fun p => t p.1 (ix p.2 u)) (M := m n) (M' := m (n + 1))
        (fun p hp => hlt p.1 (Finset.mem_product.1 hp).1 _) hle
      simpa only [one_mul] using this
    · rw [ha n (by omega) d, i3 d, Finset.sum_range_succ]
      congr 1
      rw [← Finset.sum_product', ← Finset.sum_product']
      exact sum_shift (Finset.range n ×ˢ (Finset.univ : Finset (Fin 128))) (fun p => v d p.1 p.2) (fun p => t p.1 p.2) (M := m n) (M' := m (n + 1))
        (fun p hp => hlt p.1 (Finset.mem_product.1 hp).1 _) hle

/-- The key at a place of a block of keys. -/
def ky (b : ℕ) (x : Fin 128) : Fin 2048 := ⟨(128 * b + x.val) % 2048, Nat.mod_lt _ (by decide)⟩

theorem sum_blocks (G : ℕ → EReal) (b : ℕ) : ∑ k ∈ Finset.range (128 * b), G k = ∑ i ∈ Finset.range b, ∑ x : Fin 128, G (128 * i + x.val) := by
  induction b with
  | zero => simp
  | succ b ih => rw [Nat.mul_succ, Finset.sum_range_add, ih, Finset.sum_range_succ (n := b), Finset.sum_range (fun x => G (128 * b + x))]

theorem sum_octets (G : Fin 128 → EReal) (ix : Fin 16 → Fin 8 → Fin 128) (hix : ∀ x u, (ix x u).val = 8 * x.val + u.val) : ∑ u, ∑ x, G (ix x u) = ∑ k, G k := by
  rw [Finset.sum_comm, ← Finset.sum_product', Finset.univ_product_univ]
  refine Fintype.sum_bijective (fun p : Fin 16 × Fin 8 => ix p.1 p.2) ⟨fun p q h => ?_, fun k => ?_⟩ _ _ fun p => rfl
  · have h' := congrArg Fin.val h
    simp only [hix] at h'
    have := p.2.isLt; have := q.2.isLt
    exact Prod.ext (Fin.ext (by omega)) (Fin.ext (by omega))
  · have := k.isLt
    exact ⟨(⟨k.val / 8, by omega⟩, ⟨k.val % 8, by omega⟩), Fin.ext (by rw [hix]; change 8 * (k.val / 8) + k.val % 8 = _; omega)⟩

/-- A sum over all the keys, of which only some blocks count. -/
theorem sum_keys (G : Fin 2048 → EReal) (j0 n : ℕ) (hn : j0 + n ≤ 16) (h0 : ∀ k : Fin 2048, k.val / 128 < j0 ∨ j0 + n ≤ k.val / 128 → G k = 0) :
    ∑ k, G k = ∑ i ∈ Finset.range n, ∑ x, G (ky (j0 + i) x) := by
  have e1 : ∑ k, G k = ∑ k ∈ Finset.range (128 * 16), (fun k : ℕ => G ⟨k % 2048, Nat.mod_lt _ (by decide)⟩) k := by
    rw [← Fin.sum_univ_eq_sum_range]
    exact Finset.sum_congr rfl fun k _ => congrArg G (Fin.ext (Nat.mod_eq_of_lt k.isLt).symm)
  rw [e1, sum_blocks]
  obtain ⟨r, hr⟩ : ∃ r, 16 = j0 + n + r := ⟨16 - (j0 + n), by omega⟩
  rw [hr, Finset.sum_range_add, Finset.sum_range_add]
  have z1 : ∑ i ∈ Finset.range j0, ∑ x : Fin 128, G ⟨(128 * i + x.val) % 2048, Nat.mod_lt _ (by decide)⟩ = 0 :=
    Finset.sum_eq_zero fun i hi => Finset.sum_eq_zero fun x _ => h0 _ (.inl (by have := Finset.mem_range.1 hi; have := x.isLt; change (128 * i + x.val) % 2048 / 128 < j0; omega))
  have z2 : ∑ i ∈ Finset.range r, ∑ x : Fin 128, G ⟨(128 * (j0 + n + i) + x.val) % 2048, Nat.mod_lt _ (by decide)⟩ = 0 :=
    Finset.sum_eq_zero fun i hi => Finset.sum_eq_zero fun x _ => h0 _ (.inr (by have := Finset.mem_range.1 hi; have := x.isLt; change j0 + n ≤ (128 * (j0 + n + i) + x.val) % 2048 / 128; omega))
  rw [z1, z2, zero_add, add_zero]
  rfl

theorem sup_keys (sc : Fin 2048 → EReal) (j0 n : ℕ) (hn : j0 + n ≤ 16) (h0 : ∀ k : Fin 2048, k.val / 128 < j0 ∨ j0 + n ≤ k.val / 128 → sc k = ⊥) :
    (Finset.range n).sup (fun i => Finset.univ.sup fun x => sc (ky (j0 + i) x)) = Finset.univ.sup sc := by
  apply le_antisymm
  · exact Finset.sup_le fun i _ => Finset.sup_le fun x _ => Finset.le_sup (Finset.mem_univ _)
  · refine Finset.sup_le fun k _ => ?_
    by_cases h : k.val / 128 < j0 ∨ j0 + n ≤ k.val / 128
    · rw [h0 k h]; exact bot_le
    · have e : k = ky (j0 + (k.val / 128 - j0)) ⟨k.val % 128, Nat.mod_lt _ (by decide)⟩ := Fin.ext (by
        have := k.isLt
        change k.val = (128 * (j0 + (k.val / 128 - j0)) + k.val % 128) % 2048; omega)
      refine le_trans ?_ (Finset.le_sup (f := fun i => Finset.univ.sup fun x => sc (ky (j0 + i) x)) (Finset.mem_range.2 (by omega : k.val / 128 - j0 < n)))
      conv_lhs => rw [e]
      exact Finset.le_sup (f := fun x => sc (ky (j0 + (k.val / 128 - j0)) x)) (Finset.mem_univ _)

/-- One row: the recurrences over the blocks that count, divided at the end, are the softmax-weighted sum over all the keys. -/
theorem row {D : Type} (sc : Fin 2048 → EReal) (v : D → Fin 2048 → EReal) (x : EReal) (m : ℕ → EReal) (l : ℕ → Fin 8 → EReal) (a : ℕ → D → EReal)
    (ix : Fin 16 → Fin 8 → Fin 128) (hix : ∀ x u, (ix x u).val = 8 * x.val + u.val) (j0 n : ℕ) (hn : j0 + n ≤ 16)
    (h0 : ∀ k : Fin 2048, k.val / 128 < j0 ∨ j0 + n ≤ k.val / 128 → sc k = ⊥)
    (hm0 : m 0 = ⊥) (hl0 : ∀ u, l 0 u = 0) (ha0 : ∀ d, a 0 d = 0)
    (hm : ∀ i < n, m (i + 1) = max (m i) (Finset.univ.sup fun x => sc (ky (j0 + i) x) * (lc : EReal)))
    (hl : ∀ i < n, ∀ u, l (i + 1) u = l i u * Ideal.exp2 (m i - m (i + 1)) + ∑ x, Ideal.exp2 (sc (ky (j0 + i) (ix x u)) * (lc : EReal) - m (i + 1)))
    (ha : ∀ i < n, ∀ d, a (i + 1) d = a i d * Ideal.exp2 (m i - m (i + 1)) + ∑ x, v d (ky (j0 + i) x) * Ideal.exp2 (sc (ky (j0 + i) x) * (lc : EReal) - m (i + 1))) (d : D) :
    a n d * Ideal.div x (∑ u, l n u)
      = (∑ k, v d k * (Ideal.exp (sc k - Finset.univ.sup sc) * Ideal.div 1 (∑ k, Ideal.exp (sc k - Finset.univ.sup sc)))) * x := by
  obtain ⟨i1, i2, i3⟩ := online (fun i x => sc (ky (j0 + i) x) * (lc : EReal)) (fun d i x => v d (ky (j0 + i) x)) m l a ix n hm0 hl0 ha0 hm hl ha
  have eM : m n = Finset.univ.sup sc * (lc : EReal) := by
    rw [i1, ← sup_keys sc j0 n hn h0, ← sup_mul_lc]
    exact Finset.sup_congr rfl fun i _ => sup_mul_lc _ _
  have ew : ∀ k, Ideal.exp2 (sc k * (lc : EReal) - m n) = Ideal.exp (sc k - Finset.univ.sup sc) := fun k => by
    rw [eM, ← sub_mul_lc, exp2_mul_lc]
  have hz : ∀ k : Fin 2048, k.val / 128 < j0 ∨ j0 + n ≤ k.val / 128 → Ideal.exp (sc k - Finset.univ.sup sc) = 0 := fun k hk => by
    rw [h0 k hk, EReal.bot_sub]; rfl
  have eL : ∑ u, l n u = ∑ k, Ideal.exp (sc k - Finset.univ.sup sc) := by
    rw [sum_keys _ j0 n hn hz, Finset.sum_congr rfl fun u _ => i2 u, Finset.sum_comm]
    refine Finset.sum_congr rfl fun i _ => ?_
    rw [sum_octets (fun x => Ideal.exp2 (sc (ky (j0 + i) x) * (lc : EReal) - m n)) ix hix]
    exact Finset.sum_congr rfl fun k _ => ew _
  have eA : a n d = ∑ k, v d k * Ideal.exp (sc k - Finset.univ.sup sc) := by
    rw [sum_keys _ j0 n hn (fun k hk => by rw [hz k hk, mul_zero]), i3 d]
    exact Finset.sum_congr rfl fun i _ => Finset.sum_congr rfl fun k _ => by rw [ew]
  rw [eA, eL]
  exact div_sum _ _ _ (fun i _ => exp_nonneg _) x

end Cert.Soft

end
-- ==== Proof.Consts.lean ====
/- The float constants of the programs, as the extended reals their patterns denote. -/
module

public import Idealize.ShloMosaic.PureOps.Ideal

@[expose] public section

noncomputable section

namespace Cert.Consts

open Idealize.ShloMosaic

/-- The pattern of minus infinity denotes the least extended real. -/
theorem ofBits_ninf : Ideal.ofBits .f32 0xFF800000#32 = ⊥ := by simp [Ideal.ofBits, Ideal.ieee]

/-- The zero pattern denotes zero. -/
theorem ofBits_zero : Ideal.ofBits .f32 0x00000000#32 = 0 := by simp [Ideal.ofBits, Ideal.ieee]

/-- `1.0` denotes one. -/
theorem ofBits_one : Ideal.ofBits .f32 0x3F800000#32 = 1 := by simp [Ideal.ofBits, Ideal.ieee, -EReal.coe_mul]; norm_num

/-- The scale of the scores, one over the root of the head's size, denotes an eighth. -/
theorem ofBits_eighth : Ideal.ofBits .f32 0x3E000000#32 = ((1 / 8 : ℝ) : EReal) := by
  simp [Ideal.ofBits, Ideal.ieee, -EReal.coe_mul]; norm_num

end Cert.Consts

end
-- ==== Proof.RefVal.lean ====
module

public import proofs.«01_k».proof.Proof.Gen.ReferenceIdeal
public import proofs.«01_k».proof.Proof.Gen.ReferenceIdeal.Frame
public import proofs.«01_k».proof.Proof.Soft
public import proofs.«01_k».proof.Proof.Consts
public import Idealize.ShloMosaic.Lib.Pipeline.FrameBody
public import Idealize.ShloMosaic.Lib.Pointwise
public import Idealize.ShloMosaic.Lib.Pipeline.ValueKit
public import Idealize.ShloMosaic.Lib.StableHlo.ReadAt

@[expose] public section

set_option maxRecDepth 16384

noncomputable section

namespace Cert.ReferenceIdeal.Hand

open Cert.ReferenceIdeal Cert.ReferenceIdeal.Gen
open Idealize.ShloMosaic Idealize.ShloMosaic.TcCoe Idealize.ShloMosaic.Tactic
open Idealize.SL Idealize.SL.Sem

variable (m : (ℓ : Loc nD τ sig) → Buf (Elt Ideal) ℓ)

/-- The softmax-weighted sum of values, for one query's scores. -/
def att (sc v : Fin 2048 → EReal) : EReal :=
  ∑ k, v k * (Ideal.exp (sc k - Finset.univ.sup sc) * Ideal.div 1 (∑ k, Ideal.exp (sc k - Finset.univ.sup sc)))

/-- One scaled score, with nothing masked. -/
abbrev raw (x : S8x2048x1024.Idx → EReal) (ky : S8x2048x256.Idx → EReal) (qs : S16.Idx → EReal) (ks : S4.Idx → EReal) (b : Fin 8) (kv g : Fin 4) (q k : Fin 2048) : EReal :=
  (∑ d : Fin 64, ky (ix3 b k ⟨64 * kv.val + d.val, by omega⟩) * x (ix3 b q ⟨64 * (4 * kv.val + g.val) + d.val, by omega⟩)) * (qs (ix1 ⟨4 * kv.val + g.val, by omega⟩) * ks (ix1 kv) * ((1 / 8 : ℝ) : EReal))

/-- One score under the mask: the keys up to the query, of the query's document. -/
abbrev scr (x : S8x2048x1024.Idx → EReal) (ky : S8x2048x256.Idx → EReal) (qs : S16.Idx → EReal) (ks : S4.Idx → EReal) (sg : S8x2048.Idx → BitVec 32) (b : Fin 8) (kv g : Fin 4) (q k : Fin 2048) : EReal :=
  if k.val ≤ q.val ∧ sg (ix2 b k) = sg (ix2 b q) then raw x ky qs ks b kv g q k else ⊥

/-- One element of the result. -/
def res (x : S8x2048x1024.Idx → EReal) (ky vl : S8x2048x256.Idx → EReal) (qs : S16.Idx → EReal) (ks vs : S4.Idx → EReal) (sg : S8x2048.Idx → BitVec 32) (b : Fin 8) (kv g : Fin 4) (d : Fin 64) (q : Fin 2048) : EReal :=
  att (scr x ky qs ks sg b kv g q) (fun k => vl (ix3 b k ⟨64 * kv.val + d.val, by omega⟩)) * vs (ix1 kv)

/-- The scaled score of a query and a key of one head. -/
theorem val14 (V : Valuation τ sig (Elt Ideal)) (b : Fin 8) (kv g : Fin 4) (q k : Fin 2048) :
    StableHlo.after hostOps1 V (Proc.devRef .tc main_v14) (ix5 b kv g q k)
      = raw (V (Proc.devRef .tc main_v0_0)) (V (Proc.devRef .tc main_v0_1)) (V (Proc.devRef .tc main_arg3)) (V (Proc.devRef .tc main_arg4)) b kv g q k := by
  after_reads_at
  rw [Cert.Consts.ofBits_eighth]
  have e1 : (⟨kv.val * 4 + g.val, by omega⟩ : Fin 16) = ⟨4 * kv.val + g.val, by omega⟩ := Fin.ext (by change kv.val * 4 + g.val = 4 * kv.val + g.val; omega)
  refine congr (congrArg HMul.hMul (Finset.sum_congr rfl fun d _ => ?_)) (by rw [e1])
  have e2 : (⟨kv.val * 64 + d.val, by omega⟩ : Fin 256) = ⟨64 * kv.val + d.val, by omega⟩ := Fin.ext (by change kv.val * 64 + d.val = 64 * kv.val + d.val; omega)
  have e3 : (⟨kv.val * 256 + g.val * 64 + d.val, by omega⟩ : Fin 1024) = ⟨64 * (4 * kv.val + g.val) + d.val, by omega⟩ := Fin.ext (by change kv.val * 256 + g.val * 64 + d.val = 64 * (4 * kv.val + g.val) + d.val; omega)
  rw [e2, e3]

theorem val3 (V : Valuation τ sig (Elt Ideal)) (b : Fin 8) (k : Fin 2048) (kv : Fin 4) (d : Fin 64) :
    StableHlo.after hostOps1 V (Proc.devRef .tc main_v3) (ix4 b k kv d) = V (Proc.devRef .tc main_v0_2) (ix3 b k ⟨64 * kv.val + d.val, by omega⟩) := by
  have e2 : (⟨64 * kv.val + d.val, by omega⟩ : Fin 256) = ⟨kv.val * 64 + d.val, by omega⟩ := Fin.ext (by change 64 * kv.val + d.val = kv.val * 64 + d.val; omega)
  rw [e2]
  after_reads_at

theorem val28 (V : Valuation τ sig (Elt Ideal)) (b : Fin 8) (q k : Fin 2048) :
    StableHlo.after hostOps1 V (Proc.devRef .tc main_v28) (ix5 b 0 0 q k) = BitVec.ofBool (decide (k.val ≤ q.val) && decide (V (Proc.devRef .tc main_arg6) (ix2 b k) = V (Proc.devRef .tc main_arg6) (ix2 b q))) := by
  after_reads_at
  rw [WordCmp.cmpi_sle_eq, WordCmp.toInt_ofNat_of_lt (by omega), WordCmp.toInt_ofNat_of_lt (by omega)]
  refine (congrArg (IntOp.andi _) (?_ : _ = BitVec.ofBool (decide (V (Proc.devRef .tc main_arg6) (ix2 b k) = V (Proc.devRef .tc main_arg6) (ix2 b q))))).trans ?_
  · rfl
  · rw [WordCmp.andi_ofBool]
    congr 2
    exact decide_eq_decide.2 (by omega)

theorem val0 (V : Valuation τ sig (Elt Ideal)) : (StableHlo.after hostOps1 V (Proc.devRef .tc main_cst_0) ix0) = (⊥ : EReal) := by
  refine Eq.trans ?_ Cert.Consts.ofBits_ninf
  after_reads_at

theorem val5 (V : Valuation τ sig (Elt Ideal)) : StableHlo.after hostOps1_1 (StableHlo.after hostOps1 V) (Proc.devRef .tc main_arg5) = V (Proc.devRef .tc main_arg5) := by
  after_reads_simp

theorem val3' (V : Valuation τ sig (Elt Ideal)) : StableHlo.after hostOps1_1 V (Proc.devRef .tc main_v3) = V (Proc.devRef .tc main_v3) := by
  after_reads_simp

theorem val29 (V : Valuation τ sig (Elt Ideal)) (b : Fin 8) (kv g : Fin 4) (q k : Fin 2048) :
    StableHlo.after hostOps1_1 V (Proc.devRef .tc main_v29) (ix5 b kv g q k)
      = Scalar.select (V (Proc.devRef .tc main_v28) (ix5 b 0 0 q k)) (V (Proc.devRef .tc main_v14) (ix5 b kv g q k)) (V (Proc.devRef .tc main_cst_0) ix0) := by
  after_reads_at
  rfl

theorem val29' (V : Valuation τ sig (Elt Ideal)) (b : Fin 8) (kv g : Fin 4) (q k : Fin 2048) :
    (StableHlo.after hostOps1_1 (StableHlo.after hostOps1 V) (Proc.devRef .tc main_v29) (ix5 b kv g q k) : EReal)
      = scr (V (Proc.devRef .tc main_v0_0)) (V (Proc.devRef .tc main_v0_1)) (V (Proc.devRef .tc main_arg3)) (V (Proc.devRef .tc main_arg4)) (V (Proc.devRef .tc main_arg6)) b kv g q k := by
  rw [val29, val28, val14, val0]
  unfold scr
  by_cases h : k.val ≤ q.val <;> by_cases h' : (V (Proc.devRef .tc main_arg6) (ix2 b k) = V (Proc.devRef .tc main_arg6) (ix2 b q)) <;> simp [h, h', Scalar.select]

theorem fold_max {N : ℕ} (f : Fin N → EReal) : Finset.fold max (Ideal.ofBits .f32 0xFF800000#32) f Finset.univ = Finset.univ.sup f := by
  rw [Cert.Consts.ofBits_ninf]; rfl

theorem val48 (V : Valuation τ sig (Elt Ideal)) (b : Fin 8) (p : Fin 2048) (kv g : Fin 4) (d : Fin 64) :
    (StableHlo.after hostOps1_2 V (Proc.devRef .tc main_v48) (ix3 b p ⟨64 * (4 * kv.val + g.val) + d.val, by omega⟩) : EReal)
      = att (fun k => V (Proc.devRef .tc main_v29) (ix5 b kv g p k)) (fun k => V (Proc.devRef .tc main_v3) (ix4 b k kv d)) * V (Proc.devRef .tc main_arg5) (ix1 kv) := by
  have e1 : (⟨(64 * (4 * kv.val + g.val) + d.val) / 256, by omega⟩ : Fin 4) = kv := Fin.ext (by change (64 * (4 * kv.val + g.val) + d.val) / 256 = _; omega)
  have e2 : (⟨(64 * (4 * kv.val + g.val) + d.val) / 64 % 4, by omega⟩ : Fin 4) = g := Fin.ext (by change (64 * (4 * kv.val + g.val) + d.val) / 64 % 4 = _; omega)
  have e3 : (⟨(64 * (4 * kv.val + g.val) + d.val) % 64, by omega⟩ : Fin 64) = d := Fin.ext (by change (64 * (4 * kv.val + g.val) + d.val) % 64 = _; omega)
  after_reads_at
  simp only [e1, e2, e3, fold_max]
  rfl

/-- The host chain's result, over what the region left. -/
theorem chain_val (V : Valuation τ sig (Elt Ideal)) (b : Fin 8) (p : Fin 2048) (kv g : Fin 4) (d : Fin 64) :
    (StableHlo.after ([hostOps1, hostOps1_1, hostOps1_2] : List (List (HloOp τ sig (Elt Ideal)))).flatten V (Proc.devRef .tc main_v48) (ix3 b p ⟨64 * (4 * kv.val + g.val) + d.val, by omega⟩) : EReal)
      = res (V (Proc.devRef .tc main_v0_0)) (V (Proc.devRef .tc main_v0_1)) (V (Proc.devRef .tc main_v0_2)) (V (Proc.devRef .tc main_arg3)) (V (Proc.devRef .tc main_arg4)) (V (Proc.devRef .tc main_arg5)) (V (Proc.devRef .tc main_arg6)) b kv g d p := by
  have e : StableHlo.after ([hostOps1, hostOps1_1, hostOps1_2] : List (List (HloOp τ sig (Elt Ideal)))).flatten V = StableHlo.after hostOps1_2 (StableHlo.after hostOps1_1 (StableHlo.after hostOps1 V)) := rfl
  rw [e, val48]
  unfold res
  rw [val5]
  have h1 : (fun k => StableHlo.after hostOps1_1 (StableHlo.after hostOps1 V) (Proc.devRef .tc main_v29) (ix5 b kv g p k)) = scr (V (Proc.devRef .tc main_v0_0)) (V (Proc.devRef .tc main_v0_1)) (V (Proc.devRef .tc main_arg3)) (V (Proc.devRef .tc main_arg4)) (V (Proc.devRef .tc main_arg6)) b kv g p := funext fun k => val29' V b kv g p k
  have h2 : (fun k => StableHlo.after hostOps1_1 (StableHlo.after hostOps1 V) (Proc.devRef .tc main_v3) (ix4 b k kv d)) = fun k => V (Proc.devRef .tc main_v0_2) (ix3 b k ⟨64 * kv.val + d.val, by omega⟩) := funext fun k => by rw [val3', val3]
  exact congrArg (· * _) (congr (congrArg att h1) h2)

theorem arr3 (c : Dev nD) : (dats m 0 c).arrAt 3 (cfgs 0).N = m ((c.tc : Thread nD τ).loc main_arg0) := by
  refine (dats m 0 c).arrAt_eq_of_covers 3 _ (by decide +kernel) fun t hf y => ?_
  blk_simp
  rw [after0_3]
  frame_out
  rfl

theorem arr4 (c : Dev nD) : (dats m 0 c).arrAt 4 (cfgs 0).N = m ((c.tc : Thread nD τ).loc main_arg1) := by
  refine (dats m 0 c).arrAt_eq_of_covers 4 _ (by decide +kernel) fun t hf y => ?_
  blk_simp
  rw [after0_4]
  frame_out
  rfl

theorem arr5 (c : Dev nD) : (dats m 0 c).arrAt 5 (cfgs 0).N = m ((c.tc : Thread nD τ).loc main_arg2) := by
  refine (dats m 0 c).arrAt_eq_of_covers 5 _ (by decide +kernel) fun t hf y => ?_
  blk_simp
  rw [after0_5]
  frame_out
  rfl

/-- The array of the results, index by index. -/
def RV (c : Dev nD) (y : S8x2048x1024.Idx) : EReal :=
  res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (y 0) ⟨(y 2).val / 256, by have : (y 2).val < 1024 := (y 2).isLt; omega⟩ ⟨(y 2).val / 64 % 4, by omega⟩ ⟨(y 2).val % 64, by omega⟩ (y 1)

theorem run_val (g : Dev nD → PrngReg) :
    θ_run (defs (F := Ideal)) (onTc (τ := τ) (main (F := Ideal))) ⟨m, fun _ => 0, g⟩ (fun r => ∀ c : Dev nD,
      r.2.mem ((c.tc : Thread nD τ).loc main_v48) = RV m c) := by
  run_from Gen.run_main m g
  funext y
  idx_vars y
  have hy : y2 = ⟨64 * (4 * (y2.val / 256) + y2.val / 64 % 4) + y2.val % 64, by omega⟩ := Fin.ext (by change y2.val = 64 * (4 * (y2.val / 256) + y2.val / 64 % 4) + y2.val % 64; omega)
  unfold Pipeline.afterTail₀
  refine (congrArg (fun z => StableHlo.after ([hostOps1, hostOps1_1, hostOps1_2] : List (List (HloOp τ sig (Elt Ideal)))).flatten (Pipeline.withArrays (cfgs 0).spec c (V0 m c) fun w => (dats m 0 c).arrAt w (cfgs 0).N) (Proc.devRef .tc main_v48) (ix3 y0 y1 z)) hy).trans ?_
  refine (chain_val _ y0 y1 ⟨y2.val / 256, by omega⟩ ⟨y2.val / 64 % 4, by omega⟩ ⟨y2.val % 64, by omega⟩).trans ?_
  have hinj : Function.Injective (Pipeline.arrRef (cfgs 0).spec) := by decide
  have a3 := (Pipeline.withArrays_arr (cfgs 0).spec hinj c (V0 m c) (fun w => (dats m 0 c).arrAt w (cfgs 0).N) 3).trans (arr3 m c)
  have a4 := (Pipeline.withArrays_arr (cfgs 0).spec hinj c (V0 m c) (fun w => (dats m 0 c).arrAt w (cfgs 0).N) 4).trans (arr4 m c)
  have a5 := (Pipeline.withArrays_arr (cfgs 0).spec hinj c (V0 m c) (fun w => (dats m 0 c).arrAt w (cfgs 0).N) 5).trans (arr5 m c)
  have b3 := Pipeline.withArrays_of_ne (cfgs 0).spec c (V0 m c) (fun w => (dats m 0 c).arrAt w (cfgs 0).N) main_arg3 (by decide)
  have b4 := Pipeline.withArrays_of_ne (cfgs 0).spec c (V0 m c) (fun w => (dats m 0 c).arrAt w (cfgs 0).N) main_arg4 (by decide)
  have b5 := Pipeline.withArrays_of_ne (cfgs 0).spec c (V0 m c) (fun w => (dats m 0 c).arrAt w (cfgs 0).N) main_arg5 (by decide)
  have b6 := Pipeline.withArrays_of_ne (cfgs 0).spec c (V0 m c) (fun w => (dats m 0 c).arrAt w (cfgs 0).N) main_arg6 (by decide)
  unfold RV
  congr 1

end Cert.ReferenceIdeal.Hand
-- ==== Proof.PtI.lean ====
module

public import proofs.«01_k».proof.Proof.Model2I
public import proofs.«01_k».proof.Proof.ChkI
public import proofs.«01_k».proof.Proof.Loop1I
public import proofs.«01_k».proof.Proof.Consts
public import proofs.«01_k».proof.Proof.Soft
public import Idealize.ShloMosaic.Lib.Pointwise
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem fold_max {ι : Type} (s : Finset ι) (f : ι → EReal) : Finset.fold max (⊥ : EReal) f s = s.sup f := rfl

theorem mNew_apply (t : FVec Ideal S128x256 .f32) (m : Vec Ideal S1x8x256 .f32) (u : Fin 8) (q : Fin 256) :
    mNew t m (ix2 u q) = max (m (ix3 0 u q)) (Finset.univ.sup fun x : Fin 128 => t (ix2 x q)) := by
  pointwise [mNew]
  rw [Cert.Consts.ofBits_ninf, fold_max]

theorem alph_apply (t : FVec Ideal S128x256 .f32) (m : Vec Ideal S1x8x256 .f32) (u : Fin 8) (q : Fin 256) :
    alph t m (ix2 u q) = Ideal.exp2 (m (ix3 0 u q) - mNew t m (ix2 u q)) := by
  pointwise [alph]
  rfl

theorem wts_apply (t : FVec Ideal S128x256 .f32) (m : Vec Ideal S1x8x256 .f32) (x : Fin 128) (q : Fin 256) :
    wts t m (ix2 x q) = Ideal.exp2 (t (ix2 x q) - mNew t m (ix2 0 q)) := by
  pointwise [wts]
  rfl

/-- The place of a weight in its column: sixteen groups of eight. -/
def gix (x : Fin 16) (u : Fin 8) : Fin 128 := ⟨x.val * 8 + u.val, by omega⟩

theorem lsM_apply (t : FVec Ideal S128x256 .f32) (m l : Vec Ideal S1x8x256 .f32) (u : Fin 8) (q : Fin 256) :
    lsM t m l (ix3 0 u q) = l (ix3 0 u q) * alph t m (ix2 u q) + ∑ x : Fin 16, wts t m (ix2 (gix x u) q) := by
  pointwise [lsM]
  rfl

theorem asM_apply (t : FVec Ideal S128x256 .f32) (m : Vec Ideal S1x8x256 .f32) (vt : Vec Ideal S1x64x128 .bf16) (a : Vec Ideal S1x64x256 .f32) (d : Fin 64) (q : Fin 256) :
    asM t m vt a (ix3 0 d q) = a (ix3 0 d q) * alph t m (ix2 0 q) + ∑ x : Fin 128, vt (ix3 0 d x) * wts t m (ix2 x q) := by
  pointwise [asM]

theorem msk_bot : (msk : Ideal .f32) = (⊥ : EReal) := rfl

/-- The scale of the scores: the reference's, turned to binary exponents. -/
theorem scl_eq (q k : Ideal .f32) : scl q k = ((q : EReal) * k * ((1 / 8 : ℝ) : EReal)) * (Cert.Soft.lc : EReal) := by
  have e : (((8 * Real.log 2)⁻¹ : ℝ) : EReal) = ((1 / 8 : ℝ) : EReal) * (Cert.Soft.lc : EReal) := by
    rw [← EReal.coe_mul]; congr 1; unfold Cert.Soft.lc; rw [mul_inv]; norm_num
  have e' : scl q k = (q : EReal) * k * (((8 * Real.log 2)⁻¹ : ℝ) : EReal) := rfl
  rw [e', e, ← mul_assoc]

section
variable (ok : IVec S128x128 1) (a b : Vec Ideal S1x128x128 .fp8e4m3) (z : Vec Ideal S1x1x256x128 .fp8e4m3) (c1 c2 : Ideal .f32) (x r : Fin 128)

theorem tA_lo (q y : Fin 256) (hq : q.val = r.val) (hy : y.val = x.val) :
    tA ok (k0_pay37 a b z) c1 c2 (ix2 x q) = Scalar.select (ok (ix2 x r)) ((∑ l : Fin 128, z (ix4 0 0 y l) * a (ix3 0 r l)) * c1 : EReal) ⊥ := by
  obtain ⟨q, qlt⟩ := q; change q = _ at hq; subst hq
  obtain ⟨y, ylt⟩ := y; change y = _ at hy; subst hy
  pointwise [tA, k0_pay37]
  rfl

theorem tA_hi (q y : Fin 256) (hq : q.val = 128 + r.val) (hy : y.val = x.val) :
    tA ok (k0_pay37 a b z) c1 c2 (ix2 x q) = Scalar.select (ok (ix2 x r)) ((∑ l : Fin 128, z (ix4 0 0 y l) * b (ix3 0 r l)) * c2 : EReal) ⊥ := by
  obtain ⟨q, qlt⟩ := q; change q = _ at hq; subst hq
  obtain ⟨y, ylt⟩ := y; change y = _ at hy; subst hy
  pointwise [tA, k0_pay37]
  rfl

theorem tB_lo (q y : Fin 256) (hq : q.val = r.val) (hy : y.val = 128 + x.val) :
    tB ok (k0_pay37 a b z) c1 c2 (ix2 x q) = Scalar.select (ok (ix2 x r)) ((∑ l : Fin 128, z (ix4 0 0 y l) * a (ix3 0 r l)) * c1 : EReal) ⊥ := by
  obtain ⟨q, qlt⟩ := q; change q = _ at hq; subst hq
  obtain ⟨y, ylt⟩ := y; change y = _ at hy; subst hy
  pointwise [tB, k0_pay37]
  rfl

theorem tB_hi (q y : Fin 256) (hq : q.val = 128 + r.val) (hy : y.val = 128 + x.val) :
    tB ok (k0_pay37 a b z) c1 c2 (ix2 x q) = Scalar.select (ok (ix2 x r)) ((∑ l : Fin 128, z (ix4 0 0 y l) * b (ix3 0 r l)) * c2 : EReal) ⊥ := by
  obtain ⟨q, qlt⟩ := q; change q = _ at hq; subst hq
  obtain ⟨y, ylt⟩ := y; change y = _ at hy; subst hy
  pointwise [tB, k0_pay37]
  rfl
end

/-- The slab of a key head and a half. -/
def sb (kv : Fin 4) (par : Fin 2) : Fin 8 := ⟨2 * kv.val + par.val, by omega⟩
/-- The query head of a key head, a column half and a lane half. -/
def hd (kv : Fin 4) (par e : Fin 2) : Fin 16 := ⟨4 * kv.val + (2 * e.val + par.val), by omega⟩
/-- A row of a half. -/
def h2 (e : Fin 2) (r : Fin 128) : Fin 256 := ⟨128 * e.val + r.val, by omega⟩

theorem TM_apply (ok : IVec S128x128 1) (xs : Fin 8 → Vec Ideal S1x128x128 .fp8e4m3) (kz : Fin 4 → Vec Ideal S1x1x256x128 .fp8e4m3) (q : Fin 16 → Ideal .f32) (k : Fin 4 → Ideal .f32)
    (kv : Fin 4) (par e : Fin 2) (x r : Fin 128) :
    TM ok xs kz q k (sb kv par) (ix2 x (h2 e r))
      = Scalar.select (ok (ix2 x r)) ((∑ l : Fin 128, kz kv (ix4 0 0 (h2 par x) l) * xs (sb kv e) (ix3 0 r l)) * scl (q (hd kv par e)) (k kv) : EReal) ⊥ := by
  fin_cases par <;> fin_cases e
  · fin_cases kv <;> exact tA_lo _ _ _ _ _ _ _ _ _ _ (Nat.zero_add _) (Nat.zero_add _)
  · fin_cases kv <;> exact tA_hi _ _ _ _ _ _ _ _ _ _ rfl (Nat.zero_add _)
  · fin_cases kv <;> exact tB_lo _ _ _ _ _ _ _ _ _ _ (Nat.zero_add _) rfl
  · fin_cases kv <;> exact tB_hi _ _ _ _ _ _ _ _ _ _ rfl rfl

theorem oA_apply (v : Ideal .f32) (l0 l1 : Vec Ideal S1x8x256 .f32) (a0 a1 : Vec Ideal S1x64x128 .f32) (r : Fin 128) (p : Fin 2) (d : Fin 64) (c : Fin 128) (hc : c.val = 64 * p.val + d.val)
    (q : Fin 256) (hq : q.val = r.val) :
    oA v l0 l1 a0 a1 (ix3 0 r c) = (![a0, a1] p) (ix3 0 d r) * Ideal.div v (∑ u, (![l0, l1] p) (ix3 0 u q)) := by
  obtain ⟨q, qlt⟩ := q; change q = _ at hq; subst hq
  pointwise [oA, k0_pay214, k0_pay211, k0_pay212, k0_pay213, k0_pay209, k0_pay210]
  fin_cases p
  · obtain ⟨c, clt⟩ := c; change c = _ at hc; simp only [Fin.zero_eta, Fin.val_zero, Nat.mul_zero, Nat.zero_add] at hc; subst hc
    simp only [d.isLt, dite_true, Fin.eta]; rfl
  · obtain ⟨c, clt⟩ := c; change c = _ at hc; subst hc
    simp only [Nat.not_lt.2 (Nat.le_add_right 64 d.val), dite_false, Nat.add_sub_cancel_left, Fin.eta]; rfl

theorem oB_apply (v : Ideal .f32) (l0 l1 : Vec Ideal S1x8x256 .f32) (a0 a1 : Vec Ideal S1x64x128 .f32) (r : Fin 128) (p : Fin 2) (d : Fin 64) (c : Fin 128) (hc : c.val = 64 * p.val + d.val)
    (q : Fin 256) (hq : q.val = 128 + r.val) :
    oB v l0 l1 a0 a1 (ix3 0 r c) = (![a0, a1] p) (ix3 0 d r) * Ideal.div v (∑ u, (![l0, l1] p) (ix3 0 u q)) := by
  obtain ⟨q, qlt⟩ := q; change q = _ at hq; subst hq
  pointwise [oB, k0_pay215, k0_pay209, k0_pay210]
  fin_cases p
  · obtain ⟨c, clt⟩ := c; change c = _ at hc; simp only [Fin.zero_eta, Fin.val_zero, Nat.mul_zero, Nat.zero_add] at hc; subst hc
    simp only [d.isLt, dite_true, Fin.eta]; rfl
  · obtain ⟨c, clt⟩ := c; change c = _ at hc; subst hc
    simp only [Nat.not_lt.2 (Nat.le_add_right 64 d.val), dite_false, Nat.add_sub_cancel_left, Fin.eta]; rfl

end Cert.KernelIdeal.Hand
-- ==== Proof.KvI.lean ====
module

public import proofs.«01_k».proof.Proof.PtI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem lt64 : ∀ n : Fin 128, IntOp.cmpi .slt (BitVec.ofNat 32 n.val) 64#32 = if n.val < 64 then 1#1 else 0#1 := by decide +kernel
theorem ge64 : ∀ n : Fin 128, IntOp.cmpi .sge (BitVec.ofNat 32 n.val) 64#32 = if n.val < 64 then 0#1 else 1#1 := by decide +kernel

theorem sel_ite (p : Prop) [Decidable p] (x y : EReal) : Scalar.select (if p then 1#1 else 0#1) x y = if p then x else y := by
  by_cases h : p <;> simp [h, Scalar.select]
theorem sel_ite' (p : Prop) [Decidable p] (x y : EReal) : Scalar.select (if p then 0#1 else 1#1) x y = if p then y else x := by
  by_cases h : p <;> simp [h, Scalar.select]

/-- One half of a key tile on one half of the lanes, zero on the other. -/
def half (a : Vec Ideal S1x128x128 .fp8e4m3) (h par : ℕ) (hh : h < 2) (x l : Fin 128) : EReal :=
  if l.val / 64 = par then a (ix3 0 x ⟨64 * h + l.val % 64, by omega⟩) else 0

theorem half_lo (a : Vec Ideal S1x128x128 .fp8e4m3) (h : ℕ) (hh : h < 2) (x l : Fin 128) (y : Fin 128) (hy : l.val < 64 → y.val = 64 * h + l.val) :
    (if l.val < 64 then a (ix3 0 x y) else 0 : EReal) = half a h 0 hh x l := by
  unfold half
  by_cases h' : l.val < 64
  · rw [if_pos h', if_pos (by omega)]
    have : y = ⟨64 * h + l.val % 64, by omega⟩ := Fin.ext (by rw [hy h']; change _ = 64 * h + l.val % 64; omega)
    rw [this]
  · rw [if_neg h', if_neg (by omega)]

theorem half_hi (a : Vec Ideal S1x128x128 .fp8e4m3) (h : ℕ) (hh : h < 2) (x l : Fin 128) (y : Fin 128) (hy : ¬ l.val < 64 → y.val = 64 * h + (l.val - 64)) :
    (if l.val < 64 then 0 else a (ix3 0 x y) : EReal) = half a h 1 hh x l := by
  unfold half
  have := l.isLt
  by_cases h' : l.val < 64
  · rw [if_pos h', if_neg (by omega)]
  · rw [if_neg h', if_pos (by omega)]
    have : y = ⟨64 * h + l.val % 64, by omega⟩ := Fin.ext (by rw [hy h']; change _ = 64 * h + l.val % 64; omega)
    rw [this]

section
variable (a : Vec Ideal S1x128x128 .fp8e4m3) (x l : Fin 128)

/-- The place a rotation by half the lanes reads. -/
def rt (l : Fin 128) : Fin 128 := ⟨(l.val + 128 - 64) % 128, Nat.mod_lt _ (by decide)⟩

theorem pay_a : Scalar.select (IntOp.cmpi .slt (BitVec.ofNat 32 l.val) 64#32) (a (ix3 0 x l)) (0 : EReal) = half a 0 0 (by decide) x l := by
  rw [lt64 l, sel_ite]; exact half_lo a 0 _ x l l (fun _ => by omega)
theorem pay_b : Scalar.select (IntOp.cmpi .slt (BitVec.ofNat 32 (rt l).val) 64#32) (a (ix3 0 x (rt l))) (0 : EReal) = half a 0 1 (by decide) x l := by
  rw [lt64 (rt l), sel_ite, ← half_hi a 0 (by decide) x l (rt l) (fun h => by change (l.val + 128 - 64) % 128 = _; omega)]
  have e : (rt l).val < 64 ↔ ¬ l.val < 64 := by change (l.val + 128 - 64) % 128 < 64 ↔ _; omega
  by_cases h : l.val < 64
  · rw [if_neg (by rw [e]; exact not_not.2 h), if_pos h]
  · rw [if_pos (e.2 h), if_neg h]
theorem pay_c : Scalar.select (IntOp.cmpi .sge (BitVec.ofNat 32 (rt l).val) 64#32) (a (ix3 0 x (rt l))) (0 : EReal) = half a 1 0 (by decide) x l := by
  rw [ge64 (rt l), sel_ite', ← half_lo a 1 (by decide) x l (rt l) (fun h => by change (l.val + 128 - 64) % 128 = _; omega)]
  have e : (rt l).val < 64 ↔ ¬ l.val < 64 := by change (l.val + 128 - 64) % 128 < 64 ↔ _; omega
  by_cases h : l.val < 64
  · rw [if_neg (by rw [e]; exact not_not.2 h), if_pos h]
  · rw [if_pos (e.2 h), if_neg h]
theorem pay_d : Scalar.select (IntOp.cmpi .sge (BitVec.ofNat 32 l.val) 64#32) (a (ix3 0 x l)) (0 : EReal) = half a 1 1 (by decide) x l := by
  rw [ge64 l, sel_ite']; exact half_hi a 1 _ x l l (fun _ => by omega)

theorem p26 : k0_pay26 (F := Ideal) a (ix4 0 0 x l) = half a 0 0 (by decide) x l := by pointwise [k0_pay26, k0_pay25]; exact pay_a a x l
theorem p27 : k0_pay27 (F := Ideal) a (ix4 0 0 x l) = half a 0 1 (by decide) x l := by pointwise [k0_pay27, k0_pay25]; exact pay_b a x l
theorem p29 : k0_pay29 (F := Ideal) a (ix4 0 0 x l) = half a 1 0 (by decide) x l := by pointwise [k0_pay29, k0_pay28]; exact pay_c a x l
theorem p30 : k0_pay30 (F := Ideal) (k0_pay28 a) (ix4 0 0 x l) = half a 1 1 (by decide) x l := by pointwise [k0_pay30, k0_pay28]; exact pay_d a x l
theorem p32 : k0_pay32 (F := Ideal) a (ix4 0 0 x l) = half a 0 0 (by decide) x l := by pointwise [k0_pay32, k0_pay31]; exact pay_a a x l
theorem p33 : k0_pay33 (F := Ideal) a (ix4 0 0 x l) = half a 0 1 (by decide) x l := by pointwise [k0_pay33, k0_pay31]; exact pay_b a x l
theorem p1 : k0_pay1 (F := Ideal) (k0_pay35 a) (ix4 0 0 x l) = half a 1 0 (by decide) x l := by pointwise [k0_pay1, k0_pay35, k0_pay34]; exact pay_c a x l
theorem p2 : k0_pay2 (F := Ideal) (k0_pay34 a) (ix4 0 0 x l) = half a 1 1 (by decide) x l := by pointwise [k0_pay2, k0_pay34]; exact pay_d a x l
theorem p3 : k0_pay3 (F := Ideal) a (ix3 0 x l) = a (ix3 0 l x) := by pointwise [k0_pay3]
theorem p4 : k0_pay4 (F := Ideal) a (ix3 0 x l) = a (ix3 0 l x) := by pointwise [k0_pay4]
end

/-- A load of a tile, at a place. -/
theorem ld3 {n2 : ℕ} {e : EltTy} (X : (⟨3, ![1, 2048, n2]⟩ : Shape).Idx → Elt Ideal e) (o : Fin 3 → ℕ) (s : Fin 3 → ℕ) (h : ∀ a, o a + s a ≤ (⟨3, ![1, 2048, n2]⟩ : Shape).size a)
    (y : (⟨3, s⟩ : Shape).Idx) (z : (⟨3, ![1, 2048, n2]⟩ : Shape).Idx) (hz : ∀ a, (z a).val = o a + (y a).val) :
    View.ld X (Rect.unit (s := (⟨3, ![1, 2048, n2]⟩ : Shape)) o s h) y = X z := by
  refine congrArg X (funext fun a => Fin.ext ?_)
  rw [hz]; change o a + 1 * (y a).val = _; omega

section
variable (x6 : S1x2048x256.Idx → Elt Ideal .fp8e4m3) (k : Fin k0_t1_loop.trips) (x : Fin 128)

theorem klt1 : k.val < 16 := k.isLt

/-- A place of a tile of keys in the array. -/
def kp (k : ℕ) (hk : k < 16) (x : Fin 128) : Fin 2048 := ⟨128 * k + x.val, by omega⟩

theorem ld_off1 (c : Fin 128) : (View.ld x6 (Rect.unit (s := S1x2048x256) (k0_off1 k) S1x128x128.size (k0_off1_inb k)) : Vec Ideal S1x128x128 .fp8e4m3) (ix3 0 x c) = x6 (ix3 0 (kp k.val (klt1 k) x) ⟨c.val, by omega⟩) := by
  refine ld3 (n2 := 256) (e := .fp8e4m3) x6 _ _ _ _ _ fun a => ?_
  rw [congrFun (k0_off1_eq k) a]
  fin_cases a
  · rfl
  · rfl
  · exact (Nat.zero_add _).symm

theorem ld_off6 (c : Fin 128) : (View.ld x6 (Rect.unit (s := S1x2048x256) (k0_off6 k) S1x128x128.size (k0_off6_inb k)) : Vec Ideal S1x128x128 .fp8e4m3) (ix3 0 x c) = x6 (ix3 0 (kp k.val (klt1 k) x) ⟨128 + c.val, by omega⟩) := by
  refine ld3 (n2 := 256) (e := .fp8e4m3) x6 _ _ _ _ _ fun a => ?_
  rw [congrFun (k0_off6_eq k) a]
  fin_cases a <;> rfl

theorem KZ_apply (kv : Fin 4) (par : Fin 2) (l : Fin 128) :
    KZ (F := Ideal) x6 k (sb kv par) (ix4 0 0 x l) = (if l.val / 64 = par.val then x6 (ix3 0 (kp k.val (klt1 k) x) ⟨64 * kv.val + l.val % 64, by omega⟩) else 0 : EReal) := by
  fin_cases kv <;> fin_cases par
  · refine (p26 _ x l).trans ?_; unfold half; rw [ld_off1]
  · refine (p27 _ x l).trans ?_; unfold half; rw [ld_off1]
  · refine (p29 _ x l).trans ?_; unfold half; rw [ld_off1]
  · refine (p30 _ x l).trans ?_; unfold half; rw [ld_off1]
  · refine (p32 _ x l).trans ?_; unfold half; rw [ld_off6]; exact if_congr Iff.rfl (congrArg (fun c => x6 (ix3 0 (kp k.val (klt1 k) x) c)) (Fin.ext (show 128 + (64 * 0 + l.val % 64) = 64 * 2 + l.val % 64 by omega))) rfl
  · refine (p33 _ x l).trans ?_; unfold half; rw [ld_off6]; exact if_congr Iff.rfl (congrArg (fun c => x6 (ix3 0 (kp k.val (klt1 k) x) c)) (Fin.ext (show 128 + (64 * 0 + l.val % 64) = 64 * 2 + l.val % 64 by omega))) rfl
  · refine (p1 _ x l).trans ?_; unfold half; rw [ld_off6]; exact if_congr Iff.rfl (congrArg (fun c => x6 (ix3 0 (kp k.val (klt1 k) x) c)) (Fin.ext (show 128 + (64 * 1 + l.val % 64) = 64 * 3 + l.val % 64 by omega))) rfl
  · refine (p2 _ x l).trans ?_; unfold half; rw [ld_off6]; exact if_congr Iff.rfl (congrArg (fun c => x6 (ix3 0 (kp k.val (klt1 k) x) c)) (Fin.ext (show 128 + (64 * 1 + l.val % 64) = 64 * 3 + l.val % 64 by omega))) rfl

/-- The half of a value tile a key head lies in. -/
def vh (kv : Fin 4) : Fin 2 := ⟨kv.val / 2, by omega⟩

theorem VTM_apply (kv : Fin 4) (d : Fin 64) :
    VTM (F := Ideal) x6 k (vh kv) (ix3 0 ⟨64 * (kv.val % 2) + d.val, by omega⟩ x) = x6 (ix3 0 (kp k.val (klt1 k) x) ⟨64 * kv.val + d.val, by omega⟩) := by
  fin_cases kv
  · refine (p3 _ _ _).trans ?_; rw [ld_off1]; rfl
  · refine (p3 _ _ _).trans ?_; rw [ld_off1]; rfl
  · refine (p4 _ _ _).trans ?_; rw [ld_off6]; congr 2; exact Fin.ext (show 128 + (64 * 0 + d.val) = 64 * 2 + d.val by omega)
  · refine (p4 _ _ _).trans ?_; rw [ld_off6]; congr 2; exact Fin.ext (show 128 + (64 * 1 + d.val) = 64 * 3 + d.val by omega)
end

/-- A product over the lanes of which one half is zero. -/
theorem sum_half (par : Fin 2) (K : Fin 64 → EReal) (X : Fin 128 → EReal) :
    ∑ l : Fin 128, (if l.val / 64 = par.val then K ⟨l.val % 64, Nat.mod_lt _ (by decide)⟩ else 0) * X l = ∑ d : Fin 64, K d * X ⟨64 * par.val + d.val, by omega⟩ := by
  rw [show (∑ l : Fin 128, (if l.val / 64 = par.val then K ⟨l.val % 64, Nat.mod_lt _ (by decide)⟩ else 0) * X l) = ∑ l : Fin (64 + 64), (if l.val / 64 = par.val then K ⟨l.val % 64, Nat.mod_lt _ (by decide)⟩ else 0) * X l from rfl, Fin.sum_univ_add]
  have e1 : ∀ d : Fin 64, (Fin.castAdd 64 d).val = d.val := fun d => rfl
  have e2 : ∀ d : Fin 64, (Fin.natAdd 64 d).val = 64 + d.val := fun d => rfl
  have d1 : ∀ d : Fin 64, d.val / 64 = 0 := fun d => by omega
  have d2 : ∀ d : Fin 64, (64 + d.val) / 64 = 1 := fun d => by omega
  have m1 : ∀ d : Fin 64, d.val % 64 = d.val := fun d => by omega
  have m2 : ∀ d : Fin 64, (64 + d.val) % 64 = d.val := fun d => by omega
  simp only [e1, e2, d1, d2, m1, m2, Fin.eta]
  fin_cases par
  · simp only [Fin.zero_eta, Fin.val_zero, if_true, one_ne_zero, if_false, zero_mul, Finset.sum_const_zero, add_zero, Nat.mul_zero, Nat.zero_add]
    rfl
  · simp only [Fin.mk_one, Fin.val_one, if_true, zero_ne_one, if_false, zero_mul, Finset.sum_const_zero, zero_add, Nat.mul_one]
    rfl

end Cert.KernelIdeal.Hand
-- ==== Proof.ColI.lean ====
module

public import proofs.«01_k».proof.Proof.KvI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

theorem qsM_apply (x : S16.Idx → Elt Ideal .f32) (h : Fin 16) : qsM (F := Ideal) x h = x (ix1 h) := by
  fin_cases h <;> exact congrArg x (funext fun a => Fin.ext (by fin_cases a; rfl))
theorem ksM_apply (x : S4.Idx → Elt Ideal .f32) (h : Fin 4) : ksM (F := Ideal) x h = x (ix1 h) := by
  fin_cases h <;> exact congrArg x (funext fun a => Fin.ext (by fin_cases a; rfl))

theorem xsM_apply (x5 : S1x2048x1024.Idx → Elt Ideal .fp8e4m3) (i : Fin k0_t2_loop.trips) (hi : i.val < 16) (j : Fin 8) (r l : Fin 128) :
    xsM (F := Ideal) x5 i j (ix3 0 r l) = x5 (ix3 0 (kp i.val hi r) ⟨128 * j.val + l.val, by omega⟩) := by
  fin_cases j
  · refine ld3 (n2 := 1024) (e := .fp8e4m3) x5 _ _ _ _ _ fun a => ?_
    rw [congrFun (k0_off15_eq i) a]; fin_cases a; rfl; rfl; rfl
  · refine ld3 (n2 := 1024) (e := .fp8e4m3) x5 _ _ _ _ _ fun a => ?_
    rw [congrFun (k0_off16_eq i) a]; fin_cases a; rfl; rfl; rfl
  · refine ld3 (n2 := 1024) (e := .fp8e4m3) x5 _ _ _ _ _ fun a => ?_
    rw [congrFun (k0_off19_eq i) a]; fin_cases a; rfl; rfl; rfl
  · refine ld3 (n2 := 1024) (e := .fp8e4m3) x5 _ _ _ _ _ fun a => ?_
    rw [congrFun (k0_off20_eq i) a]; fin_cases a; rfl; rfl; rfl
  · refine ld3 (n2 := 1024) (e := .fp8e4m3) x5 _ _ _ _ _ fun a => ?_
    rw [congrFun (k0_off23_eq i) a]; fin_cases a; rfl; rfl; rfl
  · refine ld3 (n2 := 1024) (e := .fp8e4m3) x5 _ _ _ _ _ fun a => ?_
    rw [congrFun (k0_off24_eq i) a]; fin_cases a; rfl; rfl; rfl
  · refine ld3 (n2 := 1024) (e := .fp8e4m3) x5 _ _ _ _ _ fun a => ?_
    rw [congrFun (k0_off27_eq i) a]; fin_cases a; rfl; rfl; rfl
  · refine ld3 (n2 := 1024) (e := .fp8e4m3) x5 _ _ _ _ _ fun a => ?_
    rw [congrFun (k0_off28_eq i) a]; fin_cases a; rfl; rfl; rfl

section
variable (i : Fin k0_t2_loop.trips) (n : ℕ) (hn : n ≤ 128 * i.val) (hw : k0_chk1 i (BitVec.ofNat 32 n)) (t : Fin (k0_t3_loop i (BitVec.ofNat 32 n)).trips)

include hn in
theorem blk_lt : n / 128 + t.val < 16 := by
  have h := klt i n hn
  have h3 := (trips3 i n hn).2
  have ht := t.isLt
  omega

theorem kzM_apply (x11 : S4x16x256x128.Idx → Elt Ideal .fp8e4m3) (kv : Fin 4) (y : Fin 256) (l : Fin 128) :
    kzM (F := Ideal) x11 i (BitVec.ofNat 32 n) hw t kv (ix4 0 0 y l) = x11 (ix4 kv ⟨n / 128 + t.val, blk_lt i n hn t⟩ y l) := by
  have e := iv_of i n hn t
  fin_cases kv <;>
  · refine congrArg x11 (funext fun a => Fin.ext ?_)
    fin_cases a
    · rfl
    · exact (Nat.add_zero _).trans e
    · change 0 + 1 * y.val = y.val; omega
    · change 0 + 1 * l.val = l.val; omega

theorem vtM_apply (x12 : S16x256x128.Idx → Elt Ideal .bf16) (kv : Fin 4) (d : Fin 64) (x : Fin 128) :
    vtM (F := Ideal) x12 i (BitVec.ofNat 32 n) hw t kv (ix3 0 d x) = x12 (ix3 ⟨n / 128 + t.val, blk_lt i n hn t⟩ ⟨64 * kv.val + d.val, by omega⟩ x) := by
  have e := iv_of i n hn t
  fin_cases kv
  · refine congrArg x12 (funext fun a => Fin.ext ?_)
    fin_cases a
    · exact (Nat.add_zero _).trans e
    · change 0 + 1 * d.val = 64 * 0 + d.val; omega
    · change 0 + 1 * x.val = x.val; omega
  · refine congrArg x12 (funext fun a => Fin.ext ?_)
    fin_cases a
    · exact (Nat.add_zero _).trans e
    · change 64 + 1 * d.val = 64 * 1 + d.val; omega
    · change 0 + 1 * x.val = x.val; omega
  · refine congrArg x12 (funext fun a => Fin.ext ?_)
    fin_cases a
    · exact (Nat.add_zero _).trans e
    · change 128 + 1 * d.val = 64 * 2 + d.val; omega
    · change 0 + 1 * x.val = x.val; omega
  · refine congrArg x12 (funext fun a => Fin.ext ?_)
    fin_cases a
    · exact (Nat.add_zero _).trans e
    · change 192 + 1 * d.val = 64 * 3 + d.val; omega
    · change 0 + 1 * x.val = x.val; omega

theorem word_at (a b : ℕ) : BitVec.ofNat 32 a * 128#32 + BitVec.ofNat 32 b = BitVec.ofNat 32 (128 * a + b) := by
  apply BitVec.eq_of_toNat_eq
  simp only [BitVec.toNat_add, BitVec.toNat_mul, BitVec.toNat_ofNat]
  omega

theorem iv_word : ∀ (lo : Fin 16) (t : Fin 17), Scf.iv (BitVec.ofNat 32 lo.val) 1#32 t.val = BitVec.ofNat 32 (lo.val + t.val) := by decide +kernel
theorem iv_word0 : ∀ (t : Fin 17), Scf.iv 0#32 1#32 t.val = BitVec.ofNat 32 t.val := by decide +kernel

theorem pay203_apply (r : Fin 128) : k0_pay203 0#32 1#32 i (ix2 0 r) = BitVec.ofNat 32 (128 * i.val + r.val) := by
  have h : i.val < 16 := i.isLt
  pointwise [k0_pay203]
  rw [iv_word0 ⟨i.val, by omega⟩]
  change BitVec.ofNat 32 i.val * 128#32 + BitVec.ofNat 32 r.val = _
  exact word_at _ _

include hn in
theorem ok_apply (v10 : IVec S1x128 32) (r x : Fin 128) (dq : ℕ) (hdq : dq < 2048) (hv : v10 (ix2 0 r) = BitVec.ofNat 32 dq) :
    k0_pay36 (F := Ideal) i v10 (k0_pay203 0#32 1#32 i) (BitVec.ofNat 32 n) (w45 (BitVec.ofNat 32 n)) 1#32 t (ix2 x r)
      = BitVec.ofBool (decide (dq ≤ 128 * (n / 128 + t.val) + x.val) && decide (128 * (n / 128 + t.val) + x.val ≤ 128 * i.val + r.val)) := by
  have h := klt i n hn
  have h3 := (trips3 i n hn).2
  have ht := t.isLt
  pointwise [k0_pay36]
  rw [hv, pay203_apply, w45_of i n hn, iv_word ⟨n / 128, by omega⟩ ⟨t.val, by omega⟩]
  have e : IntOp.addi (Scalar.muli (BitVec.ofNat 32 (n / 128 + t.val)) 128#32) (BitVec.ofNat 32 x.val) = BitVec.ofNat 32 (128 * (n / 128 + t.val) + x.val) := by
    change BitVec.ofNat 32 (n / 128 + t.val) * 128#32 + BitVec.ofNat 32 x.val = _
    exact word_at _ _
  rw [e, WordCmp.cmpi_sge_eq, WordCmp.cmpi_sle_eq, WordCmp.toInt_ofNat_of_lt (by omega), WordCmp.toInt_ofNat_of_lt (by omega), WordCmp.toInt_ofNat_of_lt (by omega), WordCmp.andi_ofBool]
  simp only [Nat.cast_le]
end

/-- One score of a query against a key: hidden keys stand at the bottom. -/
def Sc (x1 : S16.Idx → Elt Ideal .f32) (x2 : S4.Idx → Elt Ideal .f32) (x5 : S1x2048x1024.Idx → Elt Ideal .fp8e4m3) (x6 : S1x2048x256.Idx → Elt Ideal .fp8e4m3)
    (lo : ℕ) (kv : Fin 4) (h : Fin 16) (p key : Fin 2048) : EReal :=
  if lo ≤ key.val ∧ key.val ≤ p.val then
    (∑ d : Fin 64, (x6 (ix3 0 key ⟨64 * kv.val + d.val, by omega⟩) : EReal) * x5 (ix3 0 p ⟨64 * h.val + d.val, by omega⟩)) * ((x1 (ix1 h) : EReal) * x2 (ix1 kv) * ((1 / 8 : ℝ) : EReal))
  else ⊥

theorem kp_ky (b : ℕ) (hb : b < 16) (x : Fin 128) : kp b hb x = Cert.Soft.ky b x := Fin.ext (by change 128 * b + x.val = (128 * b + x.val) % 2048; omega)

theorem kzG_apply (x6 : S1x2048x256.Idx → Elt Ideal .fp8e4m3) (kv : Fin 4) (par : Fin 2) (b : ℕ) (hb : b < 16) (x l : Fin 128) :
    kzG (F := Ideal) x6 (ix4 kv ⟨b, hb⟩ (h2 par x) l) = KZ (F := Ideal) x6 ⟨b, hb⟩ (sb kv par) (ix4 0 0 x l) := by
  have e1 : (⟨2 * kv.val + (h2 par x).val / 128, kzI kv.isLt (h2 par x).isLt⟩ : Fin 8) = sb kv par :=
    Fin.ext (by change 2 * kv.val + (128 * par.val + x.val) / 128 = 2 * kv.val + par.val; omega)
  have e2 : (⟨(h2 par x).val % 128, Nat.mod_lt _ (by decide)⟩ : Fin 128) = x := Fin.ext (by change (128 * par.val + x.val) % 128 = x.val; omega)
  change KZ (F := Ideal) x6 ⟨b, hb⟩ ⟨2 * kv.val + (h2 par x).val / 128, kzI kv.isLt (h2 par x).isLt⟩ (ix4 0 0 ⟨(h2 par x).val % 128, Nat.mod_lt _ (by decide)⟩ l) = _
  rw [e1, e2]

theorem vtG_apply (x7 : S1x2048x256.Idx → Elt Ideal .fp8e4m3) (kv : Fin 4) (d : Fin 64) (b : ℕ) (hb : b < 16) (x : Fin 128) :
    (vtG (F := Ideal) x7 (ix3 ⟨b, hb⟩ ⟨64 * kv.val + d.val, by omega⟩ x) : EReal) = x7 (ix3 0 (kp b hb x) ⟨64 * kv.val + d.val, by omega⟩) := by
  have e1 : (⟨(64 * kv.val + d.val) / 128, by omega⟩ : Fin 2) = vh kv := Fin.ext (by change (64 * kv.val + d.val) / 128 = kv.val / 2; omega)
  have e2 : (⟨(64 * kv.val + d.val) % 128, Nat.mod_lt _ (by decide)⟩ : Fin 128) = ⟨64 * (kv.val % 2) + d.val, by omega⟩ := Fin.ext (by change (64 * kv.val + d.val) % 128 = 64 * (kv.val % 2) + d.val; omega)
  change (VTM (F := Ideal) x7 ⟨b, hb⟩ ⟨(64 * kv.val + d.val) / 128, _⟩ (ix3 0 ⟨(64 * kv.val + d.val) % 128, _⟩ x) : EReal) = _
  rw [e1, e2]
  exact VTM_apply x7 ⟨b, hb⟩ x kv d

theorem sel_bool (p q : Prop) [Decidable p] [Decidable q] (x y : EReal) : Scalar.select (BitVec.ofBool (decide p && decide q)) x y = if p ∧ q then x else y := by
  by_cases h : p <;> by_cases h' : q <;> simp [h, h', Scalar.select]

section
variable (x1 : S16.Idx → Elt Ideal .f32) (x2 : S4.Idx → Elt Ideal .f32) (x5 : S1x2048x1024.Idx → Elt Ideal .fp8e4m3) (x6 x7 : S1x2048x256.Idx → Elt Ideal .fp8e4m3)
variable (i : Fin k0_t2_loop.trips) (n : ℕ) (hn : n ≤ 128 * i.val) (hw : k0_chk1 i (BitVec.ofNat 32 n))
variable (v10 : IVec S1x128 32) (r : Fin 128) (dq : ℕ) (hdq : dq < 2048) (hv : v10 (ix2 0 r) = BitVec.ofNat 32 dq) (kv : Fin 4) (par e : Fin 2)

include hn hdq hv in
theorem TT_apply (t : Fin (k0_t3_loop i (BitVec.ofNat 32 n)).trips) (x : Fin 128) :
    (TT (F := Ideal) x1 x2 x5 (kzG x6) i v10 (k0_pay203 0#32 1#32 i) (BitVec.ofNat 32 n) hw (w45 (BitVec.ofNat 32 n)) t (sb kv par) (ix2 x (h2 e r)) : EReal)
      = Sc x1 x2 x5 x6 dq kv (hd kv par e) (kp i.val (klt i n hn) r) (Cert.Soft.ky (n / 128 + t.val) x) * (Cert.Soft.lc : EReal) := by
  have hb := blk_lt i n hn t
  unfold TT
  rw [TM_apply, ok_apply i n hn t v10 r x dq hdq hv, sel_bool, qsM_apply, ksM_apply, scl_eq, ← kp_ky _ hb]
  have es : ∑ l : Fin 128, (kzM (F := Ideal) (kzG x6) i (BitVec.ofNat 32 n) hw t kv (ix4 0 0 (h2 par x) l) : EReal) * xsM (F := Ideal) x5 i (sb kv e) (ix3 0 r l)
      = ∑ d : Fin 64, (x6 (ix3 0 (kp _ hb x) ⟨64 * kv.val + d.val, by omega⟩) : EReal) * x5 (ix3 0 (kp i.val (klt i n hn) r) ⟨64 * (hd kv par e).val + d.val, by have := (hd kv par e).isLt; omega⟩) := by
    refine Eq.trans (Finset.sum_congr rfl fun l _ => ?_) ((sum_half par (fun d => (x6 (ix3 0 (kp _ hb x) ⟨64 * kv.val + d.val, by omega⟩) : EReal)) (fun l => x5 (ix3 0 (kp i.val (klt i n hn) r) ⟨128 * (sb kv e).val + l.val, by have := (sb kv e).isLt; omega⟩))).trans (Finset.sum_congr rfl fun d _ => ?_))
    · rw [kzM_apply i n hn hw t, kzG_apply, KZ_apply, xsM_apply x5 i (klt i n hn)]
    · congr 3
      exact Fin.ext (show 128 * (2 * kv.val + e.val) + (64 * par.val + d.val) = 64 * (4 * kv.val + (2 * e.val + par.val)) + d.val by omega)
  rw [es]
  unfold Sc
  by_cases hc : dq ≤ 128 * (n / 128 + t.val) + x.val ∧ 128 * (n / 128 + t.val) + x.val ≤ 128 * i.val + r.val
  · rw [if_pos hc, if_pos (show dq ≤ (kp _ hb x).val ∧ (kp _ hb x).val ≤ (kp i.val (klt i n hn) r).val from hc)]
    simp only [mul_assoc]
  · rw [if_neg hc, if_neg (show ¬ (dq ≤ (kp _ hb x).val ∧ (kp _ hb x).val ≤ (kp i.val (klt i n hn) r).val) from hc), EReal.bot_mul_coe_of_pos Cert.Soft.lc_pos]

theorem msM_apply (t : FVec Ideal S128x256 .f32) (m : Vec Ideal S1x8x256 .f32) (u : Fin 8) (q : Fin 256) : msM t m (ix3 0 u q) = mNew t m (ix2 u q) := by
  pointwise [msM]

theorem p204 (s u : Fin 8) (q : Fin 256) : (k0_pay204 (F := Ideal) (ix3 s u q) : EReal) = ⊥ := by
  pointwise [k0_pay204]; rfl
theorem p205 (s u : Fin 8) (q : Fin 256) : (k0_pay205 (F := Ideal) (ix3 s u q) : EReal) = 0 := by
  pointwise [k0_pay205]
theorem p206 (s : Fin 8) (d : Fin 64) (q : Fin 256) : (k0_pay206 (F := Ideal) (ix3 s d q) : EReal) = 0 := by
  pointwise [k0_pay206]

end

end Cert.KernelIdeal.Hand
-- ==== Proof.Col2I.lean ====
module

public import proofs.«01_k».proof.Proof.ColI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

section
variable (x1 : S16.Idx → Elt Ideal .f32) (x2 : S4.Idx → Elt Ideal .f32) (x5 : S1x2048x1024.Idx → Elt Ideal .fp8e4m3) (x6 x7 : S1x2048x256.Idx → Elt Ideal .fp8e4m3)
variable (i : Fin k0_t2_loop.trips) (n : ℕ) (hn : n ≤ 128 * i.val) (hw : k0_chk1 i (BitVec.ofNat 32 n))
variable (v10 : IVec S1x128 32) (r : Fin 128) (dq : ℕ) (hdq : dq < 2048) (hv : v10 (ix2 0 r) = BitVec.ofNat 32 dq) (kv : Fin 4) (par e : Fin 2)

/-- The statistics of the block of queries `i` after `j` trips. -/
abbrev Sj (j : ℕ) : St Ideal :=
  st3 (F := Ideal) x1 x2 x5 (kzG x6) (vtG x7) i v10 (k0_pay203 0#32 1#32 i) (BitVec.ofNat 32 n) hw (w45 (BitVec.ofNat 32 n)) ⟨k0_pay204 (F := Ideal), k0_pay205 (F := Ideal), k0_pay206 (F := Ideal)⟩ j

theorem Sj_m (j : Fin (k0_t3_loop i (BitVec.ofNat 32 n)).trips) (s u : Fin 8) (q : Fin 256) :
    ((Sj x1 x2 x5 x6 x7 i n hw v10 (j.val + 1)).m (ix3 s u q) : EReal) = max ((Sj x1 x2 x5 x6 x7 i n hw v10 j.val).m (ix3 s u q))
      (Finset.univ.sup fun x : Fin 128 => TT (F := Ideal) x1 x2 x5 (kzG x6) i v10 (k0_pay203 0#32 1#32 i) (BitVec.ofNat 32 n) hw (w45 (BitVec.ofNat 32 n)) j s (ix2 x q)) := by
  unfold Sj; rw [st3_succ]
  exact (msM_apply _ _ u q).trans (mNew_apply _ _ u q)

theorem Sj_mu (s u : Fin 8) (q : Fin 256) (j : ℕ) (hj : j ≤ (k0_t3_loop i (BitVec.ofNat 32 n)).trips) :
    ((Sj x1 x2 x5 x6 x7 i n hw v10 j).m (ix3 s u q) : EReal) = (Sj x1 x2 x5 x6 x7 i n hw v10 j).m (ix3 s 0 q) := by
  induction j with
  | zero => exact (p204 s u q).trans (p204 s 0 q).symm
  | succ j ih => rw [Sj_m x1 x2 x5 x6 x7 i n hw v10 ⟨j, hj⟩ s u q, Sj_m x1 x2 x5 x6 x7 i n hw v10 ⟨j, hj⟩ s 0 q]; rw [ih (by omega)]

theorem mN_eq (j : Fin (k0_t3_loop i (BitVec.ofNat 32 n)).trips) (s u : Fin 8) (q : Fin 256) :
    (mNew (TT (F := Ideal) x1 x2 x5 (kzG x6) i v10 (k0_pay203 0#32 1#32 i) (BitVec.ofNat 32 n) hw (w45 (BitVec.ofNat 32 n)) j s) (sl8 (Sj x1 x2 x5 x6 x7 i n hw v10 j.val).m s) (ix2 u q) : EReal)
      = (Sj x1 x2 x5 x6 x7 i n hw v10 (j.val + 1)).m (ix3 s 0 q) := by
  rw [← Sj_mu x1 x2 x5 x6 x7 i n hw v10 s u q (j.val + 1) j.isLt, Sj_m]
  exact mNew_apply _ _ u q

theorem Sj_l (j : Fin (k0_t3_loop i (BitVec.ofNat 32 n)).trips) (s u : Fin 8) (q : Fin 256) :
    ((Sj x1 x2 x5 x6 x7 i n hw v10 (j.val + 1)).l (ix3 s u q) : EReal)
      = (Sj x1 x2 x5 x6 x7 i n hw v10 j.val).l (ix3 s u q) * Ideal.exp2 ((Sj x1 x2 x5 x6 x7 i n hw v10 j.val).m (ix3 s 0 q) - (Sj x1 x2 x5 x6 x7 i n hw v10 (j.val + 1)).m (ix3 s 0 q))
        + ∑ x : Fin 16, Ideal.exp2 (TT (F := Ideal) x1 x2 x5 (kzG x6) i v10 (k0_pay203 0#32 1#32 i) (BitVec.ofNat 32 n) hw (w45 (BitVec.ofNat 32 n)) j s (ix2 (gix x u) q) - (Sj x1 x2 x5 x6 x7 i n hw v10 (j.val + 1)).m (ix3 s 0 q)) := by
  have e : ((Sj x1 x2 x5 x6 x7 i n hw v10 (j.val + 1)).l (ix3 s u q) : EReal) = lsM (TT (F := Ideal) x1 x2 x5 (kzG x6) i v10 (k0_pay203 0#32 1#32 i) (BitVec.ofNat 32 n) hw (w45 (BitVec.ofNat 32 n)) j s)
      (sl8 (Sj x1 x2 x5 x6 x7 i n hw v10 j.val).m s) (sl8 (Sj x1 x2 x5 x6 x7 i n hw v10 j.val).l s) (ix3 0 u q) := by
    unfold Sj; rw [st3_succ]; rfl
  rw [e, lsM_apply, alph_apply]
  simp only [wts_apply, mN_eq]
  rw [← Sj_mu x1 x2 x5 x6 x7 i n hw v10 s u q j.val j.isLt.le]
  rfl

theorem Sj_a (j : Fin (k0_t3_loop i (BitVec.ofNat 32 n)).trips) (s : Fin 8) (d : Fin 64) (q : Fin 256) :
    ((Sj x1 x2 x5 x6 x7 i n hw v10 (j.val + 1)).a (ix3 s d q) : EReal)
      = (Sj x1 x2 x5 x6 x7 i n hw v10 j.val).a (ix3 s d q) * Ideal.exp2 ((Sj x1 x2 x5 x6 x7 i n hw v10 j.val).m (ix3 s 0 q) - (Sj x1 x2 x5 x6 x7 i n hw v10 (j.val + 1)).m (ix3 s 0 q))
        + ∑ x : Fin 128, VM (vtM (F := Ideal) (vtG x7) i (BitVec.ofNat 32 n) hw j) s (ix3 0 d x) * Ideal.exp2 (TT (F := Ideal) x1 x2 x5 (kzG x6) i v10 (k0_pay203 0#32 1#32 i) (BitVec.ofNat 32 n) hw (w45 (BitVec.ofNat 32 n)) j s (ix2 x q) - (Sj x1 x2 x5 x6 x7 i n hw v10 (j.val + 1)).m (ix3 s 0 q)) := by
  have e : ((Sj x1 x2 x5 x6 x7 i n hw v10 (j.val + 1)).a (ix3 s d q) : EReal) = asM (TT (F := Ideal) x1 x2 x5 (kzG x6) i v10 (k0_pay203 0#32 1#32 i) (BitVec.ofNat 32 n) hw (w45 (BitVec.ofNat 32 n)) j s)
      (sl8 (Sj x1 x2 x5 x6 x7 i n hw v10 j.val).m s) (VM (vtM (F := Ideal) (vtG x7) i (BitVec.ofNat 32 n) hw j) s) (sl64 (Sj x1 x2 x5 x6 x7 i n hw v10 j.val).a s) (ix3 0 d q) := by
    unfold Sj; rw [st3_succ]; rfl
  rw [e, asM_apply, alph_apply]
  simp only [wts_apply, mN_eq]
  rfl

include hn in
theorem VM_apply (j : Fin (k0_t3_loop i (BitVec.ofNat 32 n)).trips) (d : Fin 64) (x : Fin 128) :
    (VM (vtM (F := Ideal) (vtG x7) i (BitVec.ofNat 32 n) hw j) (sb kv par) (ix3 0 d x) : EReal) = x7 (ix3 0 (Cert.Soft.ky (n / 128 + j.val) x) ⟨64 * kv.val + d.val, by omega⟩) := by
  have e : VM (vtM (F := Ideal) (vtG x7) i (BitVec.ofNat 32 n) hw j) (sb kv par) = vtM (F := Ideal) (vtG x7) i (BitVec.ofNat 32 n) hw j kv := by
    fin_cases kv <;> fin_cases par <;> rfl
  rw [e, vtM_apply i n hn, vtG_apply, kp_ky]

include hn hdq hv in
/-- One element of the result, undivided and divided: the softmax-weighted sum of the values. -/
theorem col (hnd : n ≤ dq) (y : EReal) (d : Fin 64) :
    (Sj x1 x2 x5 x6 x7 i n hw v10 (k0_t3_loop i (BitVec.ofNat 32 n)).trips).a (ix3 (sb kv par) d (h2 e r))
        * Ideal.div y (∑ u : Fin 8, (Sj x1 x2 x5 x6 x7 i n hw v10 (k0_t3_loop i (BitVec.ofNat 32 n)).trips).l (ix3 (sb kv par) u (h2 e r)))
      = (∑ k : Fin 2048, (x7 (ix3 0 k ⟨64 * kv.val + d.val, by omega⟩) : EReal)
          * (Ideal.exp (Sc x1 x2 x5 x6 dq kv (hd kv par e) (kp i.val (klt i n hn) r) k - Finset.univ.sup (Sc x1 x2 x5 x6 dq kv (hd kv par e) (kp i.val (klt i n hn) r)))
            * Ideal.div 1 (∑ k : Fin 2048, Ideal.exp (Sc x1 x2 x5 x6 dq kv (hd kv par e) (kp i.val (klt i n hn) r) k - Finset.univ.sup (Sc x1 x2 x5 x6 dq kv (hd kv par e) (kp i.val (klt i n hn) r)))))) * y := by
  have hi := klt i n hn
  have h3 := (trips3 i n hn).2
  refine Cert.Soft.row (Sc x1 x2 x5 x6 dq kv (hd kv par e) (kp i.val (klt i n hn) r)) (fun (d : Fin 64) k => (x7 (ix3 0 k ⟨64 * kv.val + d.val, by omega⟩) : EReal)) y
    (fun j => (Sj x1 x2 x5 x6 x7 i n hw v10 j).m (ix3 (sb kv par) 0 (h2 e r))) (fun j u => (Sj x1 x2 x5 x6 x7 i n hw v10 j).l (ix3 (sb kv par) u (h2 e r)))
    (fun j d => (Sj x1 x2 x5 x6 x7 i n hw v10 j).a (ix3 (sb kv par) d (h2 e r))) gix (fun x u => by change x.val * 8 + u.val = _; omega) (n / 128) (k0_t3_loop i (BitVec.ofNat 32 n)).trips (by omega) ?_ (p204 (sb kv par) 0 (h2 e r)) (fun u => p205 (sb kv par) u (h2 e r)) (fun d => p206 (sb kv par) d (h2 e r)) ?_ ?_ ?_ d
  · intro k hk
    refine if_neg fun hc => ?_
    have h1 := hc.1
    have h2 : k.val ≤ 128 * i.val + r.val := hc.2
    have := r.isLt
    omega
  · intro j hj
    refine (Sj_m x1 x2 x5 x6 x7 i n hw v10 ⟨j, hj⟩ (sb kv par) 0 (h2 e r)).trans ?_
    simp only [TT_apply x1 x2 x5 x6 i n hn hw v10 r dq hdq hv kv par e ⟨j, hj⟩]
  · intro j hj u
    refine (Sj_l x1 x2 x5 x6 x7 i n hw v10 ⟨j, hj⟩ (sb kv par) u (h2 e r)).trans ?_
    simp only [TT_apply x1 x2 x5 x6 i n hn hw v10 r dq hdq hv kv par e ⟨j, hj⟩]
  · intro j hj d
    refine (Sj_a x1 x2 x5 x6 x7 i n hw v10 ⟨j, hj⟩ (sb kv par) d (h2 e r)).trans ?_
    simp only [TT_apply x1 x2 x5 x6 i n hn hw v10 r dq hdq hv kv par e ⟨j, hj⟩]
    exact congrArg (_ + ·) (Finset.sum_congr rfl fun x _ => congrArg (· * _) (VM_apply (x7 := x7) (i := i) (n := n) (hn := hn) (hw := hw) (dq := dq) (kv := kv) (par := par) (j := ⟨j, hj⟩) (d := d) (x := x)))
end

end Cert.KernelIdeal.Hand
-- ==== Proof.SegI.lean ====
module

public import proofs.«01_k».proof.Proof.ChkI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
/-- `G` is the maximum of `c` over the `w` places up to each place. -/
def Win (c G : ℕ → ℕ) (w : ℕ) : Prop := ∀ p, (∀ j, j ≤ p → p < j + w → c j ≤ G p) ∧ ∃ j, j ≤ p ∧ p < j + w ∧ G p = c j

theorem win_dbl (g : ℕ → ℕ → ℕ) (c : ℕ → ℕ) (b w : ℕ) (h : Win c (g b) w) : Win c (dbl w g b) (2 * w) := by
  intro p
  obtain ⟨h1, j, hj, hj', e⟩ := h p
  constructor
  · intro j hj hw
    change c j ≤ max (g b p) (if w ≤ p then g b (p - w) else 0)
    by_cases hh : p < j + w
    · exact (h1 j hj hh).trans (le_max_left _ _)
    · rw [if_pos (by omega)]
      exact ((h (p - w)).1 j (by omega) (by omega)).trans (le_max_right _ _)
  · change ∃ j, _ ∧ _ ∧ max (g b p) (if w ≤ p then g b (p - w) else 0) = c j
    by_cases hw : w ≤ p
    · rw [if_pos hw]
      rcases le_total (g b p) (g b (p - w)) with hl | hl
      · rw [max_eq_right hl]
        obtain ⟨_, j', a, b', e'⟩ := h (p - w)
        exact ⟨j', by omega, by omega, e'⟩
      · rw [max_eq_left hl]; exact ⟨j, hj, by omega, e⟩
    · rw [if_neg hw, max_eq_left (Nat.zero_le _)]; exact ⟨j, hj, by omega, e⟩

theorem win_dsN (x4 : S8x2048.Idx → Elt F .i32) (b : ℕ) : Win (ch (sg x4) b) (dsN x4 b) 2048 := by
  have h0 : Win (ch (sg x4) b) (ch (sg x4) b) 1 := fun p => ⟨fun j h1 h2 => by rw [show j = p by omega], p, le_refl _, by omega, rfl⟩
  exact win_dbl _ _ b 1024 (win_dbl _ _ b 512 (win_dbl _ _ b 256 (win_dbl _ _ b 128 (win_dbl _ _ b 64 (win_dbl _ _ b 32 (win_dbl _ _ b 16 (win_dbl _ _ b 8 (win_dbl _ _ b 4 (win_dbl _ _ b 2 (win_dbl _ _ b 1 h0))))))))))

/-- Later places have later document starts. -/
theorem dsN_mono (x4 : S8x2048.Idx → Elt F .i32) (b p q : ℕ) (hpq : p ≤ q) (hq : q < 2048) : dsN x4 b p ≤ dsN x4 b q := by
  obtain ⟨_, j, hj, _, e⟩ := win_dsN x4 b p
  rw [e]
  exact (win_dsN x4 b q).1 j (by omega) (by omega)

/-- At or after the start of a place's document, up to the place: the keys of the place's document. -/
theorem mask_iff (x4 : S8x2048.Idx → Elt F .i32) (b p k : ℕ) (hp : p < 2048) (hk : k ≤ p)
    (hs : ∀ j, j + 1 < 2048 → (sg x4 b j).toInt ≤ (sg x4 b (j + 1)).toInt) : dsN x4 b p ≤ k ↔ sg x4 b k = sg x4 b p := by
  obtain ⟨h1, j, hj, _, e⟩ := win_dsN x4 b p
  have mono : ∀ u v, u ≤ v → v < 2048 → (sg x4 b u).toInt ≤ (sg x4 b v).toInt := by
    intro u v huv
    induction v, huv using Nat.le_induction with
    | base => intro _; exact le_refl _
    | succ v hv ih => intro h; exact (ih (by omega)).trans (hs v h)
  constructor
  · intro hd
    have key : ∀ v, k ≤ v → v ≤ p → sg x4 b k = sg x4 b v := by
      intro v hv
      induction v, hv using Nat.le_induction with
      | base => intro _; rfl
      | succ v hv ih =>
        intro h
        rw [ih (by omega)]
        by_contra hne
        have hc := h1 (v + 1) h (by omega)
        unfold ch at hc
        rw [if_pos ⟨by omega, fun h' => hne (by rw [h']; rfl)⟩] at hc
        omega
    exact key p hk (le_refl _)
  · intro he
    rw [e]
    unfold ch
    by_cases hjk : j ≤ k
    · split <;> omega
    · have a1 := mono k (j - 1) (by omega) (by omega)
      have a2 := mono (j - 1) j (by omega) (by omega)
      have a3 := mono j p hj hp
      rw [he] at a1
      have hh : sg x4 b j = sg x4 b (j - 1) := BitVec.eq_of_toInt_eq (by omega)
      rw [if_neg (fun h' => h'.2 hh)]
      exact Nat.zero_le _

end Cert.KernelIdeal.Hand
-- ==== Proof.OutI.lean ====
module

public import proofs.«01_k».proof.Proof.Col2I
public import proofs.«01_k».proof.Proof.SegI
public import proofs.«01_k».proof.Proof.BodyI
public import Idealize.ShloMosaic.Lib.Pipeline.FrameBody
public import Idealize.ShloMosaic.Lib.Tactic
public import Idealize.ShloMosaic.Lib.Exec
public import Idealize.ShloMosaic.Lib.LoopEntry
public import Idealize.ShloMosaic.Lib.WordCmp
public import Idealize.ShloMosaic.Lib.LoopRemainder
public import Idealize.ShloMosaic.Lib.Ring
public import Idealize.ShloMosaic.Lib.Pointwise.Index
public import Idealize.ShloMosaic.Lib.Writes

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ
theorem ldl (l : S8x8x256.Idx → Elt Ideal .f32) (s : Fin 8) (h : ∀ a, (![s.val, 0, 0] : Fin 3 → ℕ) a + S1x8x256.size a ≤ S8x8x256.size a) (u : Fin 8) (q : Fin 256) :
    View.ld l (Rect.unit (s := S8x8x256) ![s.val, 0, 0] S1x8x256.size h) (ix3 0 u q) = l (ix3 s u q) := by
  refine congrArg l (funext fun a => Fin.ext ?_)
  fin_cases a
  · change s.val + 1 * 0 = s.val; omega
  · change 0 + 1 * u.val = u.val; omega
  · change 0 + 1 * q.val = q.val; omega

theorem lda (m : S8x64x256.Idx → Elt Ideal .f32) (s : Fin 8) (o : ℕ) (h : ∀ a, (![s.val, 0, o] : Fin 3 → ℕ) a + S1x64x128.size a ≤ S8x64x256.size a) (d : Fin 64) (r : Fin 128) (q : Fin 256) (hq : q.val = o + r.val) :
    View.ld m (Rect.unit (s := S8x64x256) ![s.val, 0, o] S1x64x128.size h) (ix3 0 d r) = m (ix3 s d q) := by
  refine congrArg m (funext fun a => Fin.ext ?_)
  fin_cases a
  · change s.val + 1 * 0 = s.val; omega
  · change 0 + 1 * d.val = d.val; omega
  · change o + 1 * r.val = q.val; omega

/-- One element of a finished tile, from the statistics. -/
theorem OT_apply (v : Fin 4 → Ideal .f32) (s : St Ideal) (kv : Fin 4) (par e : Fin 2) (r : Fin 128) (d : Fin 64) (c : Fin 128) (hc : c.val = 64 * par.val + d.val) :
    (OT v s (sb kv e) (ix3 0 r c) : EReal) = s.a (ix3 (sb kv par) d (h2 e r)) * Ideal.div (v kv) (∑ u : Fin 8, s.l (ix3 (sb kv par) u (h2 e r))) := by
  fin_cases kv <;> fin_cases e
  · refine (oA_apply (v 0) _ _ _ _ r par d c hc (h2 0 r) (by change 128 * 0 + r.val = r.val; omega)).trans ?_
    fin_cases par
    · exact congr (congrArg HMul.hMul (lda s.a 0 0 inb_S8x64x256_S1x64x128_0_0_0 d r (h2 0 r) (by change 128 * 0 + r.val = 0 + r.val; omega))) (congrArg (Ideal.div (v 0)) (Finset.sum_congr rfl fun u _ => ldl s.l 0 inb_S8x8x256_S1x8x256_0_0_0 u (h2 0 r)))
    · exact congr (congrArg HMul.hMul (lda s.a 1 0 inb_S8x64x256_S1x64x128_1_0_0 d r (h2 0 r) (by change 128 * 0 + r.val = 0 + r.val; omega))) (congrArg (Ideal.div (v 0)) (Finset.sum_congr rfl fun u _ => ldl s.l 1 inb_S8x8x256_S1x8x256_1_0_0 u (h2 0 r)))
  · refine (oB_apply (v 0) _ _ _ _ r par d c hc (h2 1 r) (by change 128 * 1 + r.val = 128 + r.val; omega)).trans ?_
    fin_cases par
    · exact congr (congrArg HMul.hMul (lda s.a 0 128 inb_S8x64x256_S1x64x128_0_0_128 d r (h2 1 r) (by change 128 * 1 + r.val = 128 + r.val; omega))) (congrArg (Ideal.div (v 0)) (Finset.sum_congr rfl fun u _ => ldl s.l 0 inb_S8x8x256_S1x8x256_0_0_0 u (h2 1 r)))
    · exact congr (congrArg HMul.hMul (lda s.a 1 128 inb_S8x64x256_S1x64x128_1_0_128 d r (h2 1 r) (by change 128 * 1 + r.val = 128 + r.val; omega))) (congrArg (Ideal.div (v 0)) (Finset.sum_congr rfl fun u _ => ldl s.l 1 inb_S8x8x256_S1x8x256_1_0_0 u (h2 1 r)))
  · refine (oA_apply (v 1) _ _ _ _ r par d c hc (h2 0 r) (by change 128 * 0 + r.val = r.val; omega)).trans ?_
    fin_cases par
    · exact congr (congrArg HMul.hMul (lda s.a 2 0 inb_S8x64x256_S1x64x128_2_0_0 d r (h2 0 r) (by change 128 * 0 + r.val = 0 + r.val; omega))) (congrArg (Ideal.div (v 1)) (Finset.sum_congr rfl fun u _ => ldl s.l 2 inb_S8x8x256_S1x8x256_2_0_0 u (h2 0 r)))
    · exact congr (congrArg HMul.hMul (lda s.a 3 0 inb_S8x64x256_S1x64x128_3_0_0 d r (h2 0 r) (by change 128 * 0 + r.val = 0 + r.val; omega))) (congrArg (Ideal.div (v 1)) (Finset.sum_congr rfl fun u _ => ldl s.l 3 inb_S8x8x256_S1x8x256_3_0_0 u (h2 0 r)))
  · refine (oB_apply (v 1) _ _ _ _ r par d c hc (h2 1 r) (by change 128 * 1 + r.val = 128 + r.val; omega)).trans ?_
    fin_cases par
    · exact congr (congrArg HMul.hMul (lda s.a 2 128 inb_S8x64x256_S1x64x128_2_0_128 d r (h2 1 r) (by change 128 * 1 + r.val = 128 + r.val; omega))) (congrArg (Ideal.div (v 1)) (Finset.sum_congr rfl fun u _ => ldl s.l 2 inb_S8x8x256_S1x8x256_2_0_0 u (h2 1 r)))
    · exact congr (congrArg HMul.hMul (lda s.a 3 128 inb_S8x64x256_S1x64x128_3_0_128 d r (h2 1 r) (by change 128 * 1 + r.val = 128 + r.val; omega))) (congrArg (Ideal.div (v 1)) (Finset.sum_congr rfl fun u _ => ldl s.l 3 inb_S8x8x256_S1x8x256_3_0_0 u (h2 1 r)))
  · refine (oA_apply (v 2) _ _ _ _ r par d c hc (h2 0 r) (by change 128 * 0 + r.val = r.val; omega)).trans ?_
    fin_cases par
    · exact congr (congrArg HMul.hMul (lda s.a 4 0 inb_S8x64x256_S1x64x128_4_0_0 d r (h2 0 r) (by change 128 * 0 + r.val = 0 + r.val; omega))) (congrArg (Ideal.div (v 2)) (Finset.sum_congr rfl fun u _ => ldl s.l 4 inb_S8x8x256_S1x8x256_4_0_0 u (h2 0 r)))
    · exact congr (congrArg HMul.hMul (lda s.a 5 0 inb_S8x64x256_S1x64x128_5_0_0 d r (h2 0 r) (by change 128 * 0 + r.val = 0 + r.val; omega))) (congrArg (Ideal.div (v 2)) (Finset.sum_congr rfl fun u _ => ldl s.l 5 inb_S8x8x256_S1x8x256_5_0_0 u (h2 0 r)))
  · refine (oB_apply (v 2) _ _ _ _ r par d c hc (h2 1 r) (by change 128 * 1 + r.val = 128 + r.val; omega)).trans ?_
    fin_cases par
    · exact congr (congrArg HMul.hMul (lda s.a 4 128 inb_S8x64x256_S1x64x128_4_0_128 d r (h2 1 r) (by change 128 * 1 + r.val = 128 + r.val; omega))) (congrArg (Ideal.div (v 2)) (Finset.sum_congr rfl fun u _ => ldl s.l 4 inb_S8x8x256_S1x8x256_4_0_0 u (h2 1 r)))
    · exact congr (congrArg HMul.hMul (lda s.a 5 128 inb_S8x64x256_S1x64x128_5_0_128 d r (h2 1 r) (by change 128 * 1 + r.val = 128 + r.val; omega))) (congrArg (Ideal.div (v 2)) (Finset.sum_congr rfl fun u _ => ldl s.l 5 inb_S8x8x256_S1x8x256_5_0_0 u (h2 1 r)))
  · refine (oA_apply (v 3) _ _ _ _ r par d c hc (h2 0 r) (by change 128 * 0 + r.val = r.val; omega)).trans ?_
    fin_cases par
    · exact congr (congrArg HMul.hMul (lda s.a 6 0 inb_S8x64x256_S1x64x128_6_0_0 d r (h2 0 r) (by change 128 * 0 + r.val = 0 + r.val; omega))) (congrArg (Ideal.div (v 3)) (Finset.sum_congr rfl fun u _ => ldl s.l 6 inb_S8x8x256_S1x8x256_6_0_0 u (h2 0 r)))
    · exact congr (congrArg HMul.hMul (lda s.a 7 0 inb_S8x64x256_S1x64x128_7_0_0 d r (h2 0 r) (by change 128 * 0 + r.val = 0 + r.val; omega))) (congrArg (Ideal.div (v 3)) (Finset.sum_congr rfl fun u _ => ldl s.l 7 inb_S8x8x256_S1x8x256_7_0_0 u (h2 0 r)))
  · refine (oB_apply (v 3) _ _ _ _ r par d c hc (h2 1 r) (by change 128 * 1 + r.val = 128 + r.val; omega)).trans ?_
    fin_cases par
    · exact congr (congrArg HMul.hMul (lda s.a 6 128 inb_S8x64x256_S1x64x128_6_0_128 d r (h2 1 r) (by change 128 * 1 + r.val = 128 + r.val; omega))) (congrArg (Ideal.div (v 3)) (Finset.sum_congr rfl fun u _ => ldl s.l 6 inb_S8x8x256_S1x8x256_6_0_0 u (h2 1 r)))
    · exact congr (congrArg HMul.hMul (lda s.a 7 128 inb_S8x64x256_S1x64x128_7_0_128 d r (h2 1 r) (by change 128 * 1 + r.val = 128 + r.val; omega))) (congrArg (Ideal.div (v 3)) (Finset.sum_congr rfl fun u _ => ldl s.l 7 inb_S8x8x256_S1x8x256_7_0_0 u (h2 1 r)))

theorem stF_eq (i : grid0.Coords) (x1 : S16.Idx → Elt Ideal .f32) (x2 : S4.Idx → Elt Ideal .f32) (x5 : S1x2048x1024.Idx → Elt Ideal .fp8e4m3) (x9 x10 : S16x8x128.Idx → Elt Ideal .i32)
    (x11 : S4x16x256x128.Idx → Elt Ideal .fp8e4m3) (x12 : S16x256x128.Idx → Elt Ideal .bf16) (hw : ∀ k, k0_chk1 k (w28 (F := Ideal) i x10 k)) (k : Fin k0_t2_loop.trips) (w : BitVec 32) (hk : k0_chk1 k w) (e : w28 (F := Ideal) i x10 k = w) :
    stF (F := Ideal) i x1 x2 x5 x9 x10 x11 x12 hw k = st3 (F := Ideal) x1 x2 x5 x11 x12 k (k0_pay202 (F := Ideal) (View.ld x9 (Rect.unit (s := S16x8x128) (k0_off13 i k) S1x1x128.size (k0_off13_inb i k)))) (k0_pay203 0#32 1#32 k) w hk (w45 w)
      ⟨k0_pay204 (F := Ideal), k0_pay205 (F := Ideal), k0_pay206 (F := Ideal)⟩ (k0_t3_loop k w).trips := by
  subst e; rfl

theorem v10_apply (i : grid0.Coords) (x4 : S8x2048.Idx → Elt Ideal .i32) (k : Fin k0_t2_loop.trips) (r : Fin 128) :
    k0_pay202 (F := Ideal) (View.ld (DSM (F := Ideal) x4) (Rect.unit (s := S16x8x128) (k0_off13 i k) S1x1x128.size (k0_off13_inb i k))) (ix2 0 r) = BitVec.ofNat 32 (dsN (F := Ideal) x4 (i 0).val (128 * k.val + r.val)) := by
  have hi : (i 0).val < 8 := (i 0).isLt
  have hk : k.val < 16 := k.isLt
  have e1 : k0_pay202 (F := Ideal) (View.ld (DSM (F := Ideal) x4) (Rect.unit (s := S16x8x128) (k0_off13 i k) S1x1x128.size (k0_off13_inb i k))) (ix2 0 r) = View.ld (DSM (F := Ideal) x4) (Rect.unit (s := S16x8x128) (k0_off13 i k) S1x1x128.size (k0_off13_inb i k)) (ix3 0 0 r) := by
    pointwise [k0_pay202]
  rw [e1]
  have e : View.ld (DSM (F := Ideal) x4) (Rect.unit (s := S16x8x128) (k0_off13 i k) S1x1x128.size (k0_off13_inb i k)) (ix3 0 0 r)
      = DSM (F := Ideal) x4 (ix3 ⟨k.val, hk⟩ ⟨(i 0).val, hi⟩ r) := by
    refine congrArg (DSM (F := Ideal) x4) (funext fun a => Fin.ext ?_)
    have eo := congrFun (k0_off13_eq i k) a
    change k0_off13 i k a + 1 * _ = _
    rw [eo]
    fin_cases a
    · change k.val + 1 * 0 = k.val; omega
    · change (i 0).val + 1 * 0 = (i 0).val; omega
    · change 0 + 1 * r.val = r.val; omega
  rw [e]
  exact DSM_eq (F := Ideal) x4 (ix3 ⟨k.val, hk⟩ ⟨(i 0).val, hi⟩ r)

/-- One score under the mask: the keys up to the query, of the query's document. -/
abbrev Scd (x1 : S16.Idx → Elt Ideal .f32) (x2 : S4.Idx → Elt Ideal .f32) (x4 : S8x2048.Idx → Elt Ideal .i32) (x5 : S1x2048x1024.Idx → Elt Ideal .fp8e4m3) (x6 : S1x2048x256.Idx → Elt Ideal .fp8e4m3) (b : Fin 8) (kv : Fin 4) (h : Fin 16) (p k : Fin 2048) : EReal :=
  if k.val ≤ p.val ∧ x4 (ix2 b k) = x4 (ix2 b p) then (∑ d : Fin 64, (x6 (ix3 0 k ⟨64 * kv.val + d.val, by omega⟩) : EReal) * x5 (ix3 0 p ⟨64 * h.val + d.val, by omega⟩)) * ((x1 (ix1 h) : EReal) * x2 (ix1 kv) * ((1 / 8 : ℝ) : EReal)) else ⊥

theorem Sc_eq (x1 : S16.Idx → Elt Ideal .f32) (x2 : S4.Idx → Elt Ideal .f32) (x4 : S8x2048.Idx → Elt Ideal .i32) (x5 : S1x2048x1024.Idx → Elt Ideal .fp8e4m3) (x6 : S1x2048x256.Idx → Elt Ideal .fp8e4m3) (b : Fin 8) (kv : Fin 4) (h : Fin 16) (p : Fin 2048)
    (hs : ∀ j, j + 1 < 2048 → (sg (F := Ideal) x4 b.val j).toInt ≤ (sg (F := Ideal) x4 b.val (j + 1)).toInt) :
    Sc x1 x2 x5 x6 (dsN (F := Ideal) x4 b.val p.val) kv h p = Scd x1 x2 x4 x5 x6 b kv h p := by
  funext k
  unfold Sc Scd
  refine if_congr ?_ rfl rfl
  have e : ∀ q : Fin 2048, sg (F := Ideal) x4 b.val q.val = x4 (ix2 b q) := fun q => sg_eq (F := Ideal) x4 (ix2 b q)
  rw [← e k, ← e p]
  constructor
  · rintro ⟨h1, h2⟩; exact ⟨h2, (mask_iff (F := Ideal) x4 b.val p.val k.val p.isLt h2 hs).1 h1⟩
  · rintro ⟨h1, h2⟩; exact ⟨(mask_iff (F := Ideal) x4 b.val p.val k.val p.isLt h1 hs).2 h2, h1⟩

/-- One element of a block of queries. -/
theorem tile_apply (i : grid0.Coords) (x1 : S16.Idx → Elt Ideal .f32) (x2 x3 : S4.Idx → Elt Ideal .f32) (x5 : S1x2048x1024.Idx → Elt Ideal .fp8e4m3) (x6 x7 : S1x2048x256.Idx → Elt Ideal .fp8e4m3) (x9 : S16x8x128.Idx → Elt Ideal .i32)
    (hw : ∀ k, k0_chk1 k (w28 (F := Ideal) i x9 k)) (k : Fin k0_t2_loop.trips) (n dq : ℕ) (hn : n ≤ 128 * k.val) (hnd : n ≤ dq) (hdq : dq < 2048) (e28 : w28 (F := Ideal) i x9 k = BitVec.ofNat 32 n) (r : Fin 128)
    (hv : k0_pay202 (F := Ideal) (View.ld x9 (Rect.unit (s := S16x8x128) (k0_off13 i k) S1x1x128.size (k0_off13_inb i k))) (ix2 0 r) = BitVec.ofNat 32 dq) (kv : Fin 4) (par e : Fin 2) (d : Fin 64) (c : Fin 128) (hc : c.val = 64 * par.val + d.val) :
    (OT (ksM x3) (stF (F := Ideal) i x1 x2 x5 x9 x9 (kzG x6) (vtG x7) hw k) (sb kv e) (ix3 0 r c) : EReal)
      = (∑ k' : Fin 2048, (x7 (ix3 0 k' ⟨64 * kv.val + d.val, by omega⟩) : EReal)
          * (Ideal.exp (Sc x1 x2 x5 x6 dq kv (hd kv par e) (kp k.val (klt k n hn) r) k' - Finset.univ.sup (Sc x1 x2 x5 x6 dq kv (hd kv par e) (kp k.val (klt k n hn) r)))
            * Ideal.div 1 (∑ k' : Fin 2048, Ideal.exp (Sc x1 x2 x5 x6 dq kv (hd kv par e) (kp k.val (klt k n hn) r) k' - Finset.univ.sup (Sc x1 x2 x5 x6 dq kv (hd kv par e) (kp k.val (klt k n hn) r)))))) * x3 (ix1 kv) := by
  rw [OT_apply _ _ kv par e r d c hc, stF_eq i x1 x2 x5 _ _ _ _ _ _ (BitVec.ofNat 32 n) (chk1_of k n hn) e28, ksM_apply]
  exact col x1 x2 x5 x6 x7 k n hn (chk1_of k n hn) _ r dq hdq hv kv par e hnd (x3 (ix1 kv)) d

/-- The same, the mask spelled by documents. -/
theorem outK_apply (i : grid0.Coords) (b : Fin 8) (hb : b.val = (i 0).val) (x1 : S16.Idx → Elt Ideal .f32) (x2 x3 : S4.Idx → Elt Ideal .f32) (x4 : S8x2048.Idx → Elt Ideal .i32) (x5 : S1x2048x1024.Idx → Elt Ideal .fp8e4m3) (x6 x7 : S1x2048x256.Idx → Elt Ideal .fp8e4m3)
    (hs : ∀ j, j + 1 < 2048 → (sg (F := Ideal) x4 b.val j).toInt ≤ (sg (F := Ideal) x4 b.val (j + 1)).toInt) (kv : Fin 4) (par e : Fin 2) (d : Fin 64) (p : Fin 2048) (k : Fin k0_t2_loop.trips) (r : Fin 128) (hp : 128 * k.val + r.val = p.val) (c : Fin 128) (hc : c.val = 64 * par.val + d.val) :
    (OT (ksM x3) (stF (F := Ideal) i x1 x2 x5 (DSM (F := Ideal) x4) (DSM (F := Ideal) x4) (kzG x6) (vtG x7) (hwDS i x4) k) (sb kv e) (ix3 0 r c) : EReal)
      = (∑ k' : Fin 2048, (x7 (ix3 0 k' ⟨64 * kv.val + d.val, by omega⟩) : EReal)
          * (Ideal.exp (Scd x1 x2 x4 x5 x6 b kv (hd kv par e) p k' - Finset.univ.sup (Scd x1 x2 x4 x5 x6 b kv (hd kv par e) p))
            * Ideal.div 1 (∑ k' : Fin 2048, Ideal.exp (Scd x1 x2 x4 x5 x6 b kv (hd kv par e) p k' - Finset.univ.sup (Scd x1 x2 x4 x5 x6 b kv (hd kv par e) p))))) * x3 (ix1 kv) := by
  have hn := dsN_le (F := Ideal) x4 (i 0).val (128 * k.val)
  have hp' := p.isLt
  have hm : dsN (F := Ideal) x4 (i 0).val (128 * k.val) ≤ dsN (F := Ideal) x4 (i 0).val (128 * k.val + r.val) := dsN_mono (F := Ideal) x4 _ _ _ (Nat.le_add_right _ _) (by omega)
  have hdq : dsN (F := Ideal) x4 (i 0).val (128 * k.val + r.val) < 2048 := lt_of_le_of_lt (dsN_le (F := Ideal) x4 (i 0).val (128 * k.val + r.val)) (by omega)
  have ek : kp k.val (klt k _ hn) r = p := Fin.ext hp
  have ht := tile_apply i x1 x2 x3 x5 x6 x7 (DSM (F := Ideal) x4) (hwDS i x4) k _ _ hn hm hdq (w28_DSM (F := Ideal) i x4 k) r (v10_apply i x4 k r) kv par e d c hc
  rw [ek, hp, ← hb, Sc_eq x1 x2 x4 x5 x6 b kv (hd kv par e) p hs] at ht
  exact ht

theorem outF_eq (i : grid0.Coords) (x1 : S16.Idx → Elt Ideal .f32) (x2 x3 : S4.Idx → Elt Ideal .f32) (x4 : S8x2048.Idx → Elt Ideal .i32) (x5 : S1x2048x1024.Idx → Elt Ideal .fp8e4m3) (x6 x7 : S1x2048x256.Idx → Elt Ideal .fp8e4m3)
    (p : Fin 2048) (y : Fin 1024) (k : Fin k0_t2_loop.trips) (r c : Fin 128) (t : Fin 8) (hk : p.val / 128 = k.val) (hr : p.val % 128 = r.val) (ht : y.val / 128 = t.val) (hc : y.val % 128 = c.val) :
    outF (F := Ideal) i x1 x2 x3 x4 x5 x6 x7 (ix3 0 p y) = OT (ksM x3) (stF (F := Ideal) i x1 x2 x5 (DSM (F := Ideal) x4) (DSM (F := Ideal) x4) (kzG x6) (vtG x7) (hwDS i x4) k) t (ix3 0 r c) := by
  obtain ⟨k, hk'⟩ := k
  obtain ⟨r, hr'⟩ := r
  obtain ⟨c, hc'⟩ := c
  obtain ⟨t, ht'⟩ := t
  change _ = k at hk; change _ = r at hr; change _ = t at ht; change _ = c at hc
  subst hk; subst hr; subst ht; subst hc
  unfold outF outM
  rfl

/-- One element of the kernel's block: the softmax-weighted sum of the values. -/
theorem outF_apply (i : grid0.Coords) (b : Fin 8) (hb : b.val = (i 0).val) (x1 : S16.Idx → Elt Ideal .f32) (x2 x3 : S4.Idx → Elt Ideal .f32) (x4 : S8x2048.Idx → Elt Ideal .i32) (x5 : S1x2048x1024.Idx → Elt Ideal .fp8e4m3) (x6 x7 : S1x2048x256.Idx → Elt Ideal .fp8e4m3)
    (hs : ∀ j, j + 1 < 2048 → (sg (F := Ideal) x4 b.val j).toInt ≤ (sg (F := Ideal) x4 b.val (j + 1)).toInt) (kv : Fin 4) (par e : Fin 2) (d : Fin 64) (p : Fin 2048) (y : Fin 1024) (hy : y.val = 64 * (4 * kv.val + (2 * e.val + par.val)) + d.val) :
    (outF (F := Ideal) i x1 x2 x3 x4 x5 x6 x7 (ix3 0 p y) : EReal)
      = (∑ k' : Fin 2048, (x7 (ix3 0 k' ⟨64 * kv.val + d.val, by omega⟩) : EReal)
          * (Ideal.exp (Scd x1 x2 x4 x5 x6 b kv (hd kv par e) p k' - Finset.univ.sup (Scd x1 x2 x4 x5 x6 b kv (hd kv par e) p))
            * Ideal.div 1 (∑ k' : Fin 2048, Ideal.exp (Scd x1 x2 x4 x5 x6 b kv (hd kv par e) p k' - Finset.univ.sup (Scd x1 x2 x4 x5 x6 b kv (hd kv par e) p))))) * x3 (ix1 kv) := by
  have hp := p.isLt
  have hk : p.val / 128 < k0_t2_loop.trips := Nat.div_lt_of_lt_mul p.isLt
  refine (outF_eq i x1 x2 x3 x4 x5 x6 x7 p y ⟨p.val / 128, hk⟩ ⟨p.val % 128, Nat.mod_lt _ (by decide)⟩ ⟨y.val % 128, Nat.mod_lt _ (by decide)⟩ (sb kv e) rfl rfl (by change y.val / 128 = 2 * kv.val + e.val; omega) rfl).trans ?_
  exact outK_apply i b hb x1 x2 x3 x4 x5 x6 x7 hs kv par e d p ⟨p.val / 128, hk⟩ ⟨p.val % 128, Nat.mod_lt _ (by decide)⟩ (by change 128 * (p.val / 128) + p.val % 128 = p.val; omega) _ (by change y.val % 128 = 64 * par.val + d.val; omega)

end Cert.KernelIdeal.Hand
-- ==== Proof.Alg.lean ====
module

public import proofs.«01_k».proof.Defs
public import proofs.«01_k».proof.Proof.RefVal
public import proofs.«01_k».proof.Proof.OutI
public import proofs.«01_k».proof.Proof.FrameI
public import Idealize.ShloMosaic.Lib.Pipeline.ValueKit
public import Idealize.ShloMosaic.Lib.ReduceAll

@[expose] public section

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.Sem

variable (m : (ℓ : Loc nD τ sig) → Buf (Elt Ideal) ℓ)

/-- The array of the results, index by index. -/
def KV (c : Dev nD) (y : S8x2048x1024.Idx) : EReal :=
  Cert.ReferenceIdeal.Hand.res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
    (y 0) ⟨(y 2).val / 256, by have : (y 2).val < 1024 := (y 2).isLt; omega⟩ ⟨(y 2).val / 64 % 4, by omega⟩ ⟨(y 2).val % 64, by omega⟩ (y 1)

theorem idx0 : ∀ t : Fin cfg0.N, win0_0.index t = ![0] := by decide +kernel
theorem idx1 : ∀ t : Fin cfg0.N, win0_1.index t = ![0] := by decide +kernel
theorem idx2 : ∀ t : Fin cfg0.N, win0_2.index t = ![0] := by decide +kernel
theorem idx3 : ∀ t : Fin cfg0.N, win0_3.index t = ![0, 0] := by decide +kernel
theorem idx4 : ∀ t : Fin cfg0.N, win0_4.index t = ![(grid0.coords t 0).val, 0, 0] := by decide +kernel
theorem idx5 : ∀ t : Fin cfg0.N, win0_5.index t = ![(grid0.coords t 0).val, 0, 0] := by decide +kernel
theorem idx6 : ∀ t : Fin cfg0.N, win0_6.index t = ![(grid0.coords t 0).val, 0, 0] := by decide +kernel
theorem idx7 : ∀ t : Fin cfg0.N, win0_7.index t = ![(grid0.coords t 0).val, 0, 0] := by decide +kernel

theorem iblk0 (c : Dev nD) (t : Fin cfg0.N) (h : Fin 16) : iblk m c 0 t (ix1 h) = m ((c.tc : Thread nD τ).loc main_arg3) (ix1 h) := by
  blk_ext [iblk, V, idx0 t]

theorem iblk1 (c : Dev nD) (t : Fin cfg0.N) (h : Fin 4) : iblk m c 1 t (ix1 h) = m ((c.tc : Thread nD τ).loc main_arg4) (ix1 h) := by
  blk_ext [iblk, V, idx1 t]

theorem iblk2 (c : Dev nD) (t : Fin cfg0.N) (h : Fin 4) : iblk m c 2 t (ix1 h) = m ((c.tc : Thread nD τ).loc main_arg5) (ix1 h) := by
  blk_ext [iblk, V, idx2 t]

theorem iblk3 (c : Dev nD) (t : Fin cfg0.N) (b : Fin 8) (p : Fin 2048) : iblk m c 3 t (ix2 b p) = m ((c.tc : Thread nD τ).loc main_arg6) (ix2 b p) := by
  blk_ext [iblk, V, idx3 t]

theorem iblk4 (c : Dev nD) (t : Fin cfg0.N) (b : Fin 8) (hb : b.val = (grid0.coords t 0).val) (p : Fin 2048) (z : Fin 1024) : iblk m c 4 t (ix3 0 p z) = m ((c.tc : Thread nD τ).loc main_arg0) (ix3 b p z) := by
  blk_ext [iblk, V, idx4 t, hb]

theorem iblk5 (c : Dev nD) (t : Fin cfg0.N) (b : Fin 8) (hb : b.val = (grid0.coords t 0).val) (p : Fin 2048) (z : Fin 256) : iblk m c 5 t (ix3 0 p z) = m ((c.tc : Thread nD τ).loc main_arg1) (ix3 b p z) := by
  blk_ext [iblk, V, idx5 t, hb]

theorem iblk6 (c : Dev nD) (t : Fin cfg0.N) (b : Fin 8) (hb : b.val = (grid0.coords t 0).val) (p : Fin 2048) (z : Fin 256) : iblk m c 6 t (ix3 0 p z) = m ((c.tc : Thread nD τ).loc main_arg2) (ix3 b p z) := by
  blk_ext [iblk, V, idx6 t, hb]

open Cert.ReferenceIdeal.Hand (res att scr raw)

/-- The words of a document row never fall. -/
theorem pre_seg [hPre_contiguous : Cert.Pre_contiguous.Facts] (h : Cert.Pre_KernelIdeal_contiguous m) (c : Dev nD) (b : Fin 8) (j : ℕ) (hj : j + 1 < 2048) :
    ((m ((c.tc : Thread nD τ).loc main_arg6) : S8x2048.Idx → BitVec 32) (ix2 b ⟨j, by omega⟩)).toInt ≤ ((m ((c.tc : Thread nD τ).loc main_arg6) : S8x2048.Idx → BitVec 32) (ix2 b ⟨j + 1, hj⟩)).toInt := by
  have h1 := congrFun (h c) ix0
  dsimp only [Cert.Pre_contiguous.fn] at h1
  haveI : Subsingleton (Cert.Pre_contiguous.S_).Idx := ⟨fun a b => funext fun x => x.elim0⟩
  have h2 := Host.reduce_andi_all _ _ _ _ _ h1 (ix2 b ⟨j, by omega⟩)
  have h3 : cmpi (w := 32) .sle (extractStridedSlice Cert.Pre_contiguous.S8x2047 ![0, 0] (m ((c.tc : Thread nD τ).loc main_arg6)) hPre_contiguous.slices_S8x2048_S8x2047_0_0) (extractStridedSlice Cert.Pre_contiguous.S8x2047 ![0, 1] (m ((c.tc : Thread nD τ).loc main_arg6)) hPre_contiguous.slices_S8x2048_S8x2047_0_1) (ix2 b ⟨j, by omega⟩)
      = IntOp.cmpi .sle ((m ((c.tc : Thread nD τ).loc main_arg6) : S8x2048.Idx → BitVec 32) (ix2 b ⟨j, by omega⟩)) ((m ((c.tc : Thread nD τ).loc main_arg6) : S8x2048.Idx → BitVec 32) (ix2 b ⟨j + 1, hj⟩)) := by
    pointwise
    simp only [Nat.add_comm 1 j]
  rw [h3, WordCmp.cmpi_sle_eq] at h2
  by_contra hne
  rw [decide_eq_false hne] at h2
  exact absurd h2 (by decide)

theorem outF_res (c : Dev nD) (t : Fin cfg0.N) (b : Fin 8) (hb : b.val = (grid0.coords t 0).val)
    (hs : ∀ j (hj : j + 1 < 2048), ((m ((c.tc : Thread nD τ).loc main_arg6) : S8x2048.Idx → BitVec 32) (ix2 b ⟨j, by omega⟩)).toInt ≤ ((m ((c.tc : Thread nD τ).loc main_arg6) : S8x2048.Idx → BitVec 32) (ix2 b ⟨j + 1, hj⟩)).toInt)
    (kv : Fin 4) (par e : Fin 2) (d : Fin 64) (p : Fin 2048) (y : Fin 1024) (hy : y.val = 64 * (4 * kv.val + (2 * e.val + par.val)) + d.val) :
    (outF (F := Ideal) (grid0.coords t) (iblk m c 0 t) (iblk m c 1 t) (iblk m c 2 t) (iblk m c 3 t) (iblk m c 4 t) (iblk m c 5 t) (iblk m c 6 t) (ix3 0 p y) : EReal)
      = res (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6))
        b kv ⟨2 * e.val + par.val, by omega⟩ d p := by
  have hs' : ∀ j, j + 1 < 2048 → (sg (F := Ideal) (iblk m c 3 t) b.val j).toInt ≤ (sg (F := Ideal) (iblk m c 3 t) b.val (j + 1)).toInt := by
    intro j hj
    unfold sg
    rw [dif_pos ⟨b.isLt, by omega⟩, dif_pos ⟨b.isLt, hj⟩]
    have h1 := iblk3 m c t b ⟨j, by omega⟩
    have h2 := iblk3 m c t b ⟨j + 1, hj⟩
    have h3 := hs j hj
    rw [← h1, ← h2] at h3
    exact h3
  refine (outF_apply (grid0.coords t) b hb _ _ _ _ _ _ _ hs' kv par e d p y hy).trans ?_
  have hSc : Scd (iblk m c 0 t) (iblk m c 1 t) (iblk m c 3 t) (iblk m c 4 t) (iblk m c 5 t) b kv (hd kv par e) p
      = scr (m ((c.tc : Thread nD τ).loc main_arg0)) (m ((c.tc : Thread nD τ).loc main_arg1)) (m ((c.tc : Thread nD τ).loc main_arg3)) (m ((c.tc : Thread nD τ).loc main_arg4)) (m ((c.tc : Thread nD τ).loc main_arg6)) b kv ⟨2 * e.val + par.val, by omega⟩ p := by
    funext k
    unfold Scd scr raw
    rw [iblk3, iblk3, iblk0, iblk1]
    simp only [iblk4 m c t b hb, iblk5 m c t b hb]
    rfl
  rw [hSc, iblk2]
  simp only [iblk6 m c t b hb]
  rfl

theorem kres [hPre_contiguous : Cert.Pre_contiguous.Facts] (hpre : Cert.Pre_KernelIdeal_contiguous m) (c : Dev nD) : (dats m 0 c).arrAt 7 (cfgs 0).N = KV m c := by
  refine (dats m 0 c).arrAt_eq_of_covers 7 _ (by decide +kernel) fun t hf y => ?_
  blk_simp
  rw [after0_7]
  revert y
  intro (y : S1x2048x1024.Idx)
  idx_vars y
  have hb : (⟨(grid0.coords t 0).val, (grid0.coords t 0).isLt⟩ : Fin 8).val = (grid0.coords t 0).val := rfl
  have he : (win0_7.blk t).view.emb (ix3 y0 y1 y2) = ix3 (⟨(grid0.coords t 0).val, (grid0.coords t 0).isLt⟩ : Fin 8) y1 y2 := by
    blk_ext [idx7 t]
  rw [he]
  have y0e : y0 = 0 := Subsingleton.elim _ _
  subst y0e
  refine (outF_res m c t ⟨(grid0.coords t 0).val, (grid0.coords t 0).isLt⟩ hb (fun j hj => pre_seg m hpre c _ j hj) ⟨y2.val / 256, by omega⟩ ⟨y2.val / 64 % 2, by omega⟩ ⟨y2.val / 128 % 2, by omega⟩ ⟨y2.val % 64, by omega⟩ y1 y2
    (by change y2.val = 64 * (4 * (y2.val / 256) + (2 * (y2.val / 128 % 2) + y2.val / 64 % 2)) + y2.val % 64; omega)).trans ?_
  have eg : (⟨2 * (y2.val / 128 % 2) + y2.val / 64 % 2, by omega⟩ : Fin 4) = ⟨y2.val / 64 % 4, by omega⟩ := Fin.ext (by change 2 * (y2.val / 128 % 2) + y2.val / 64 % 2 = y2.val / 64 % 4; omega)
  unfold KV
  exact congrArg (fun g => res _ _ _ _ _ _ _ _ _ g _ _) eg

theorem run_val [hPre_contiguous : Cert.Pre_contiguous.Facts] (hpre : Cert.Pre_KernelIdeal_contiguous m) (g : Dev nD → PrngReg) :
    θ_run (defs (F := Ideal)) (onTc (τ := τ) (main (F := Ideal))) ⟨m, fun _ => 0, g⟩ (fun r => ∀ c : Dev nD,
      r.2.mem ((c.tc : Thread nD τ).loc main_v0) = KV m c) := by
  run_from (((θ_run (defs (F := Ideal)) _ _).mono (fun _ h => h.1) (run_main m g)) : θ_run (defs (F := Ideal)) (onTc (τ := τ) (main (F := Ideal))) ⟨m, fun _ => 0, g⟩ (Pipeline.FramePost cfgs (dats m) 0 (V m)))
  exact kres m hpre c

end Cert.KernelIdeal.Hand
-- ==== Proof.Algebraic.lean ====
/- The equality of the kernel's result with the reference's over the extended reals, and the frames under the
   precondition. -/
module

public import proofs.«01_k».proof.Defs
public import proofs.«01_k».proof.Proof.Alg
public import proofs.«01_k».proof.Proof.Frames

@[expose] public section

noncomputable section

namespace Cert.Hand

open Idealize.ShloMosaic Idealize.ShloMosaic.TcCoe Idealize.ShloMosaic.Tactic Idealize.SL Idealize.SL.Sem

/-- The shapes the precondition slices and reduces fit. -/
theorem pre_facts : Cert.Pre_contiguous.Facts := ⟨by decide, by decide, by decide, by decide⟩

/-- The frame of the kernel, of arguments the precondition holds of. -/
theorem frame_pi_pre : Cert.quiescent_KernelIdeal_pre_contiguous (hKernelIdeal := Cert.KernelIdeal.Gen.facts) (hPre_contiguous := pre_facts) :=
  fun m g _ => Cert.KernelIdeal.Hand.frame m g

/-- The frame of the reference, of arguments the precondition holds of. -/
theorem frame_ri_pre : Cert.quiescent_ReferenceIdeal_pre_contiguous (hReferenceIdeal := Cert.ReferenceIdeal.Gen.facts) (hPre_contiguous := pre_facts) :=
  fun m g _ => Cert.ReferenceIdeal.Gen.frame m g

/-- From equal arguments, the kernel's formula and the reference's give one array. -/
theorem RV_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev 1)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Hand.RV m' c = Cert.KernelIdeal.Hand.KV m c := by
  funext y
  unfold Cert.ReferenceIdeal.Hand.RV Cert.KernelIdeal.Hand.KV
  rw [h0, h1, h2, h3, h4, h5, h6]

/-- The kernel and the reference, run from equal arguments whose document words never fall along a row, leave equal
    results. -/
theorem algebraic : Cert.algebraic_KernelIdeal_ReferenceIdeal_pre_contiguous (hKernelIdeal := Cert.KernelIdeal.Gen.facts) (hReferenceIdeal := Cert.ReferenceIdeal.Gen.facts) (hPre_contiguous := pre_facts) := by
  intro m g m' g' hpre hargs
  haveI := pre_facts
  refine ⟨fun c => Cert.KernelIdeal.Hand.KV m c, ?_, ?_⟩
  · run_from (Cert.KernelIdeal.Hand.run_val m hpre g) & (Cert.KernelIdeal.Hand.frame m g)
  · run_from (Cert.ReferenceIdeal.Hand.run_val m' g') & (Cert.ReferenceIdeal.Gen.frame m' g')
    obtain ⟨h0, h1, h2, h3, h4, h5, h6⟩ := hargs c
    exact RV_eq m m' c h0 h1 h2 h3 h4 h5 h6

end Cert.Hand

end
-- ==== Proof.lean ====
/- The proof of the claim: the frames of the three programs, the named constants and the equality with the reference,
   behind the witnesses of the facts the programs state. -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, Cert.Hand.pre_facts,
    Cert.Hand.frame_p, Cert.Hand.frame_pi, Cert.Hand.frame_pi_pre, Cert.Hand.frame_ri, Cert.Hand.frame_ri_pre,
    Cert.Hand.preserves, Cert.Hand.algebraic⟩

end Cert.Proof

end
